-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_tables : Cert.Pre_tables.Facts] (m : (ℓ : Loc Cert.Kernel3.nD Cert.Kernel3.τ Cert.Kernel3.sig) → Buf (Elt Bits) ℓ) : Prop :=
  ∀ c : Dev Cert.Kernel3.nD,
    (Cert.Pre_tables.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7)) (m ((c.tc : Thread Cert.Kernel3.nD Cert.Kernel3.τ).loc Cert.Kernel3.main_arg8))) = (fun _ => 1#1)

def Pre_Kernel3Ideal [hPre_tables : Cert.Pre_tables.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal [hPre_tables : Cert.Pre_tables.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] [hPre_tables : Cert.Pre_tables.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] [hPre_tables : Cert.Pre_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] [hPre_tables : Cert.Pre_tables.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)
  ∧ IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] [hPre_tables : Cert.Pre_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)) (v2 : (c : Dev Cert.Kernel4Ideal.nD) → Buf (Elt Ideal) ((c.tc : Thread Cert.Kernel4Ideal.nD Cert.Kernel4Ideal.τ).loc Cert.Kernel4Ideal.main_v20_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_v20_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v52) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_v56) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tables : Cert.Pre_tables.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_tables := hPre_tables)
    ∧ quiescent_Kernel3Ideal (hKernel3Ideal := hKernel3Ideal) (hPre_tables := hPre_tables)
    ∧ quiescent_Reference3Ideal (hReference3Ideal := hReference3Ideal) (hPre_tables := hPre_tables)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_tables := hPre_tables)
    ∧ preserves_Kernel4_Kernel4Ideal
    ∧ algebraic_Kernel4Ideal_Reference4Ideal (hKernel4Ideal := hKernel4Ideal) (hReference4Ideal := hReference4Ideal)
-- ==== Pre_tables.lean ====
abbrev S16384x2048 : Shape := ⟨2, ![16384, 2048]⟩
abbrev S32x2048x1024 : Shape := ⟨3, ![32, 2048, 1024]⟩
abbrev S32x1024x2048 : Shape := ⟨3, ![32, 1024, 2048]⟩
abbrev S57 : Shape := ⟨1, ![57]⟩
abbrev S56 : Shape := ⟨1, ![56]⟩
abbrev S_ : Shape := ⟨0, ![]⟩
abbrev S1 : Shape := ⟨1, ![1]⟩

class Facts : Prop where
  slices_S57_S56_1 : S57.Slices ![1] S56
  bcast_S_S1 : S_.BroadcastsInDim S1 (![] : Fin 0 → Fin S1.rank)
  concatenates_S56_S1_S57_d0 : Shape.Concatenates [S56, S1] S57 0
  bcast_S_S57 : S_.BroadcastsInDim S57 (![] : Fin 0 → Fin S57.rank)

variable [Facts]

def fn_part1 {F : FTy → Type} [FloatOps F] (main_arg8 : IVec S57 32) (main_v2 : IVec S57 32) (main_v13 : IVec S57 1) (main_v15 : IVec S57 32) (main_v16 : IVec S57 32) : IVec S57 1 :=
  let main_v17 : IVec S57 1 := cmpi .eq main_v15 main_v16
  let main_v18 : IVec S57 1 := andi main_v13 main_v17
  let main_v19 : IVec S57 1 := cmpi .sge main_arg8 main_v2
  let main_v20 : IVec S57 1 := andi main_v18 main_v19
  let main_c_6 : IVec S_ 32 := constantI S_ 32 0#32
  let main_v21 : IVec S57 32 := broadcastInDim S57 ![] bcast_S_S57 main_c_6
  let main_v22 : IVec S57 1 := cmpi .sge main_arg8 main_v21
  let main_v23 : IVec S57 1 := andi main_v20 main_v22
  let main_c_7 : IVec S_ 32 := constantI S_ 32 1#32
  let main_v24 : IVec S57 32 := broadcastInDim S57 ![] bcast_S_S57 main_c_7
  let main_v25 : IVec S57 1 := cmpi .sle main_arg8 main_v24
  let main_v26 : IVec S57 1 := andi main_v23 main_v25
  main_v26

def fn {F : FTy → Type} [FloatOps F] (main_arg0 : FVec F S16384x2048 .f32) (main_arg1 : FVec F S32x2048x1024 .f32) (main_arg2 : FVec F S32x2048x1024 .f32) (main_arg3 : FVec F S32x1024x2048 .f32) (main_arg4 : IVec S57 32) (main_arg5 : IVec S57 32) (main_arg6 : IVec S57 32) (main_arg7 : IVec S57 32) (main_arg8 : IVec S57 32) : IVec S57 1 :=
  let main_v0 : IVec S56 32 := (extractStridedSlice S56 ![1] · slices_S57_S56_1) main_arg8
  let main_c : IVec S_ 32 := constantI S_ 32 0#32
  let main_v1 : IVec S1 32 := broadcastInDim S1 ![] bcast_S_S1 main_c
  let main_v2 : IVec S57 32 := (fun a b => concatenate S57 0 [⟨S56, a⟩, ⟨S1, b⟩] concatenates_S56_S1_S57_d0) main_v0 main_v1
  let main_c_0 : IVec S_ 32 := constantI S_ 32 0#32
  let main_v3 : IVec S57 32 := broadcastInDim S57 ![] bcast_S_S57 main_c_0
  let main_v4 : IVec S57 1 := cmpi .sge main_arg4 main_v3
  let main_c_1 : IVec S_ 32 := constantI S_ 32 32#32
  let main_v5 : IVec S57 32 := broadcastInDim S57 ![] bcast_S_S57 main_c_1
  let main_v6 : IVec S57 1 := cmpi .slt main_arg4 main_v5
  let main_v7 : IVec S57 1 := andi main_v4 main_v6
  let main_c_2 : IVec S_ 32 := constantI S_ 32 0#32
  let main_v8 : IVec S57 32 := broadcastInDim S57 ![] bcast_S_S57 main_c_2
  let main_v9 : IVec S57 1 := cmpi .sge main_arg5 main_v8
  let main_v10 : IVec S57 1 := andi main_v7 main_v9
  let main_c_3 : IVec S_ 32 := constantI S_ 32 15744#32
  let main_v11 : IVec S57 32 := broadcastInDim S57 ![] bcast_S_S57 main_c_3
  let main_v12 : IVec S57 1 := cmpi .sle main_arg5 main_v11
  let main_v13 : IVec S57 1 := andi main_v10 main_v12
  let main_c_4 : IVec S_ 32 := constantI S_ 32 7#32
  let main_v14 : IVec S57 32 := broadcastInDim S57 ![] bcast_S_S57 main_c_4
  let main_v15 : IVec S57 32 := andi main_arg5 main_v14
  let main_c_5 : IVec S_ 32 := constantI S_ 32 0#32
  let main_v16 : IVec S57 32 := broadcastInDim S57 ![] bcast_S_S57 main_c_5
  fn_part1 (F := F) main_arg8 main_v2 main_v13 main_v15 main_v16
-- ==== Kernel.lean ====
abbrev S16x512x3072 : Shape := ⟨3, ![16, 512, 3072]⟩
abbrev S16x512x1024 : Shape := ⟨3, ![16, 512, 1024]⟩
abbrev S16x512x128 : Shape := ⟨3, ![16, 512, 128]⟩
abbrev S4x512x128 : Shape := ⟨3, ![4, 512, 128]⟩
abbrev S128x128 : Shape := ⟨2, ![128, 128]⟩
abbrev S128x256 : Shape := ⟨2, ![128, 256]⟩
abbrev S1x512x128 : Shape := ⟨3, ![1, 512, 128]⟩
abbrev S512x128 : Shape := ⟨2, ![512, 128]⟩
abbrev S256x128 : Shape := ⟨2, ![256, 128]⟩
abbrev S128 : Shape := ⟨1, ![128]⟩
abbrev S128x1 : Shape := ⟨2, ![128, 1]⟩
abbrev S1x128x128 : Shape := ⟨3, ![1, 128, 128]⟩

abbrev nBuf : Space → Nat
  | .hbm => 3
  | .vmem => 10
  | .smem => 0
  | _ => 0

abbrev bufTy : (tb : Table) → Fin (tcTables nBuf tb) → BufTy
  | .hbm, ⟨0, _⟩ => ⟨S16x512x3072, .bf16⟩
  | .hbm, ⟨1, _⟩ => ⟨S16x512x1024, .bf16⟩
  | .hbm, ⟨2, _⟩ => ⟨S16x512x128, .f32⟩
  | .local _ .vmem, ⟨0, _⟩ => ⟨S4x512x128, .bf16⟩
  | .local _ .vmem, ⟨1, _⟩ => ⟨S4x512x128, .bf16⟩
  | .local _ .vmem, ⟨2, _⟩ => ⟨S4x512x128, .bf16⟩
  | .local _ .vmem, ⟨3, _⟩ => ⟨S4x512x128, .bf16⟩
  | .local _ .vmem, ⟨4, _⟩ => ⟨S4x512x128, .bf16⟩
  | .local _ .vmem, ⟨5, _⟩ => ⟨S4x512x128, .bf16⟩
  | .local _ .vmem, ⟨6, _⟩ => ⟨S4x512x128, .bf16⟩
  | .local _ .vmem, ⟨7, _⟩ => ⟨S4x512x128, .bf16⟩
  | .local _ .vmem, ⟨8, _⟩ => ⟨S4x512x128, .f32⟩
  | .local _ .vmem, ⟨9, _⟩ => ⟨S4x512x128, .f32⟩
  | _, _ => ⟨S16x512x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_mult1 : BitVec 32 :=
  let c0_i32_4 : BitVec 32 := 0#32
  let c4_i32 : BitVec 32 := 4#32
  let v25 : BitVec 32 := Scalar.muli c0_i32_4 c4_i32
  let c0_i32_5 : BitVec 32 := 0#32
  let v26 : BitVec 32 := Scalar.addi v25 c0_i32_5
  let c128_i32 : BitVec 32 := 128#32
  let v27 : BitVec 32 := Scalar.muli v26 c128_i32
  v27
def k0_mult2 : BitVec 32 :=
  let c0_i32_6 : BitVec 32 := 0#32
  let c4_i32_7 : BitVec 32 := 4#32
  let v29 : BitVec 32 := Scalar.muli c0_i32_6 c4_i32_7
  let c1_i32 : BitVec 32 := 1#32
  let v30 : BitVec 32 := Scalar.addi v29 c1_i32
  let c128_i32_8 : BitVec 32 := 128#32
  let v31 : BitVec 32 := Scalar.muli v30 c128_i32_8
  v31
def k0_mult3 : BitVec 32 :=
  let c0_i32_9 : BitVec 32 := 0#32
  let c4_i32_10 : BitVec 32 := 4#32
  let v33 : BitVec 32 := Scalar.muli c0_i32_9 c4_i32_10
  let c2_i32_11 : BitVec 32 := 2#32
  let v34 : BitVec 32 := Scalar.addi v33 c2_i32_11
  let c128_i32_12 : BitVec 32 := 128#32
  let v35 : BitVec 32 := Scalar.muli v34 c128_i32_12
  v35
def k0_mult4 : BitVec 32 :=
  let c0_i32_13 : BitVec 32 := 0#32
  let c4_i32_14 : BitVec 32 := 4#32
  let v37 : BitVec 32 := Scalar.muli c0_i32_13 c4_i32_14
  let c3_i32 : BitVec 32 := 3#32
  let v38 : BitVec 32 := Scalar.addi v37 c3_i32
  let c128_i32_15 : BitVec 32 := 128#32
  let v39 : BitVec 32 := Scalar.muli v38 c128_i32_15
  v39
def k0_mult5 : BitVec 32 :=
  let c256_i32 : BitVec 32 := 256#32
  let c0_i32_17 : BitVec 32 := 0#32
  let c0_i32_4 : BitVec 32 := 0#32
  let c4_i32 : BitVec 32 := 4#32
  let v25 : BitVec 32 := Scalar.muli c0_i32_4 c4_i32
  let c0_i32_5 : BitVec 32 := 0#32
  let v26 : BitVec 32 := Scalar.addi v25 c0_i32_5
  let c128_i32 : BitVec 32 := 128#32
  let v27 : BitVec 32 := Scalar.muli v26 c128_i32
  let v28 : BitVec 32 := v27
  let c64_i32_16 : BitVec 32 := 64#32
  let v41 : BitVec 32 := Scalar.subi v28 c64_i32_16
  let v42 : BitVec 32 := Scalar.maxsi c0_i32_17 v41
  let v43 : BitVec 32 := Scalar.minsi c256_i32 v42
  v43
def k0_mult6 : BitVec 32 :=
  let c256_i32_20 : BitVec 32 := 256#32
  let c0_i32_19 : BitVec 32 := 0#32
  let c0_i32_6 : BitVec 32 := 0#32
  let c4_i32_7 : BitVec 32 := 4#32
  let v29 : BitVec 32 := Scalar.muli c0_i32_6 c4_i32_7
  let c1_i32 : BitVec 32 := 1#32
  let v30 : BitVec 32 := Scalar.addi v29 c1_i32
  let c128_i32_8 : BitVec 32 := 128#32
  let v31 : BitVec 32 := Scalar.muli v30 c128_i32_8
  let v32 : BitVec 32 := v31
  let c64_i32_18 : BitVec 32 := 64#32
  let v45 : BitVec 32 := Scalar.subi v32 c64_i32_18
  let v46 : BitVec 32 := Scalar.maxsi c0_i32_19 v45
  let v47 : BitVec 32 := Scalar.minsi c256_i32_20 v46
  v47
def k0_mult7 : BitVec 32 :=
  let c256_i32_23 : BitVec 32 := 256#32
  let c0_i32_22 : BitVec 32 := 0#32
  let c0_i32_9 : BitVec 32 := 0#32
  let c4_i32_10 : BitVec 32 := 4#32
  let v33 : BitVec 32 := Scalar.muli c0_i32_9 c4_i32_10
  let c2_i32_11 : BitVec 32 := 2#32
  let v34 : BitVec 32 := Scalar.addi v33 c2_i32_11
  let c128_i32_12 : BitVec 32 := 128#32
  let v35 : BitVec 32 := Scalar.muli v34 c128_i32_12
  let v36 : BitVec 32 := v35
  let c64_i32_21 : BitVec 32 := 64#32
  let v49 : BitVec 32 := Scalar.subi v36 c64_i32_21
  let v50 : BitVec 32 := Scalar.maxsi c0_i32_22 v49
  let v51 : BitVec 32 := Scalar.minsi c256_i32_23 v50
  v51
def k0_mult8 : BitVec 32 :=
  let c256_i32_26 : BitVec 32 := 256#32
  let c0_i32_25 : BitVec 32 := 0#32
  let c0_i32_13 : BitVec 32 := 0#32
  let c4_i32_14 : BitVec 32 := 4#32
  let v37 : BitVec 32 := Scalar.muli c0_i32_13 c4_i32_14
  let c3_i32 : BitVec 32 := 3#32
  let v38 : BitVec 32 := Scalar.addi v37 c3_i32
  let c128_i32_15 : BitVec 32 := 128#32
  let v39 : BitVec 32 := Scalar.muli v38 c128_i32_15
  let v40 : BitVec 32 := v39
  let c64_i32_24 : BitVec 32 := 64#32
  let v53 : BitVec 32 := Scalar.subi v40 c64_i32_24
  let v54 : BitVec 32 := Scalar.maxsi c0_i32_25 v53
  let v55 : BitVec 32 := Scalar.minsi c256_i32_26 v54
  v55
def k0_off1 (c0_i32_5 : BitVec 32) : Fin 2 → Nat :=
  let c0_i32_4 : BitVec 32 := 0#32
  let c4_i32 : BitVec 32 := 4#32
  let v25 : BitVec 32 := Scalar.muli c0_i32_4 c4_i32
  let v26 : BitVec 32 := Scalar.addi v25 c0_i32_5
  let c128_i32 : BitVec 32 := 128#32
  let v27 : BitVec 32 := Scalar.muli v26 c128_i32
  let v28 : BitVec 32 := v27
  let v59 : Index := Scalar.indexCast v28
  let c0 : Index := 0#32
  ![v59.toNat, 0]
def k0_off2 (c0_i32_5 : BitVec 32) : Fin 2 → Nat :=
  let c256_i32 : BitVec 32 := 256#32
  let c0_i32_17 : BitVec 32 := 0#32
  let c0_i32_4 : BitVec 32 := 0#32
  let c4_i32 : BitVec 32 := 4#32
  let v25 : BitVec 32 := Scalar.muli c0_i32_4 c4_i32
  let v26 : BitVec 32 := Scalar.addi v25 c0_i32_5
  let c128_i32 : BitVec 32 := 128#32
  let v27 : BitVec 32 := Scalar.muli v26 c128_i32
  let v28 : BitVec 32 := v27
  let c64_i32_16 : BitVec 32 := 64#32
  let v41 : BitVec 32 := Scalar.subi v28 c64_i32_16
  let v42 : BitVec 32 := Scalar.maxsi c0_i32_17 v41
  let v43 : BitVec 32 := Scalar.minsi c256_i32 v42
  let v44 : BitVec 32 := v43
  let v91 : Index := Scalar.indexCast v44
  let c0_48 : Index := 0#32
  ![v91.toNat, 0]
def k0_off3 (c0_i32_5 : BitVec 32) : Fin 3 → Nat :=
  let c0_i32_137 : BitVec 32 := 0#32
  let c0_i32_4 : BitVec 32 := 0#32
  let c4_i32 : BitVec 32 := 4#32
  let v25 : BitVec 32 := Scalar.muli c0_i32_4 c4_i32
  let v26 : BitVec 32 := Scalar.addi v25 c0_i32_5
  let c128_i32 : BitVec 32 := 128#32
  let v27 : BitVec 32 := Scalar.muli v26 c128_i32
  let v28 : BitVec 32 := v27
  let v309 : Index := Scalar.indexCast v28
  let c0_i32_139 : BitVec 32 := 0#32
  ![0, v309.toNat, 0]
def k0_mult9 : BitVec 32 :=
  let c0_i32_185 : BitVec 32 := 0#32
  let c4_i32_186 : BitVec 32 := 4#32
  let v389 : BitVec 32 := Scalar.muli c0_i32_185 c4_i32_186
  let c0_i32_187 : BitVec 32 := 0#32
  let v390 : BitVec 32 := Scalar.addi v389 c0_i32_187
  let c128_i32_188 : BitVec 32 := 128#32
  let v391 : BitVec 32 := Scalar.muli v390 c128_i32_188
  v391
def k0_mult10 : BitVec 32 :=
  let c0_i32_189 : BitVec 32 := 0#32
  let c4_i32_190 : BitVec 32 := 4#32
  let v393 : BitVec 32 := Scalar.muli c0_i32_189 c4_i32_190
  let c1_i32_191 : BitVec 32 := 1#32
  let v394 : BitVec 32 := Scalar.addi v393 c1_i32_191
  let c128_i32_192 : BitVec 32 := 128#32
  let v395 : BitVec 32 := Scalar.muli v394 c128_i32_192
  v395
def k0_mult11 : BitVec 32 :=
  let c0_i32_193 : BitVec 32 := 0#32
  let c4_i32_194 : BitVec 32 := 4#32
  let v397 : BitVec 32 := Scalar.muli c0_i32_193 c4_i32_194
  let c2_i32_195 : BitVec 32 := 2#32
  let v398 : BitVec 32 := Scalar.addi v397 c2_i32_195
  let c128_i32_196 : BitVec 32 := 128#32
  let v399 : BitVec 32 := Scalar.muli v398 c128_i32_196
  v399
def k0_mult12 : BitVec 32 :=
  let c0_i32_197 : BitVec 32 := 0#32
  let c4_i32_198 : BitVec 32 := 4#32
  let v401 : BitVec 32 := Scalar.muli c0_i32_197 c4_i32_198
  let c3_i32_199 : BitVec 32 := 3#32
  let v402 : BitVec 32 := Scalar.addi v401 c3_i32_199
  let c128_i32_200 : BitVec 32 := 128#32
  let v403 : BitVec 32 := Scalar.muli v402 c128_i32_200
  v403
def k0_mult13 : BitVec 32 :=
  let c256_i32_203 : BitVec 32 := 256#32
  let c0_i32_202 : BitVec 32 := 0#32
  let c0_i32_185 : BitVec 32 := 0#32
  let c4_i32_186 : BitVec 32 := 4#32
  let v389 : BitVec 32 := Scalar.muli c0_i32_185 c4_i32_186
  let c0_i32_187 : BitVec 32 := 0#32
  let v390 : BitVec 32 := Scalar.addi v389 c0_i32_187
  let c128_i32_188 : BitVec 32 := 128#32
  let v391 : BitVec 32 := Scalar.muli v390 c128_i32_188
  let v392 : BitVec 32 := v391
  let c64_i32_201 : BitVec 32 := 64#32
  let v405 : BitVec 32 := Scalar.subi v392 c64_i32_201
  let v406 : BitVec 32 := Scalar.maxsi c0_i32_202 v405
  let v407 : BitVec 32 := Scalar.minsi c256_i32_203 v406
  v407
def k0_mult14 : BitVec 32 :=
  let c256_i32_206 : BitVec 32 := 256#32
  let c0_i32_205 : BitVec 32 := 0#32
  let c0_i32_189 : BitVec 32 := 0#32
  let c4_i32_190 : BitVec 32 := 4#32
  let v393 : BitVec 32 := Scalar.muli c0_i32_189 c4_i32_190
  let c1_i32_191 : BitVec 32 := 1#32
  let v394 : BitVec 32 := Scalar.addi v393 c1_i32_191
  let c128_i32_192 : BitVec 32 := 128#32
  let v395 : BitVec 32 := Scalar.muli v394 c128_i32_192
  let v396 : BitVec 32 := v395
  let c64_i32_204 : BitVec 32 := 64#32
  let v409 : BitVec 32 := Scalar.subi v396 c64_i32_204
  let v410 : BitVec 32 := Scalar.maxsi c0_i32_205 v409
  let v411 : BitVec 32 := Scalar.minsi c256_i32_206 v410
  v411
def k0_mult15 : BitVec 32 :=
  let c256_i32_209 : BitVec 32 := 256#32
  let c0_i32_208 : BitVec 32 := 0#32
  let c0_i32_193 : BitVec 32 := 0#32
  let c4_i32_194 : BitVec 32 := 4#32
  let v397 : BitVec 32 := Scalar.muli c0_i32_193 c4_i32_194
  let c2_i32_195 : BitVec 32 := 2#32
  let v398 : BitVec 32 := Scalar.addi v397 c2_i32_195
  let c128_i32_196 : BitVec 32 := 128#32
  let v399 : BitVec 32 := Scalar.muli v398 c128_i32_196
  let v400 : BitVec 32 := v399
  let c64_i32_207 : BitVec 32 := 64#32
  let v413 : BitVec 32 := Scalar.subi v400 c64_i32_207
  let v414 : BitVec 32 := Scalar.maxsi c0_i32_208 v413
  let v415 : BitVec 32 := Scalar.minsi c256_i32_209 v414
  v415
def k0_mult16 : BitVec 32 :=
  let c256_i32_212 : BitVec 32 := 256#32
  let c0_i32_211 : BitVec 32 := 0#32
  let c0_i32_197 : BitVec 32 := 0#32
  let c4_i32_198 : BitVec 32 := 4#32
  let v401 : BitVec 32 := Scalar.muli c0_i32_197 c4_i32_198
  let c3_i32_199 : BitVec 32 := 3#32
  let v402 : BitVec 32 := Scalar.addi v401 c3_i32_199
  let c128_i32_200 : BitVec 32 := 128#32
  let v403 : BitVec 32 := Scalar.muli v402 c128_i32_200
  let v404 : BitVec 32 := v403
  let c64_i32_210 : BitVec 32 := 64#32
  let v417 : BitVec 32 := Scalar.subi v404 c64_i32_210
  let v418 : BitVec 32 := Scalar.maxsi c0_i32_211 v417
  let v419 : BitVec 32 := Scalar.minsi c256_i32_212 v418
  v419
def k0_off4 (c0_i32_187 : BitVec 32) : Fin 3 → Nat :=
  let c1_i32_325 : BitVec 32 := 1#32
  let c0_i32_185 : BitVec 32 := 0#32
  let c4_i32_186 : BitVec 32 := 4#32
  let v389 : BitVec 32 := Scalar.muli c0_i32_185 c4_i32_186
  let v390 : BitVec 32 := Scalar.addi v389 c0_i32_187
  let c128_i32_188 : BitVec 32 := 128#32
  let v391 : BitVec 32 := Scalar.muli v390 c128_i32_188
  let v392 : BitVec 32 := v391
  let v673 : Index := Scalar.indexCast v392
  let c0_i32_327 : BitVec 32 := 0#32
  ![1, v673.toNat, 0]
def k0_mult17 : BitVec 32 :=
  let c0_i32_373 : BitVec 32 := 0#32
  let c4_i32_374 : BitVec 32 := 4#32
  let v753 : BitVec 32 := Scalar.muli c0_i32_373 c4_i32_374
  let c0_i32_375 : BitVec 32 := 0#32
  let v754 : BitVec 32 := Scalar.addi v753 c0_i32_375
  let c128_i32_376 : BitVec 32 := 128#32
  let v755 : BitVec 32 := Scalar.muli v754 c128_i32_376
  v755
def k0_mult18 : BitVec 32 :=
  let c0_i32_377 : BitVec 32 := 0#32
  let c4_i32_378 : BitVec 32 := 4#32
  let v757 : BitVec 32 := Scalar.muli c0_i32_377 c4_i32_378
  let c1_i32_379 : BitVec 32 := 1#32
  let v758 : BitVec 32 := Scalar.addi v757 c1_i32_379
  let c128_i32_380 : BitVec 32 := 128#32
  let v759 : BitVec 32 := Scalar.muli v758 c128_i32_380
  v759
def k0_mult19 : BitVec 32 :=
  let c0_i32_381 : BitVec 32 := 0#32
  let c4_i32_382 : BitVec 32 := 4#32
  let v761 : BitVec 32 := Scalar.muli c0_i32_381 c4_i32_382
  let c2_i32_383 : BitVec 32 := 2#32
  let v762 : BitVec 32 := Scalar.addi v761 c2_i32_383
  let c128_i32_384 : BitVec 32 := 128#32
  let v763 : BitVec 32 := Scalar.muli v762 c128_i32_384
  v763
def k0_mult20 : BitVec 32 :=
  let c0_i32_385 : BitVec 32 := 0#32
  let c4_i32_386 : BitVec 32 := 4#32
  let v765 : BitVec 32 := Scalar.muli c0_i32_385 c4_i32_386
  let c3_i32_387 : BitVec 32 := 3#32
  let v766 : BitVec 32 := Scalar.addi v765 c3_i32_387
  let c128_i32_388 : BitVec 32 := 128#32
  let v767 : BitVec 32 := Scalar.muli v766 c128_i32_388
  v767
def k0_mult21 : BitVec 32 :=
  let c256_i32_391 : BitVec 32 := 256#32
  let c0_i32_390 : BitVec 32 := 0#32
  let c0_i32_373 : BitVec 32 := 0#32
  let c4_i32_374 : BitVec 32 := 4#32
  let v753 : BitVec 32 := Scalar.muli c0_i32_373 c4_i32_374
  let c0_i32_375 : BitVec 32 := 0#32
  let v754 : BitVec 32 := Scalar.addi v753 c0_i32_375
  let c128_i32_376 : BitVec 32 := 128#32
  let v755 : BitVec 32 := Scalar.muli v754 c128_i32_376
  let v756 : BitVec 32 := v755
  let c64_i32_389 : BitVec 32 := 64#32
  let v769 : BitVec 32 := Scalar.subi v756 c64_i32_389
  let v770 : BitVec 32 := Scalar.maxsi c0_i32_390 v769
  let v771 : BitVec 32 := Scalar.minsi c256_i32_391 v770
  v771
def k0_mult22 : BitVec 32 :=
  let c256_i32_394 : BitVec 32 := 256#32
  let c0_i32_393 : BitVec 32 := 0#32
  let c0_i32_377 : BitVec 32 := 0#32
  let c4_i32_378 : BitVec 32 := 4#32
  let v757 : BitVec 32 := Scalar.muli c0_i32_377 c4_i32_378
  let c1_i32_379 : BitVec 32 := 1#32
  let v758 : BitVec 32 := Scalar.addi v757 c1_i32_379
  let c128_i32_380 : BitVec 32 := 128#32
  let v759 : BitVec 32 := Scalar.muli v758 c128_i32_380
  let v760 : BitVec 32 := v759
  let c64_i32_392 : BitVec 32 := 64#32
  let v773 : BitVec 32 := Scalar.subi v760 c64_i32_392
  let v774 : BitVec 32 := Scalar.maxsi c0_i32_393 v773
  let v775 : BitVec 32 := Scalar.minsi c256_i32_394 v774
  v775
def k0_mult23 : BitVec 32 :=
  let c256_i32_397 : BitVec 32 := 256#32
  let c0_i32_396 : BitVec 32 := 0#32
  let c0_i32_381 : BitVec 32 := 0#32
  let c4_i32_382 : BitVec 32 := 4#32
  let v761 : BitVec 32 := Scalar.muli c0_i32_381 c4_i32_382
  let c2_i32_383 : BitVec 32 := 2#32
  let v762 : BitVec 32 := Scalar.addi v761 c2_i32_383
  let c128_i32_384 : BitVec 32 := 128#32
  let v763 : BitVec 32 := Scalar.muli v762 c128_i32_384
  let v764 : BitVec 32 := v763
  let c64_i32_395 : BitVec 32 := 64#32
  let v777 : BitVec 32 := Scalar.subi v764 c64_i32_395
  let v778 : BitVec 32 := Scalar.maxsi c0_i32_396 v777
  let v779 : BitVec 32 := Scalar.minsi c256_i32_397 v778
  v779
def k0_mult24 : BitVec 32 :=
  let c256_i32_400 : BitVec 32 := 256#32
  let c0_i32_399 : BitVec 32 := 0#32
  let c0_i32_385 : BitVec 32 := 0#32
  let c4_i32_386 : BitVec 32 := 4#32
  let v765 : BitVec 32 := Scalar.muli c0_i32_385 c4_i32_386
  let c3_i32_387 : BitVec 32 := 3#32
  let v766 : BitVec 32 := Scalar.addi v765 c3_i32_387
  let c128_i32_388 : BitVec 32 := 128#32
  let v767 : BitVec 32 := Scalar.muli v766 c128_i32_388
  let v768 : BitVec 32 := v767
  let c64_i32_398 : BitVec 32 := 64#32
  let v781 : BitVec 32 := Scalar.subi v768 c64_i32_398
  let v782 : BitVec 32 := Scalar.maxsi c0_i32_399 v781
  let v783 : BitVec 32 := Scalar.minsi c256_i32_400 v782
  v783
def k0_off5 (c0_i32_375 : BitVec 32) : Fin 3 → Nat :=
  let c2_i32_513 : BitVec 32 := 2#32
  let c0_i32_373 : BitVec 32 := 0#32
  let c4_i32_374 : BitVec 32 := 4#32
  let v753 : BitVec 32 := Scalar.muli c0_i32_373 c4_i32_374
  let v754 : BitVec 32 := Scalar.addi v753 c0_i32_375
  let c128_i32_376 : BitVec 32 := 128#32
  let v755 : BitVec 32 := Scalar.muli v754 c128_i32_376
  let v756 : BitVec 32 := v755
  let v1037 : Index := Scalar.indexCast v756
  let c0_i32_515 : BitVec 32 := 0#32
  ![2, v1037.toNat, 0]
def k0_mult25 : BitVec 32 :=
  let c0_i32_561 : BitVec 32 := 0#32
  let c4_i32_562 : BitVec 32 := 4#32
  let v1117 : BitVec 32 := Scalar.muli c0_i32_561 c4_i32_562
  let c0_i32_563 : BitVec 32 := 0#32
  let v1118 : BitVec 32 := Scalar.addi v1117 c0_i32_563
  let c128_i32_564 : BitVec 32 := 128#32
  let v1119 : BitVec 32 := Scalar.muli v1118 c128_i32_564
  v1119
def k0_mult26 : BitVec 32 :=
  let c0_i32_565 : BitVec 32 := 0#32
  let c4_i32_566 : BitVec 32 := 4#32
  let v1121 : BitVec 32 := Scalar.muli c0_i32_565 c4_i32_566
  let c1_i32_567 : BitVec 32 := 1#32
  let v1122 : BitVec 32 := Scalar.addi v1121 c1_i32_567
  let c128_i32_568 : BitVec 32 := 128#32
  let v1123 : BitVec 32 := Scalar.muli v1122 c128_i32_568
  v1123
def k0_mult27 : BitVec 32 :=
  let c0_i32_569 : BitVec 32 := 0#32
  let c4_i32_570 : BitVec 32 := 4#32
  let v1125 : BitVec 32 := Scalar.muli c0_i32_569 c4_i32_570
  let c2_i32_571 : BitVec 32 := 2#32
  let v1126 : BitVec 32 := Scalar.addi v1125 c2_i32_571
  let c128_i32_572 : BitVec 32 := 128#32
  let v1127 : BitVec 32 := Scalar.muli v1126 c128_i32_572
  v1127
def k0_mult28 : BitVec 32 :=
  let c0_i32_573 : BitVec 32 := 0#32
  let c4_i32_574 : BitVec 32 := 4#32
  let v1129 : BitVec 32 := Scalar.muli c0_i32_573 c4_i32_574
  let c3_i32_575 : BitVec 32 := 3#32
  let v1130 : BitVec 32 := Scalar.addi v1129 c3_i32_575
  let c128_i32_576 : BitVec 32 := 128#32
  let v1131 : BitVec 32 := Scalar.muli v1130 c128_i32_576
  v1131
def k0_mult29 : BitVec 32 :=
  let c256_i32_579 : BitVec 32 := 256#32
  let c0_i32_578 : BitVec 32 := 0#32
  let c0_i32_561 : BitVec 32 := 0#32
  let c4_i32_562 : BitVec 32 := 4#32
  let v1117 : BitVec 32 := Scalar.muli c0_i32_561 c4_i32_562
  let c0_i32_563 : BitVec 32 := 0#32
  let v1118 : BitVec 32 := Scalar.addi v1117 c0_i32_563
  let c128_i32_564 : BitVec 32 := 128#32
  let v1119 : BitVec 32 := Scalar.muli v1118 c128_i32_564
  let v1120 : BitVec 32 := v1119
  let c64_i32_577 : BitVec 32 := 64#32
  let v1133 : BitVec 32 := Scalar.subi v1120 c64_i32_577
  let v1134 : BitVec 32 := Scalar.maxsi c0_i32_578 v1133
  let v1135 : BitVec 32 := Scalar.minsi c256_i32_579 v1134
  v1135
def k0_mult30 : BitVec 32 :=
  let c256_i32_582 : BitVec 32 := 256#32
  let c0_i32_581 : BitVec 32 := 0#32
  let c0_i32_565 : BitVec 32 := 0#32
  let c4_i32_566 : BitVec 32 := 4#32
  let v1121 : BitVec 32 := Scalar.muli c0_i32_565 c4_i32_566
  let c1_i32_567 : BitVec 32 := 1#32
  let v1122 : BitVec 32 := Scalar.addi v1121 c1_i32_567
  let c128_i32_568 : BitVec 32 := 128#32
  let v1123 : BitVec 32 := Scalar.muli v1122 c128_i32_568
  let v1124 : BitVec 32 := v1123
  let c64_i32_580 : BitVec 32 := 64#32
  let v1137 : BitVec 32 := Scalar.subi v1124 c64_i32_580
  let v1138 : BitVec 32 := Scalar.maxsi c0_i32_581 v1137
  let v1139 : BitVec 32 := Scalar.minsi c256_i32_582 v1138
  v1139
def k0_mult31 : BitVec 32 :=
  let c256_i32_585 : BitVec 32 := 256#32
  let c0_i32_584 : BitVec 32 := 0#32
  let c0_i32_569 : BitVec 32 := 0#32
  let c4_i32_570 : BitVec 32 := 4#32
  let v1125 : BitVec 32 := Scalar.muli c0_i32_569 c4_i32_570
  let c2_i32_571 : BitVec 32 := 2#32
  let v1126 : BitVec 32 := Scalar.addi v1125 c2_i32_571
  let c128_i32_572 : BitVec 32 := 128#32
  let v1127 : BitVec 32 := Scalar.muli v1126 c128_i32_572
  let v1128 : BitVec 32 := v1127
  let c64_i32_583 : BitVec 32 := 64#32
  let v1141 : BitVec 32 := Scalar.subi v1128 c64_i32_583
  let v1142 : BitVec 32 := Scalar.maxsi c0_i32_584 v1141
  let v1143 : BitVec 32 := Scalar.minsi c256_i32_585 v1142
  v1143
def k0_mult32 : BitVec 32 :=
  let c256_i32_588 : BitVec 32 := 256#32
  let c0_i32_587 : BitVec 32 := 0#32
  let c0_i32_573 : BitVec 32 := 0#32
  let c4_i32_574 : BitVec 32 := 4#32
  let v1129 : BitVec 32 := Scalar.muli c0_i32_573 c4_i32_574
  let c3_i32_575 : BitVec 32 := 3#32
  let v1130 : BitVec 32 := Scalar.addi v1129 c3_i32_575
  let c128_i32_576 : BitVec 32 := 128#32
  let v1131 : BitVec 32 := Scalar.muli v1130 c128_i32_576
  let v1132 : BitVec 32 := v1131
  let c64_i32_586 : BitVec 32 := 64#32
  let v1145 : BitVec 32 := Scalar.subi v1132 c64_i32_586
  let v1146 : BitVec 32 := Scalar.maxsi c0_i32_587 v1145
  let v1147 : BitVec 32 := Scalar.minsi c256_i32_588 v1146
  v1147
def k0_off6 (c0_i32_563 : BitVec 32) : Fin 3 → Nat :=
  let c3_i32_701 : BitVec 32 := 3#32
  let c0_i32_561 : BitVec 32 := 0#32
  let c4_i32_562 : BitVec 32 := 4#32
  let v1117 : BitVec 32 := Scalar.muli c0_i32_561 c4_i32_562
  let v1118 : BitVec 32 := Scalar.addi v1117 c0_i32_563
  let c128_i32_564 : BitVec 32 := 128#32
  let v1119 : BitVec 32 := Scalar.muli v1118 c128_i32_564
  let v1120 : BitVec 32 := v1119
  let v1401 : Index := Scalar.indexCast v1120
  let c0_i32_703 : BitVec 32 := 0#32
  ![3, v1401.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
variable {F : FTy → Type} [FloatOps F] [Named F]
def κ : String → Option EReal := fun
  | "ln2" => some ((Real.log 2 : ℝ) : EReal)
  | "mask" => some ⊥
  | "q_scale" => some (((1 / 8) * (Real.log 2)⁻¹ : ℝ) : EReal)
  | _ => none
-- ==== ReferenceIdeal.lean ====
abbrev S16x512x3072 : Shape := ⟨3, ![16, 512, 3072]⟩
abbrev S16x512x48x64 : Shape := ⟨4, ![16, 512, 48, 64]⟩
abbrev S16x512x16x64 : Shape := ⟨4, ![16, 512, 16, 64]⟩
abbrev S16x16x512x512 : Shape := ⟨4, ![16, 16, 512, 512]⟩
abbrev S_ : Shape := ⟨0, ![]⟩
abbrev S512x512 : Shape := ⟨2, ![512, 512]⟩
abbrev S16x16x512 : Shape := ⟨3, ![16, 16, 512]⟩
abbrev S16x16x512x1 : Shape := ⟨4, ![16, 16, 512, 1]⟩
abbrev S16x16x512x64 : Shape := ⟨4, ![16, 16, 512, 64]⟩
abbrev S16x512x1024 : Shape := ⟨3, ![16, 512, 1024]⟩
abbrev S16x512x16 : Shape := ⟨3, ![16, 512, 16]⟩
abbrev S16x512x16x8 : Shape := ⟨4, ![16, 512, 16, 8]⟩
abbrev S16x512x128 : Shape := ⟨3, ![16, 512, 128]⟩

abbrev nBuf : Space → Nat
  | .hbm => 42
  | .vmem => 0
  | .smem => 0
  | _ => 0

abbrev bufTy : (tb : Table) → Fin (tcTables nBuf tb) → BufTy
  | .hbm, ⟨0, _⟩ => ⟨S16x512x3072, .bf16⟩
  | .hbm, ⟨1, _⟩ => ⟨S16x512x3072, .f32⟩
  | .hbm, ⟨2, _⟩ => ⟨S16x512x48x64, .f32⟩
  | .hbm, ⟨3, _⟩ => ⟨S16x512x16x64, .f32⟩
  | .hbm, ⟨4, _⟩ => ⟨S16x512x16x64, .f32⟩
  | .hbm, ⟨5, _⟩ => ⟨S16x512x16x64, .f32⟩
  | .hbm, ⟨6, _⟩ => ⟨S16x16x512x512, .f32⟩
  | .hbm, ⟨7, _⟩ => ⟨S_, .f32⟩
  | .hbm, ⟨8, _⟩ => ⟨S16x16x512x512, .f32⟩
  | .hbm, ⟨9, _⟩ => ⟨S16x16x512x512, .f32⟩
  | .hbm, ⟨10, _⟩ => ⟨S512x512, .i32⟩
  | .hbm, ⟨11, _⟩ => ⟨S512x512, .i32⟩
  | .hbm, ⟨12, _⟩ => ⟨S512x512, .i32⟩
  | .hbm, ⟨13, _⟩ => ⟨S512x512, .i32⟩
  | .hbm, ⟨14, _⟩ => ⟨S_, .i32⟩
  | .hbm, ⟨15, _⟩ => ⟨S512x512, .i32⟩
  | .hbm, ⟨16, _⟩ => ⟨S512x512, .i1⟩
  | .hbm, ⟨17, _⟩ => ⟨S_, .f32⟩
  | .hbm, ⟨18, _⟩ => ⟨S_, .f32⟩
  | .hbm, ⟨19, _⟩ => ⟨S16x16x512x512, .i1⟩
  | .hbm, ⟨20, _⟩ => ⟨S16x16x512x512, .f32⟩
  | .hbm, ⟨21, _⟩ => ⟨S16x16x512x512, .f32⟩
  | .hbm, ⟨22, _⟩ => ⟨S_, .f32⟩
  | .hbm, ⟨23, _⟩ => ⟨S16x16x512, .f32⟩
  | .hbm, ⟨24, _⟩ => ⟨S16x16x512x1, .f32⟩
  | .hbm, ⟨25, _⟩ => ⟨S16x16x512x512, .f32⟩
  | .hbm, ⟨26, _⟩ => ⟨S16x16x512x512, .f32⟩
  | .hbm, ⟨27, _⟩ => ⟨S16x16x512x512, .f32⟩
  | .hbm, ⟨28, _⟩ => ⟨S_, .f32⟩
  | .hbm, ⟨29, _⟩ => ⟨S16x16x512, .f32⟩
  | .hbm, ⟨30, _⟩ => ⟨S16x16x512x64, .f32⟩
  | .hbm, ⟨31, _⟩ => ⟨S16x16x512x1, .f32⟩
  | .hbm, ⟨32, _⟩ => ⟨S16x16x512x64, .f32⟩
  | .hbm, ⟨33, _⟩ => ⟨S16x16x512x64, .f32⟩
  | .hbm, ⟨34, _⟩ => ⟨S16x16x512, .f32⟩
  | .hbm, ⟨35, _⟩ => ⟨S16x16x512, .f32⟩
  | .hbm, ⟨36, _⟩ => ⟨S16x512x16x64, .f32⟩
  | .hbm, ⟨37, _⟩ => ⟨S16x512x1024, .f32⟩
  | .hbm, ⟨38, _⟩ => ⟨S16x512x1024, .bf16⟩
  | .hbm, ⟨39, _⟩ => ⟨S16x512x16, .f32⟩
  | .hbm, ⟨40, _⟩ => ⟨S16x512x16x8, .f32⟩
  | .hbm, ⟨41, _⟩ => ⟨S16x512x128, .f32⟩
  | _, _ => ⟨S16x512x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Kernel2.lean ====
abbrev S8192x2048 : Shape := ⟨2, ![8192, 2048]⟩
abbrev S1x2048 : Shape := ⟨2, ![1, 2048]⟩
abbrev S2048x6560 : Shape := ⟨2, ![2048, 6560]⟩
abbrev S8192x3584 : Shape := ⟨2, ![8192, 3584]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x6560, .f32⟩
  | .hbm, ⟨3, _⟩ => ⟨S8192x3584, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x2048 : Shape := ⟨2, ![8192, 2048]⟩
abbrev S1x2048 : Shape := ⟨2, ![1, 2048]⟩
abbrev S2048x6560 : Shape := ⟨2, ![2048, 6560]⟩
abbrev S_ : Shape := ⟨0, ![]⟩
abbrev S8192 : Shape := ⟨1, ![8192]⟩
abbrev S8192x1 : Shape := ⟨2, ![8192, 1]⟩
abbrev S2048x3584 : Shape := ⟨2, ![2048, 3584]⟩
abbrev S8192x3584 : Shape := ⟨2, ![8192, 3584]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x6560, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S2048x3584, .f32⟩
  | .hbm, ⟨19, _⟩ => ⟨S8192x3584, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel3.lean ====
abbrev S16384x2048 : Shape := ⟨2, ![16384, 2048]⟩
abbrev S32x2048x1024 : Shape := ⟨3, ![32, 2048, 1024]⟩
abbrev S32x1024x2048 : Shape := ⟨3, ![32, 1024, 2048]⟩
abbrev S57 : Shape := ⟨1, ![57]⟩
abbrev S36480x2048 : Shape := ⟨2, ![36480, 2048]⟩
abbrev S1x2048x512 : Shape := ⟨3, ![1, 2048, 512]⟩
abbrev S1 : Shape := ⟨1, ![1]⟩
abbrev S1x512x2048 : Shape := ⟨3, ![1, 512, 2048]⟩
abbrev S640x2048 : Shape := ⟨2, ![640, 2048]⟩
abbrev S_ : Shape := ⟨0, ![]⟩
abbrev S2048x512 : Shape := ⟨2, ![2048, 512]⟩
abbrev S640x512 : Shape := ⟨2, ![640, 512]⟩
abbrev S640x1 : Shape := ⟨2, ![640, 1]⟩
abbrev S512x2048 : Shape := ⟨2, ![512, 2048]⟩

abbrev nBuf : Space → Nat
  | .hbm => 5
  | .vmem => 10
  | .smem => 5
  | _ => 0

abbrev bufTy : (tb : Table) → Fin (tcTables nBuf tb) → BufTy
  | .hbm, ⟨0, _⟩ => ⟨S16384x2048, .f32⟩
  | .hbm, ⟨1, _⟩ => ⟨S32x2048x1024, .f32⟩
  | .hbm, ⟨2, _⟩ => ⟨S32x2048x1024, .f32⟩
  | .hbm, ⟨3, _⟩ => ⟨S32x1024x2048, .f32⟩
  | .hbm, ⟨4, _⟩ => ⟨S36480x2048, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x512x2048, .f32⟩
  | .local _ .vmem, ⟨5, _⟩ => ⟨S1x512x2048, .f32⟩
  | .local _ .vmem, ⟨6, _⟩ => ⟨S640x2048, .f32⟩
  | .local _ .vmem, ⟨7, _⟩ => ⟨S640x2048, .f32⟩
  | .local _ .vmem, ⟨8, _⟩ => ⟨S640x2048, .f32⟩
  | .local _ .vmem, ⟨9, _⟩ => ⟨S640x2048, .bf16⟩
  | .local _ .smem, ⟨0, _⟩ => ⟨S57, .i32⟩
  | .local _ .smem, ⟨1, _⟩ => ⟨S57, .i32⟩
  | .local _ .smem, ⟨2, _⟩ => ⟨S57, .i32⟩
  | .local _ .smem, ⟨3, _⟩ => ⟨S57, .i32⟩
  | .local _ .smem, ⟨4, _⟩ => ⟨S57, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg4 : Ref sig .tc := ⟨.smem, 0, rfl⟩
abbrev main_arg5 : Ref sig .tc := ⟨.smem, 1, rfl⟩
abbrev main_arg6 : Ref sig .tc := ⟨.smem, 2, rfl⟩
abbrev main_arg7 : Ref sig .tc := ⟨.smem, 3, rfl⟩
abbrev main_arg8 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![57, 2], ![false, false]⟩

abbrev pre0 : Pipeline.Prefetch sig := ⟨5, ![main_arg4.idx, main_arg5.idx, main_arg6.idx, main_arg7.idx, main_arg8.idx], fun | 0 => main_arg4.names | 1 => main_arg5.names | 2 => main_arg6.names | 3 => main_arg7.names | 4 => main_arg8.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg0 : BitVec 32 := BitVec.ofNat 32 (i 0).val
  let c0_i32_4 : BitVec 32 := 0#32
  let v14 : BitVec 1 := Scalar.cmpi .eq arg0 c0_i32_4
  let v15 : BitVec 32 := Scalar.extui v14
  let c0_i32_5 : BitVec 32 := 0#32
  let v16 : BitVec 1 := Scalar.cmpi .ne v15 c0_i32_5
  v16

def k0_mult1 (v36 : BitVec 32) : BitVec 32 :=
  v36
def k0_cond1 (i : grid0.Coords) (v1 : BitVec 32) : BitVec 1 :=
  let c1_i32 : BitVec 32 := 1#32
  let v2 : BitVec 1 := Scalar.cmpi .eq v1 c1_i32
  let arg1 : BitVec 32 := BitVec.ofNat 32 (i 1).val
  let c0_i32 : BitVec 32 := 0#32
  let v3 : BitVec 1 := Scalar.cmpi .eq arg1 c0_i32
  let v4 : BitVec 1 := Scalar.andi v2 v3
  let v5 : BitVec 32 := Scalar.extui v4
  let c0_i32_0 : BitVec 32 := 0#32
  let v6 : BitVec 1 := Scalar.cmpi .ne v5 c0_i32_0
  v6

def k0_off2 (v36 : BitVec 32) : Fin 2 → Nat :=
  let v37 : BitVec 32 := v36
  let c0_i32_15 : BitVec 32 := 0#32
  ![v37.toNat, 0]

def k0_chk1 (i : grid0.Coords) (v1 : BitVec 32) (v36 : BitVec 32) : Prop :=
  (∀ (k0_h1 : k0_cond1 i v1 = 1#1), ∀ (k0_h2 : k0_cond2 i = 1#1), 8 ∣ (k0_mult1 v36).toNat) ∧
  (∀ (k0_h1 : k0_cond1 i v1 = 1#1), ∀ (k0_h2 : k0_cond2 i = 1#1), ∀ a, (k0_off2 v36) a + S640x2048.size a ≤ S16384x2048.size a)
theorem k0_mult1_dvd : ∀ (i : grid0.Coords) (v1 : BitVec 32) (v36 : BitVec 32) (k0_hw1 : k0_chk1 i v1 v36), ∀ (k0_h1 : k0_cond1 i v1 = 1#1), ∀ (k0_h2 : k0_cond2 i = 1#1), 8 ∣ (k0_mult1 v36).toNat := fun i v1 v36 k0_hw1 k0_h1 k0_h2 => k0_hw1.1 k0_h1 k0_h2
theorem k0_off2_inb : ∀ (i : grid0.Coords) (v1 : BitVec 32) (v36 : BitVec 32) (k0_hw1 : k0_chk1 i v1 v36), ∀ (k0_h1 : k0_cond1 i v1 = 1#1), ∀ (k0_h2 : k0_cond2 i = 1#1), ∀ a, (k0_off2 v36) a + S640x2048.size a ≤ S16384x2048.size a := fun i v1 v36 k0_hw1 k0_h1 k0_h2 => k0_hw1.2 k0_h1 k0_h2

def k0_off3 (i : grid0.Coords) : Fin 1 → Nat :=
  let arg0 : BitVec 32 := BitVec.ofNat 32 (i 0).val
  let v17 : Index := Scalar.indexCast arg0
  ![v17.toNat]
def k0_mult2 (v18 : BitVec 32) : BitVec 32 :=
  v18

def k0_off4 (v18 : BitVec 32) : Fin 2 → Nat :=
  let v19 : BitVec 32 := v18
  let c0_i32_6 : BitVec 32 := 0#32
  ![v19.toNat, 0]

def k0_chk2 (i : grid0.Coords) (v1 : BitVec 32) (v18 : BitVec 32) : Prop :=
  (∀ (k0_h1 : k0_cond1 i v1 = 1#1), 8 ∣ (k0_mult2 v18).toNat) ∧
  (∀ (k0_h1 : k0_cond1 i v1 = 1#1), ∀ a, (k0_off4 v18) a + S640x2048.size a ≤ S16384x2048.size a)
theorem k0_mult2_dvd : ∀ (i : grid0.Coords) (v1 : BitVec 32) (v18 : BitVec 32) (k0_hw2 : k0_chk2 i v1 v18), ∀ (k0_h1 : k0_cond1 i v1 = 1#1), 8 ∣ (k0_mult2 v18).toNat := fun i v1 v18 k0_hw2 k0_h1 => k0_hw2.1 k0_h1
theorem k0_off4_inb : ∀ (i : grid0.Coords) (v1 : BitVec 32) (v18 : BitVec 32) (k0_hw2 : k0_chk2 i v1 v18), ∀ (k0_h1 : k0_cond1 i v1 = 1#1), ∀ a, (k0_off4 v18) a + S640x2048.size a ≤ S16384x2048.size a := fun i v1 v18 k0_hw2 k0_h1 => k0_hw2.2 k0_h1

def k0_off5 (i : grid0.Coords) : Fin 1 → Nat :=
  let arg0 : BitVec 32 := BitVec.ofNat 32 (i 0).val
  let c1_i32_10 : BitVec 32 := 1#32
  let v26 : BitVec 32 := Scalar.addi arg0 c1_i32_10
  let c56_i32 : BitVec 32 := 56#32
  let v27 : BitVec 32 := Scalar.minsi v26 c56_i32
  let v30 : Index := Scalar.indexCast v27
  ![v30.toNat]
def k0_off6 (i : grid0.Coords) : Fin 1 → Nat :=
  let arg0 : BitVec 32 := BitVec.ofNat 32 (i 0).val
  let c1_i32_10 : BitVec 32 := 1#32
  let v26 : BitVec 32 := Scalar.addi arg0 c1_i32_10
  let c56_i32 : BitVec 32 := 56#32
  let v27 : BitVec 32 := Scalar.minsi v26 c56_i32
  let v36 : Index := Scalar.indexCast v27
  ![v36.toNat]
def k0_mult3 (v37 : BitVec 32) : BitVec 32 :=
  v37
def k0_cond3 (i : grid0.Coords) (v31 : BitVec 32) : BitVec 1 :=
  let arg0 : BitVec 32 := BitVec.ofNat 32 (i 0).val
  let c1_i32_11 : BitVec 32 := 1#32
  let v28 : BitVec 32 := Scalar.addi arg0 c1_i32_11
  let c57_i32 : BitVec 32 := 57#32
  let v29 : BitVec 1 := Scalar.cmpi .slt v28 c57_i32
  let c1_i32_12 : BitVec 32 := 1#32
  let v32 : BitVec 1 := Scalar.cmpi .eq v31 c1_i32_12
  let v33 : BitVec 1 := Scalar.andi v29 v32
  let v34 : BitVec 32 := Scalar.extui v33
  let c0_i32_13 : BitVec 32 := 0#32
  let v35 : BitVec 1 := Scalar.cmpi .ne v34 c0_i32_13
  v35

def k0_off7 (v37 : BitVec 32) : Fin 2 → Nat :=
  let v38 : BitVec 32 := v37
  let c0_i32_14 : BitVec 32 := 0#32
  ![v38.toNat, 0]

def k0_chk3 (i : grid0.Coords) (v1 : BitVec 32) (v31 : BitVec 32) (v37 : BitVec 32) : Prop :=
  (∀ (k0_h1 : k0_cond1 i v1 = 1#1), ∀ (k0_h3 : k0_cond3 i v31 = 1#1), 8 ∣ (k0_mult3 v37).toNat) ∧
  (∀ (k0_h1 : k0_cond1 i v1 = 1#1), ∀ (k0_h3 : k0_cond3 i v31 = 1#1), ∀ a, (k0_off7 v37) a + S640x2048.size a ≤ S16384x2048.size a)
theorem k0_mult3_dvd : ∀ (i : grid0.Coords) (v1 : BitVec 32) (v31 : BitVec 32) (v37 : BitVec 32) (k0_hw3 : k0_chk3 i v1 v31 v37), ∀ (k0_h1 : k0_cond1 i v1 = 1#1), ∀ (k0_h3 : k0_cond3 i v31 = 1#1), 8 ∣ (k0_mult3 v37).toNat := fun i v1 v31 v37 k0_hw3 k0_h1 k0_h3 => k0_hw3.1 k0_h1 k0_h3
theorem k0_off7_inb : ∀ (i : grid0.Coords) (v1 : BitVec 32) (v31 : BitVec 32) (v37 : BitVec 32) (k0_hw3 : k0_chk3 i v1 v31 v37), ∀ (k0_h1 : k0_cond1 i v1 = 1#1), ∀ (k0_h3 : k0_cond3 i v31 = 1#1), ∀ a, (k0_off7 v37) a + S640x2048.size a ≤ S16384x2048.size a := fun i v1 v31 v37 k0_hw3 k0_h1 k0_h3 => k0_hw3.2 k0_h1 k0_h3

def k0_off8 (i : grid0.Coords) : Fin 1 → Nat :=
  let arg0 : BitVec 32 := BitVec.ofNat 32 (i 0).val
  let v33 : Index := Scalar.indexCast arg0
  ![v33.toNat]
def k0_cond4 (i : grid0.Coords) (v1 : BitVec 32) : BitVec 1 :=
  let c1_i32 : BitVec 32 := 1#32
  let v2 : BitVec 1 := Scalar.cmpi .eq v1 c1_i32
  let v_true : BitVec 1 := 1#1
  let v7 : BitVec 1 := Scalar.xori v2 v_true
  let arg1 : BitVec 32 := BitVec.ofNat 32 (i 1).val
  let c0_i32_1 : BitVec 32 := 0#32
  let v8 : BitVec 1 := Scalar.cmpi .eq arg1 c0_i32_1
  let v9 : BitVec 1 := Scalar.andi v7 v8
  let v10 : BitVec 32 := Scalar.extui v9
  let c0_i32_2 : BitVec 32 := 0#32
  let v11 : BitVec 1 := Scalar.cmpi .ne v10 c0_i32_2
  v11

def k0_cond5 (v1 : BitVec 32) : BitVec 1 :=
  let c1_i32 : BitVec 32 := 1#32
  let v2 : BitVec 1 := Scalar.cmpi .eq v1 c1_i32
  let v12 : BitVec 32 := Scalar.extui v2
  let c0_i32_3 : BitVec 32 := 0#32
  let v13 : BitVec 1 := Scalar.cmpi .ne v12 c0_i32_3
  v13

def k0_cond6 (i : grid0.Coords) : BitVec 1 :=
  let arg1 : BitVec 32 := BitVec.ofNat 32 (i 1).val
  let c0_i32_20 : BitVec 32 := 0#32
  let v51 : BitVec 1 := Scalar.cmpi .eq arg1 c0_i32_20
  let v52 : BitVec 32 := Scalar.extui v51
  let c0_i32_21 : BitVec 32 := 0#32
  let v53 : BitVec 1 := Scalar.cmpi .ne v52 c0_i32_21
  v53

def k0_cond7 (i : grid0.Coords) : BitVec 1 :=
  let arg1 : BitVec 32 := BitVec.ofNat 32 (i 1).val
  let c0_i32_22 : BitVec 32 := 0#32
  let v54 : BitVec 1 := Scalar.cmpi .sgt arg1 c0_i32_22
  let v55 : BitVec 32 := Scalar.extui v54
  let c0_i32_23 : BitVec 32 := 0#32
  let v56 : BitVec 1 := Scalar.cmpi .ne v55 c0_i32_23
  v56

def cc0_transform_1 (k0_off1_inb : ∀ i : grid0.Coords, ∀ a, (k0_off1 i) a + S1.size a ≤ S57.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let v2 : Index := Scalar.indexCast arg0
  let v3 : BitVec 32 := pf.at 4 (Rect.unit (s := S57) ![v2.toNat] S1.size (k0_off1_inb i)) numel1_S1
  let v4 : BitVec 32 := Scalar.muli arg1 v3
  let v5 : Index := Scalar.indexCast arg0
  let v6 : BitVec 32 := pf.at 4 (Rect.unit (s := S57) ![v5.toNat] S1.size (k0_off1_inb i)) numel1_S1
  let c1_i32 : BitVec 32 := 1#32
  let v7 : BitVec 32 := Scalar.subi c1_i32 v6
  let c1_i32_0 : BitVec 32 := 1#32
  let v8 : BitVec 32 := Scalar.muli c1_i32_0 v7
  let v9 : BitVec 32 := Scalar.addi v4 v8
  let c0_i32 : BitVec 32 := 0#32
  let c0_i32_1 : BitVec 32 := 0#32
  ![v1.toNat, c0_i32.toNat, v9.toNat]

def cc0_transform_2 (k0_off1_inb : ∀ i : grid0.Coords, ∀ a, (k0_off1 i) a + S1.size a ≤ S57.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let v2 : Index := Scalar.indexCast arg0
  let v3 : BitVec 32 := pf.at 4 (Rect.unit (s := S57) ![v2.toNat] S1.size (k0_off1_inb i)) numel1_S1
  let v4 : BitVec 32 := Scalar.muli arg1 v3
  let v5 : Index := Scalar.indexCast arg0
  let v6 : BitVec 32 := pf.at 4 (Rect.unit (s := S57) ![v5.toNat] S1.size (k0_off1_inb i)) numel1_S1
  let c1_i32 : BitVec 32 := 1#32
  let v7 : BitVec 32 := Scalar.subi c1_i32 v6
  let c1_i32_0 : BitVec 32 := 1#32
  let v8 : BitVec 32 := Scalar.muli c1_i32_0 v7
  let v9 : BitVec 32 := Scalar.addi v4 v8
  let c0_i32 : BitVec 32 := 0#32
  let c0_i32_1 : BitVec 32 := 0#32
  ![v1.toNat, c0_i32.toNat, v9.toNat]

def cc0_transform_3 (k0_off1_inb : ∀ i : grid0.Coords, ∀ a, (k0_off1 i) a + S1.size a ≤ S57.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let v2 : Index := Scalar.indexCast arg0
  let v3 : BitVec 32 := pf.at 4 (Rect.unit (s := S57) ![v2.toNat] S1.size (k0_off1_inb i)) numel1_S1
  let v4 : BitVec 32 := Scalar.muli arg1 v3
  let v5 : Index := Scalar.indexCast arg0
  let v6 : BitVec 32 := pf.at 4 (Rect.unit (s := S57) ![v5.toNat] S1.size (k0_off1_inb i)) numel1_S1
  let c1_i32 : BitVec 32 := 1#32
  let v7 : BitVec 32 := Scalar.subi c1_i32 v6
  let c1_i32_0 : BitVec 32 := 1#32
  let v8 : BitVec 32 := Scalar.muli c1_i32_0 v7
  let v9 : BitVec 32 := Scalar.addi v4 v8
  let c0_i32 : BitVec 32 := 0#32
  let c0_i32_1 : BitVec 32 := 0#32
  ![v1.toNat, v9.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference3Ideal.lean ====
abbrev S16384x2048 : Shape := ⟨2, ![16384, 2048]⟩
abbrev S32x2048x1024 : Shape := ⟨3, ![32, 2048, 1024]⟩
abbrev S32x1024x2048 : Shape := ⟨3, ![32, 1024, 2048]⟩
abbrev S57 : Shape := ⟨1, ![57]⟩
abbrev S640 : Shape := ⟨1, ![640]⟩
abbrev S1x640 : Shape := ⟨2, ![1, 640]⟩
abbrev S57x1 : Shape := ⟨2, ![57, 1]⟩
abbrev S57x640 : Shape := ⟨2, ![57, 640]⟩
abbrev S_ : Shape := ⟨0, ![]⟩
abbrev S57x640x1 : Shape := ⟨3, ![57, 640, 1]⟩
abbrev S57x640x2048 : Shape := ⟨3, ![57, 640, 2048]⟩
abbrev S57x2048x1024 : Shape := ⟨3, ![57, 2048, 1024]⟩
abbrev S57x640x1024 : Shape := ⟨3, ![57, 640, 1024]⟩
abbrev S57x1024x2048 : Shape := ⟨3, ![57, 1024, 2048]⟩
abbrev S36480x2048 : Shape := ⟨2, ![36480, 2048]⟩

abbrev nBuf : Space → Nat
  | .hbm => 86
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S32x2048x1024, .f32⟩
  | .hbm, ⟨2, _⟩ => ⟨S32x2048x1024, .f32⟩
  | .hbm, ⟨3, _⟩ => ⟨S32x1024x2048, .f32⟩
  | .hbm, ⟨4, _⟩ => ⟨S57, .i32⟩
  | .hbm, ⟨5, _⟩ => ⟨S57, .i32⟩
  | .hbm, ⟨6, _⟩ => ⟨S57, .i32⟩
  | .hbm, ⟨7, _⟩ => ⟨S57, .i32⟩
  | .hbm, ⟨8, _⟩ => ⟨S57, .i32⟩
  | .hbm, ⟨9, _⟩ => ⟨S640, .i32⟩
  | .hbm, ⟨10, _⟩ => ⟨S1x640, .i32⟩
  | .hbm, ⟨11, _⟩ => ⟨S57x1, .i32⟩
  | .hbm, ⟨12, _⟩ => ⟨S57x640, .i32⟩
  | .hbm, ⟨13, _⟩ => ⟨S57x640, .i32⟩
  | .hbm, ⟨14, _⟩ => ⟨S57x640, .i32⟩
  | .hbm, ⟨15, _⟩ => ⟨S_, .i32⟩
  | .hbm, ⟨16, _⟩ => ⟨S57x640, .i32⟩
  | .hbm, ⟨17, _⟩ => ⟨S57x640, .i1⟩
  | .hbm, ⟨18, _⟩ => ⟨S_, .i32⟩
  | .hbm, ⟨19, _⟩ => ⟨S57x640, .i32⟩
  | .hbm, ⟨20, _⟩ => ⟨S57x640, .i32⟩
  | .hbm, ⟨21, _⟩ => ⟨S57x640, .i32⟩
  | .hbm, ⟨22, _⟩ => ⟨S57x640x1, .i32⟩
  | .hbm, ⟨23, _⟩ => ⟨S57x640x2048, .f32⟩
  | .hbm, ⟨24, _⟩ => ⟨S_, .i32⟩
  | .hbm, ⟨25, _⟩ => ⟨S57, .i32⟩
  | .hbm, ⟨26, _⟩ => ⟨S57, .i1⟩
  | .hbm, ⟨27, _⟩ => ⟨S_, .i32⟩
  | .hbm, ⟨28, _⟩ => ⟨S57, .i32⟩
  | .hbm, ⟨29, _⟩ => ⟨S57, .i32⟩
  | .hbm, ⟨30, _⟩ => ⟨S57, .i32⟩
  | .hbm, ⟨31, _⟩ => ⟨S57x1, .i32⟩
  | .hbm, ⟨32, _⟩ => ⟨S57x2048x1024, .f32⟩
  | .hbm, ⟨33, _⟩ => ⟨S57x640x1024, .f32⟩
  | .hbm, ⟨34, _⟩ => ⟨S_, .i32⟩
  | .hbm, ⟨35, _⟩ => ⟨S57, .i32⟩
  | .hbm, ⟨36, _⟩ => ⟨S57, .i1⟩
  | .hbm, ⟨37, _⟩ => ⟨S_, .i32⟩
  | .hbm, ⟨38, _⟩ => ⟨S57, .i32⟩
  | .hbm, ⟨39, _⟩ => ⟨S57, .i32⟩
  | .hbm, ⟨40, _⟩ => ⟨S57, .i32⟩
  | .hbm, ⟨41, _⟩ => ⟨S57x1, .i32⟩
  | .hbm, ⟨42, _⟩ => ⟨S57x2048x1024, .f32⟩
  | .hbm, ⟨43, _⟩ => ⟨S57x640x1024, .f32⟩
  | .hbm, ⟨44, _⟩ => ⟨S57x640x1024, .f32⟩
  | .hbm, ⟨45, _⟩ => ⟨S57x640x1024, .f32⟩
  | .hbm, ⟨46, _⟩ => ⟨S_, .f32⟩
  | .hbm, ⟨47, _⟩ => ⟨S57x640x1024, .f32⟩
  | .hbm, ⟨48, _⟩ => ⟨S57x640x1024, .f32⟩
  | .hbm, ⟨49, _⟩ => ⟨S_, .f32⟩
  | .hbm, ⟨50, _⟩ => ⟨S57x640x1024, .f32⟩
  | .hbm, ⟨51, _⟩ => ⟨S57x640x1024, .f32⟩
  | .hbm, ⟨52, _⟩ => ⟨S57x640x1024, .f32⟩
  | .hbm, ⟨53, _⟩ => ⟨S57x640x1024, .f32⟩
  | .hbm, ⟨54, _⟩ => ⟨S_, .i32⟩
  | .hbm, ⟨55, _⟩ => ⟨S57, .i32⟩
  | .hbm, ⟨56, _⟩ => ⟨S57, .i1⟩
  | .hbm, ⟨57, _⟩ => ⟨S_, .i32⟩
  | .hbm, ⟨58, _⟩ => ⟨S57, .i32⟩
  | .hbm, ⟨59, _⟩ => ⟨S57, .i32⟩
  | .hbm, ⟨60, _⟩ => ⟨S57, .i32⟩
  | .hbm, ⟨61, _⟩ => ⟨S57x1, .i32⟩
  | .hbm, ⟨62, _⟩ => ⟨S57x1024x2048, .f32⟩
  | .hbm, ⟨63, _⟩ => ⟨S57x640x2048, .f32⟩
  | .hbm, ⟨64, _⟩ => ⟨S57x1, .i32⟩
  | .hbm, ⟨65, _⟩ => ⟨S_, .i32⟩
  | .hbm, ⟨66, _⟩ => ⟨S57x1, .i32⟩
  | .hbm, ⟨67, _⟩ => ⟨S57x1, .i1⟩
  | .hbm, ⟨68, _⟩ => ⟨S57x1, .i32⟩
  | .hbm, ⟨69, _⟩ => ⟨S57x640, .i32⟩
  | .hbm, ⟨70, _⟩ => ⟨S57x640, .i32⟩
  | .hbm, ⟨71, _⟩ => ⟨S57x640, .i1⟩
  | .hbm, ⟨72, _⟩ => ⟨S57x640, .i1⟩
  | .hbm, ⟨73, _⟩ => ⟨S57x640, .i1⟩
  | .hbm, ⟨74, _⟩ => ⟨S57x1, .i32⟩
  | .hbm, ⟨75, _⟩ => ⟨S57x640, .i32⟩
  | .hbm, ⟨76, _⟩ => ⟨S57x640, .i32⟩
  | .hbm, ⟨77, _⟩ => ⟨S57x640, .i1⟩
  | .hbm, ⟨78, _⟩ => ⟨S57x640, .i1⟩
  | .hbm, ⟨79, _⟩ => ⟨S57x640x1, .i1⟩
  | .hbm, ⟨80, _⟩ => ⟨S_, .f32⟩
  | .hbm, ⟨81, _⟩ => ⟨S_, .f32⟩
  | .hbm, ⟨82, _⟩ => ⟨S57x640x2048, .i1⟩
  | .hbm, ⟨83, _⟩ => ⟨S57x640x2048, .f32⟩
  | .hbm, ⟨84, _⟩ => ⟨S57x640x2048, .f32⟩
  | .hbm, ⟨85, _⟩ => ⟨S36480x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v54 : Ref sig .tc := ⟨.hbm, 84, rfl⟩
abbrev main_v55 : Ref sig .tc := ⟨.hbm, 85, rfl⟩

abbrev nD : Nat := 1
abbrev τ : Topo := Topo.v7x

variable {F : FTy → Type} [FloatOps F]
-- ==== Kernel4.lean ====
abbrev S8192x2048 : Shape := ⟨2, ![8192, 2048]⟩
abbrev S1x2048 : Shape := ⟨2, ![1, 2048]⟩
abbrev S1x8192 : Shape := ⟨2, ![1, 8192]⟩
abbrev S2048x6560 : Shape := ⟨2, ![2048, 6560]⟩
abbrev S128 : Shape := ⟨1, ![128]⟩
abbrev S8192x1 : Shape := ⟨2, ![8192, 1]⟩
abbrev S2048x3072 : Shape := ⟨2, ![2048, 3072]⟩
abbrev S8 : Shape := ⟨1, ![8]⟩
abbrev S_ : Shape := ⟨0, ![]⟩
abbrev S48 : Shape := ⟨1, ![48]⟩
abbrev S64 : Shape := ⟨1, ![64]⟩
abbrev S1x64 : Shape := ⟨2, ![1, 64]⟩
abbrev S2x64 : Shape := ⟨2, ![2, 64]⟩
abbrev S1x128 : Shape := ⟨2, ![1, 128]⟩
abbrev S8192x3072 : Shape := ⟨2, ![8192, 3072]⟩
abbrev S4x2048x3072 : Shape := ⟨3, ![4, 2048, 3072]⟩
abbrev S16x512x3072 : Shape := ⟨3, ![16, 512, 3072]⟩
abbrev S1024x2048 : Shape := ⟨2, ![1024, 2048]⟩
abbrev S1024x1 : Shape := ⟨2, ![1024, 1]⟩
abbrev S2048x512 : Shape := ⟨2, ![2048, 512]⟩
abbrev S1024x512 : Shape := ⟨2, ![1024, 512]⟩
abbrev S4x256x512 : Shape := ⟨3, ![4, 256, 512]⟩
abbrev S16x64x512 : Shape := ⟨3, ![16, 64, 512]⟩
abbrev S1024x128 : Shape := ⟨2, ![1024, 128]⟩
abbrev S4x1024x128 : Shape := ⟨3, ![4, 1024, 128]⟩
abbrev S1024 : Shape := ⟨1, ![1024]⟩
abbrev S1x1024x128 : Shape := ⟨3, ![1, 1024, 128]⟩
abbrev S1x256x128 : Shape := ⟨3, ![1, 256, 128]⟩
abbrev S256x128 : Shape := ⟨2, ![256, 128]⟩
abbrev S1x64x128 : Shape := ⟨3, ![1, 64, 128]⟩
abbrev S64x128 : Shape := ⟨2, ![64, 128]⟩

abbrev nBuf : Space → Nat
  | .hbm => 33
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x8192, .i32⟩
  | .hbm, ⟨3, _⟩ => ⟨S2048x6560, .f32⟩
  | .hbm, ⟨4, _⟩ => ⟨S128, .f32⟩
  | .hbm, ⟨5, _⟩ => ⟨S128, .f32⟩
  | .hbm, ⟨6, _⟩ => ⟨S8192x1, .i32⟩
  | .hbm, ⟨7, _⟩ => ⟨S8192x1, .f32⟩
  | .hbm, ⟨8, _⟩ => ⟨S2048x3072, .f32⟩
  | .hbm, ⟨9, _⟩ => ⟨S2048x3072, .bf16⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S48, .f32⟩
  | .hbm, ⟨23, _⟩ => ⟨S64, .f32⟩
  | .hbm, ⟨24, _⟩ => ⟨S1x64, .f32⟩
  | .hbm, ⟨25, _⟩ => ⟨S2x64, .f32⟩
  | .hbm, ⟨26, _⟩ => ⟨S128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S8192x3072, .bf16⟩
  | .hbm, ⟨31, _⟩ => ⟨S4x2048x3072, .bf16⟩
  | .hbm, ⟨32, _⟩ => ⟨S16x512x3072, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x1, .f32⟩
  | .local _ .vmem, ⟨4, _⟩ => ⟨S1024x1, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S2048x512, .bf16⟩
  | .local _ .vmem, ⟨9, _⟩ => ⟨S2048x512, .bf16⟩
  | .local _ .vmem, ⟨10, _⟩ => ⟨S1024x512, .bf16⟩
  | .local _ .vmem, ⟨11, _⟩ => ⟨S1024x512, .bf16⟩
  | .local _ .vmem, ⟨12, _⟩ => ⟨S4x256x512, .bf16⟩
  | .local _ .vmem, ⟨13, _⟩ => ⟨S4x256x512, .bf16⟩
  | .local _ .vmem, ⟨14, _⟩ => ⟨S16x64x512, .bf16⟩
  | .local _ .vmem, ⟨15, _⟩ => ⟨S16x64x512, .bf16⟩
  | .local _ .vmem, ⟨16, _⟩ => ⟨S1024x2048, .bf16⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S4x1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S8192x2048 : Shape := ⟨2, ![8192, 2048]⟩
abbrev S1x2048 : Shape := ⟨2, ![1, 2048]⟩
abbrev S1x8192 : Shape := ⟨2, ![1, 8192]⟩
abbrev S2048x6560 : Shape := ⟨2, ![2048, 6560]⟩
abbrev S_ : Shape := ⟨0, ![]⟩
abbrev S8192 : Shape := ⟨1, ![8192]⟩
abbrev S8192x1 : Shape := ⟨2, ![8192, 1]⟩
abbrev S2048x3072 : Shape := ⟨2, ![2048, 3072]⟩
abbrev S8192x3072 : Shape := ⟨2, ![8192, 3072]⟩
abbrev S8192x48x64 : Shape := ⟨3, ![8192, 48, 64]⟩
abbrev S8192x32x64 : Shape := ⟨3, ![8192, 32, 64]⟩
abbrev S8192x16x64 : Shape := ⟨3, ![8192, 16, 64]⟩
abbrev S8 : Shape := ⟨1, ![8]⟩
abbrev S1x8 : Shape := ⟨2, ![1, 8]⟩
abbrev S8192x8 : Shape := ⟨2, ![8192, 8]⟩
abbrev S8192x1x8 : Shape := ⟨3, ![8192, 1, 8]⟩
abbrev S8192x32x8 : Shape := ⟨3, ![8192, 32, 8]⟩
abbrev S8192x32x48 : Shape := ⟨3, ![8192, 32, 48]⟩
abbrev S2048x4x3072 : Shape := ⟨3, ![2048, 4, 3072]⟩
abbrev S4x2048x3072 : Shape := ⟨3, ![4, 2048, 3072]⟩
abbrev S512x16x3072 : Shape := ⟨3, ![512, 16, 3072]⟩
abbrev S16x512x3072 : Shape := ⟨3, ![16, 512, 3072]⟩

abbrev nBuf : Space → Nat
  | .hbm => 67
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x8192, .i32⟩
  | .hbm, ⟨3, _⟩ => ⟨S2048x6560, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S2048x3072, .f32⟩
  | .hbm, ⟨20, _⟩ => ⟨S8192x3072, .f32⟩
  | .hbm, ⟨21, _⟩ => ⟨S8192x48x64, .f32⟩
  | .hbm, ⟨22, _⟩ => ⟨S8192x32x64, .f32⟩
  | .hbm, ⟨23, _⟩ => ⟨S8192x16x64, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8192, .i32⟩
  | .hbm, ⟨36, _⟩ => ⟨S8192, .f32⟩
  | .hbm, ⟨37, _⟩ => ⟨S8192x1, .f32⟩
  | .hbm, ⟨38, _⟩ => ⟨S1x8, .f32⟩
  | .hbm, ⟨39, _⟩ => ⟨S8192x8, .f32⟩
  | .hbm, ⟨40, _⟩ => ⟨S8192x8, .f32⟩
  | .hbm, ⟨41, _⟩ => ⟨S8192x8, .f32⟩
  | .hbm, ⟨42, _⟩ => ⟨S8192x8, .f32⟩
  | .hbm, ⟨43, _⟩ => ⟨S8192x1x8, .f32⟩
  | .hbm, ⟨44, _⟩ => ⟨S8192x8, .f32⟩
  | .hbm, ⟨45, _⟩ => ⟨S8192x1x8, .f32⟩
  | .hbm, ⟨46, _⟩ => ⟨S8192x32x8, .f32⟩
  | .hbm, ⟨47, _⟩ => ⟨S8192x32x8, .f32⟩
  | .hbm, ⟨48, _⟩ => ⟨S8192x32x8, .f32⟩
  | .hbm, ⟨49, _⟩ => ⟨S8192x32x8, .f32⟩
  | .hbm, ⟨50, _⟩ => ⟨S8192x32x8, .f32⟩
  | .hbm, ⟨51, _⟩ => ⟨S8192x32x8, .f32⟩
  | .hbm, ⟨52, _⟩ => ⟨S8192x32x8, .f32⟩
  | .hbm, ⟨53, _⟩ => ⟨S8192x32x8, .f32⟩
  | .hbm, ⟨54, _⟩ => ⟨S8192x32x8, .f32⟩
  | .hbm, ⟨55, _⟩ => ⟨S8192x32x8, .f32⟩
  | .hbm, ⟨56, _⟩ => ⟨S8192x32x8, .f32⟩
  | .hbm, ⟨57, _⟩ => ⟨S8192x32x8, .f32⟩
  | .hbm, ⟨58, _⟩ => ⟨S8192x32x48, .f32⟩
  | .hbm, ⟨59, _⟩ => ⟨S8192x32x64, .f32⟩
  | .hbm, ⟨60, _⟩ => ⟨S8192x48x64, .f32⟩
  | .hbm, ⟨61, _⟩ => ⟨S8192x3072, .f32⟩
  | .hbm, ⟨62, _⟩ => ⟨S8192x3072, .bf16⟩
  | .hbm, ⟨63, _⟩ => ⟨S2048x4x3072, .bf16⟩
  | .hbm, ⟨64, _⟩ => ⟨S4x2048x3072, .bf16⟩
  | .hbm, ⟨65, _⟩ => ⟨S512x16x3072, .bf16⟩
  | .hbm, ⟨66, _⟩ => ⟨S16x512x3072, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩

abbrev nD : Nat := 1
abbrev τ : Topo := Topo.v7x

variable {F : FTy → Type} [FloatOps F]
-- ==== Proof.Att.Blk.lean ====
module

public import proofs.«01_k».proof.Proof.Gen.KernelIdeal.Value
public import Idealize.ShloMosaic.Lib.Pointwise

@[expose] public section
set_option maxRecDepth 16384
noncomputable section

namespace Cert.Att
open Idealize.ShloMosaic Idealize.ShloMosaic.TcCoe Cert.KernelIdeal Cert.KernelIdeal.Gen

variable {F : FTy → Type} [FloatOps F] [Named F]

/-! ## One block of 128 queries, written once

The sixteen blocks of a grid point are one computation at sixteen places. -/

/-- The queries of a block, scaled. -/
def qsc (q : Vec F S128x128 .bf16) : FVec F S128x128 .bf16 :=
  truncf .bf16 (mulf (extf .f32 q bitsLt_bf16_f32) (broadcast S128x128 (Named.named κ "q_scale" 0x3E38AA3B#32))) bitsLt_bf16_f32

/-- The scaled queries of the first of a pair of heads, the lanes of the other zeroed. -/
def qlo (q : Vec F S128x128 .bf16) : FVec F S128x128 .bf16 :=
  select k0_pay3 (broadcast S128x128 (Scalar.ofBits .bf16 0x0000#16)) (qsc q)

/-- The scaled queries of the second of a pair of heads, the lanes of the other zeroed. -/
def qhi (q : Vec F S128x128 .bf16) : FVec F S128x128 .bf16 :=
  select k0_pay3 (qsc q) (broadcast S128x128 (Scalar.ofBits .bf16 0x0000#16))

/-- Which keys of a window are near a query, the window starting `d` past the block. -/
def near (d : BitVec 32) : IVec S128x256 1 :=
  cmpi .sle (absi (addi k0_pay6 (broadcast S128x256 d))) (broadcast S128x256 64#32)

/-- The scores of a block against its window, the far keys masked. -/
def sc (d : BitVec 32) (qh : FVec F S128x128 .bf16) (k : Vec F S256x128 .bf16) : FVec F S128x256 .f32 :=
  select (near d) (matmul dot_S128x128_S256x128_S128x256_1_1_0_0_n_n none qh k (constant S128x256 .f32 0x00000000#32))
    (broadcast S128x256 (Named.named κ "mask" 0xF149F2CA#32))

/-- The largest score of every query. -/
def mx (s : FVec F S128x256 .f32) : FVec F S128x1 .f32 :=
  shapeCast S128x1 (multiReduction .maximumf [1] S128 s 0xFF800000#32 reduces_S128x256_S128 (.inl rfl) rfl) shapeCasts_S128_S128x1

/-- The unnormalised weights. -/
def ex (s : FVec F S128x256 .f32) : FVec F S128x256 .f32 :=
  exp2 (subf s (broadcastTo S128x256 (mx s) broadcasts_S128x1_S128x256))

/-- The sum of the weights of every query. -/
def sm (e : FVec F S128x256 .f32) : FVec F S128x1 .f32 :=
  shapeCast S128x1 (multiReduction .add [1] S128 e 0x00000000#32 reduces_S128x256_S128 (.inl rfl) rfl) shapeCasts_S128_S128x1

/-- The weighted mean of the values. -/
def ov (s : FVec F S128x256 .f32) (v : Vec F S256x128 .bf16) : FVec F S128x128 .f32 :=
  divf (matmul dot_S128x256_S256x128_S128x128_1_0_0_1_n_n none (truncf .bf16 (ex s) bitsLt_bf16_f32) v (constant S128x128 .f32 0x00000000#32))
    (broadcastTo S128x128 (sm (ex s)) broadcasts_S128x1_S128x128)

/-- The log-sum-exp of every query. -/
def ls (s : FVec F S128x256 .f32) : FVec F S128x1 .f32 :=
  addf (mulf (mx s) (broadcast S128x1 (Named.named κ "ln2" 0x3F317218#32))) (log (sm (ex s)))

/-- What a block stores of the attention output. -/
def oBlk (d : BitVec 32) (q : Vec F S128x128 .bf16) (k v : Vec F S256x128 .bf16) : FVec F S128x128 .bf16 :=
  truncf .bf16 (select k0_pay3 (ov (sc d (qhi q) k) v) (ov (sc d (qlo q) k) v)) bitsLt_bf16_f32

/-- What a block stores of the log-sum-exp, the lanes of other heads kept. -/
def lBlk (i : grid0.Coords) (d : BitVec 32) (q : Vec F S128x128 .bf16) (k : Vec F S256x128 .bf16) (old : Vec F S128x128 .f32) :
    FVec F S128x128 .f32 :=
  select (k0_pay4 i) (broadcastTo S128x128 (shapeCast S128x1 (ls (sc d (qlo q) k)) shapeCasts_S128x1_S128x1) broadcasts_S128x1_S128x128)
    (select (k0_pay5 i) (broadcastTo S128x128 (shapeCast S128x1 (ls (sc d (qhi q) k)) shapeCasts_S128x1_S128x1) broadcasts_S128x1_S128x128)
      (shapeCast S128x128 old shapeCasts_S128x128_S128x128))

end Cert.Att
end
-- ==== Proof.Att.Place.lean ====
module

public import proofs.«01_k».proof.Proof.Att.Blk

@[expose] public section
set_option maxRecDepth 16384
noncomputable section

namespace Cert.Att
open Idealize.ShloMosaic Idealize.ShloMosaic.TcCoe Cert.KernelIdeal Cert.KernelIdeal.Gen

variable {F : FTy → Type} [FloatOps F] [Named F]

/-! ## Where a block reads and writes -/

/-- `n` rows of class `a`, from row `r0` on. -/
def rows {e : EltTy} (n : Nat) (x : Vec F S4x512x128 e) (a r0 : Nat) : Vec F ⟨2, ![n, 128]⟩ e :=
  fun z => x (ix3 (Fin.ofNat 4 a) (Fin.ofNat 512 (r0 + (z 0).val)) (z 1))

/-- The first key of the window of block `b`. -/
def w0 (b : Nat) : Nat := min (128 * b - 64) 256

/-- How far past the block its window starts, as a word. -/
def dw (b : Nat) : BitVec 32 := BitVec.ofNat 32 (w0 b) - BitVec.ofNat 32 (128 * b)

/-- The output block: at an element of block `b` of class `a`, what that block computes. -/
def G3 (x0 x1 x2 : Vec F S4x512x128 .bf16) : Vec F S4x512x128 .bf16 := fun y =>
  oBlk (dw ((y 1).val / 128)) (rows 128 x0 (y 0).val (128 * ((y 1).val / 128))) (rows 256 x1 (y 0).val (w0 ((y 1).val / 128)))
    (rows 256 x2 (y 0).val (w0 ((y 1).val / 128))) (ix2 (Fin.ofNat 128 ((y 1).val % 128)) (y 2))

/-- The log-sum-exp block. -/
def G4 (i : grid0.Coords) (x0 x1 : Vec F S4x512x128 .bf16) (old : Vec F S4x512x128 .f32) : Vec F S4x512x128 .f32 := fun y =>
  lBlk i (dw ((y 1).val / 128)) (rows 128 x0 (y 0).val (128 * ((y 1).val / 128))) (rows 256 x1 (y 0).val (w0 ((y 1).val / 128)))
    (rows 128 old (y 0).val (128 * ((y 1).val / 128))) (ix2 (Fin.ofNat 128 ((y 1).val % 128)) (y 2))

/-- A load of `n` rows of a class reads those rows. -/
theorem rd {e : EltTy} (m : Memref sig .tc .vmem S4x512x128 e) (h : m.IsWhole) (x : Vec F S4x512x128 e) (a r0 n : Nat)
    (h1 : ∀ i, (![a, 0, 0] : Fin 3 → Nat) i + (![1, 512, 128] : Fin 3 → Nat) i ≤ S4x512x128.size i)
    (h2 : ∀ i, (![r0, 0] : Fin 2 → Nat) i + (![n, 128] : Fin 2 → Nat) i ≤ S512x128.size i) (p1 p2 h3 hR) :
    (LoadRect.valAlong (lr := (Rect.unit (s := S512x128) ![r0, 0] ![n, 128] h2).toLoadRect) hR
      (View.readAt (Elt F) m.view ((Rect.unit (s := S4x512x128) ![a, 0, 0] ![1, 512, 128] h1).withinL
        ((Rect.unit (s := S512x128) ![r0, 0] ![n, 128] h2).toLoadRect.consLift ![1, 512, 128] p1 p2) h3) (h.unread x))
      : Vec F ⟨2, ![n, 128]⟩ e) = rows n x a r0 := by
  funext z
  have ha := h1 0
  have hr := h2 0
  have hz : (z 0).val < n := (z 0).isLt
  show View.read (Elt F) m.view (h.unread x) _ = _
  rw [h.read_unread]
  unfold rows
  refine congrArg x (funext fun i => Fin.ext ?_)
  have hx : Shape.reshapeEquiv hR z = Fin.cons ⟨0, Nat.one_pos⟩ z := Shape.reshapeEquiv_cons_one (d := ![n, 128]) _ _
  rw [hx, LoadRect.idx_apply]
  change a + 1 ≤ 4 at ha
  change r0 + n ≤ 512 at hr
  match i with
  | ⟨0, _⟩ => show (a + 0) + 1 * 0 = a % 4; omega
  | ⟨1, _⟩ => show (0 + r0) + 1 * (z 0).val = (r0 + (z 0).val) % 512; omega
  | ⟨2, _⟩ => show (0 + 0) + 1 * (z 1).val = (z 1).val; omega

/-- A store of a block of the output, at its place. -/
theorem o_piece (x0 x1 x2 : Vec F S4x512x128 .bf16) (a b : Nat) (q : Vec F S128x128 .bf16) (k v : Vec F S256x128 .bf16)
    (hq : q = rows 128 x0 a (128 * b)) (hk : k = rows 256 x1 a (w0 b)) (hv : v = rows 256 x2 a (w0 b)) (q0 : Nat) (hb : q0 = 128 * b)
    (h1 : ∀ i, (![a, q0, 0] : Fin 3 → Nat) i + (![1, 128, 128] : Fin 3 → Nat) i ≤ S4x512x128.size i) (hc)
    (x : (Rect.unit (s := S4x512x128) ![a, q0, 0] ![1, 128, 128] h1).shape.Idx) :
    (shapeCast S1x128x128 (oBlk (dw b) q k v) hc : Vec F S1x128x128 .bf16) x
      = G3 x0 x1 x2 ((Rect.unit (s := S4x512x128) ![a, q0, 0] ![1, 128, 128] h1).emb x) := by
  subst hq hk hv hb
  have e0 : (x 0).val < 1 := (x 0).isLt
  have e1 : (x 1).val < 128 := (x 1).isLt
  have c0 : (((Rect.unit (s := S4x512x128) ![a, 128 * b, 0] ![1, 128, 128] h1).emb x) 0).val = a := by
    rw [Rect.emb_apply]; show a + 1 * (x 0).val = a; omega
  have c1 : (((Rect.unit (s := S4x512x128) ![a, 128 * b, 0] ![1, 128, 128] h1).emb x) 1).val = 128 * b + (x 1).val := by
    rw [Rect.emb_apply]; show 128 * b + 1 * (x 1).val = _; omega
  have c2 : (((Rect.unit (s := S4x512x128) ![a, 128 * b, 0] ![1, 128, 128] h1).emb x) 2).val = (x 2).val := by
    rw [Rect.emb_apply]; show 0 + 1 * (x 2).val = _; omega
  have c3 : (128 * b + (x 1).val) / 128 = b := by omega
  have c4 : (128 * b + (x 1).val) % 128 = (x 1).val := by omega
  unfold G3
  rw [c0, c1, c3, c4, shapeCast_addUnit_apply ![128, 128]]
  refine congrArg _ (funext fun i => Fin.ext ?_)
  match i with
  | ⟨0, _⟩ => show (x 1).val = (x 1).val % 128; omega
  | ⟨1, _⟩ => exact c2.symm

/-- A store of a block of the log-sum-exp, at its place. -/
theorem l_piece (i : grid0.Coords) (x0 x1 : Vec F S4x512x128 .bf16) (old : Vec F S4x512x128 .f32) (a b : Nat)
    (q : Vec F S128x128 .bf16) (k : Vec F S256x128 .bf16) (o : Vec F S128x128 .f32)
    (hq : q = rows 128 x0 a (128 * b)) (hk : k = rows 256 x1 a (w0 b)) (ho : o = rows 128 old a (128 * b)) (q0 : Nat) (hb : q0 = 128 * b)
    (h1 : ∀ i, (![a, 0, 0] : Fin 3 → Nat) i + (![1, 512, 128] : Fin 3 → Nat) i ≤ S4x512x128.size i)
    (h2 : ∀ i, (![q0, 0] : Fin 2 → Nat) i + (![128, 128] : Fin 2 → Nat) i ≤ S512x128.size i) (p1 p2 h3 hR)
    (x : ((Rect.unit (s := S4x512x128) ![a, 0, 0] ![1, 512, 128] h1).within
      ((Rect.unit (s := S512x128) ![q0, 0] ![128, 128] h2).consLift ![1, 512, 128] p1 p2) h3).shape.Idx) :
    (Rect.payAlong (r := Rect.unit (s := S512x128) ![q0, 0] ![128, 128] h2) hR (lBlk i (dw b) q k o : Vec F S128x128 .f32)) x
      = G4 i x0 x1 old (((Rect.unit (s := S4x512x128) ![a, 0, 0] ![1, 512, 128] h1).within
      ((Rect.unit (s := S512x128) ![q0, 0] ![128, 128] h2).consLift ![1, 512, 128] p1 p2) h3).emb x) := by
  subst hq hk ho hb
  have e1 : (x 1).val < 128 := (x 1).isLt
  have e0 : (x 0).val < 1 := (x 0).isLt
  generalize hy : (((Rect.unit (s := S4x512x128) ![a, 0, 0] ![1, 512, 128] h1).within
      ((Rect.unit (s := S512x128) ![128 * b, 0] ![128, 128] h2).consLift ![1, 512, 128] p1 p2) h3).emb x) = y
  have c0 : (y 0).val = a := by
    rw [← hy, Rect.emb_apply]; show (a + 0) + 1 * (x 0).val = a; omega
  have c1 : (y 1).val = 128 * b + (x 1).val := by
    rw [← hy, Rect.emb_apply]; show (0 + 128 * b) + 1 * (x 1).val = _; omega
  have c2 : (y 2).val = (x 2).val := by
    rw [← hy, Rect.emb_apply]; show (0 + 0) + 1 * (x 2).val = _; omega
  have c3 : (128 * b + (x 1).val) / 128 = b := by omega
  have c4 : (128 * b + (x 1).val) % 128 = (x 1).val := by omega
  unfold G4
  rw [c0, c1, c3, c4]
  refine Rect.payAlong_consLift (Rect.unit (s := S512x128) ![128 * b, 0] ![128, 128] h2) ![1, 512, 128] p1 p2 _ hR x
    (ix2 (Fin.ofNat 128 (x 1).val) (y 2)) ?_
  intro i
  match i with
  | ⟨0, _⟩ => show (x 1).val % 128 = (x 1).val; omega
  | ⟨1, _⟩ => exact c2

/-- What a block stores of the log-sum-exp in its own lanes does not depend on what was there. -/
theorem lBlk_mine (i : grid0.Coords) (d : BitVec 32) (q : Vec F S128x128 .bf16) (k : Vec F S256x128 .bf16) (o o' : Vec F S128x128 .f32)
    (z : S128x128.Idx) (h : k0_pay4 i z = 1#1 ∨ k0_pay5 i z = 1#1) : lBlk i d q k o z = lBlk i d q k o' z := by
  unfold lBlk select
  rcases h with h | h <;> simp [h, Scalar.select]

/-- The lanes of an index of the log-sum-exp block that the grid point sets. -/
def Mine (i : grid0.Coords) (l : Fin 128) : Prop := ∀ r : Fin 128, k0_pay4 i (ix2 r l) = 1#1 ∨ k0_pay5 i (ix2 r l) = 1#1

end Cert.Att
end
-- ==== Proof.Att.Pieces.lean ====
module

public import proofs.«01_k».proof.Proof.Att.Place

@[expose] public section
set_option maxRecDepth 16384
set_option maxHeartbeats 4000000
noncomputable section

namespace Cert.Att
open Idealize.ShloMosaic Idealize.ShloMosaic.TcCoe Idealize.ShloMosaic.Tactic Cert.KernelIdeal Cert.KernelIdeal.Gen

variable {F : FTy → Type} [FloatOps F] [Named F]

/-! ## The stores of a grid point, against the block functions -/

/-- A store of the output from the rows it loads. -/
theorem o_store (arg2 arg3 arg4 : Memref sig .tc .vmem S4x512x128 .bf16) (harg2 : arg2.IsWhole) (harg3 : arg3.IsWhole) (harg4 : arg4.IsWhole)
    (x0 x1 x2 : Vec F S4x512x128 .bf16) (a q0 : Nat) (hb : q0 = 128 * (q0 / 128))
    (h1 : ∀ i, (![a, 0, 0] : Fin 3 → Nat) i + (![1, 512, 128] : Fin 3 → Nat) i ≤ S4x512x128.size i)
    (g2 : ∀ i, (![q0, 0] : Fin 2 → Nat) i + (![128, 128] : Fin 2 → Nat) i ≤ S512x128.size i)
    (g3 : ∀ i, (![w0 (q0 / 128), 0] : Fin 2 → Nat) i + (![256, 128] : Fin 2 → Nat) i ≤ S512x128.size i)
    (hp : ∀ i, (![a, q0, 0] : Fin 3 → Nat) i + (![1, 128, 128] : Fin 3 → Nat) i ≤ S4x512x128.size i) (p1 p2 h3 r2 r3 hc)
    (x : (Rect.unit (s := S4x512x128) ![a, q0, 0] ![1, 128, 128] hp).shape.Idx) :
    (shapeCast S1x128x128 (oBlk (dw (q0 / 128))
        (LoadRect.valAlong (lr := (Rect.unit (s := S512x128) ![q0, 0] ![128, 128] g2).toLoadRect) r2
          (View.readAt (Elt F) arg2.view ((Rect.unit (s := S4x512x128) ![a, 0, 0] ![1, 512, 128] h1).withinL
            ((Rect.unit (s := S512x128) ![q0, 0] ![128, 128] g2).toLoadRect.consLift ![1, 512, 128] p1 p2) h3) (harg2.unread x0)))
        (LoadRect.valAlong (lr := (Rect.unit (s := S512x128) ![w0 (q0 / 128), 0] ![256, 128] g3).toLoadRect) r3
          (View.readAt (Elt F) arg3.view ((Rect.unit (s := S4x512x128) ![a, 0, 0] ![1, 512, 128] h1).withinL
            ((Rect.unit (s := S512x128) ![w0 (q0 / 128), 0] ![256, 128] g3).toLoadRect.consLift ![1, 512, 128] p1 p2) h3) (harg3.unread x1)))
        (LoadRect.valAlong (lr := (Rect.unit (s := S512x128) ![w0 (q0 / 128), 0] ![256, 128] g3).toLoadRect) r3
          (View.readAt (Elt F) arg4.view ((Rect.unit (s := S4x512x128) ![a, 0, 0] ![1, 512, 128] h1).withinL
            ((Rect.unit (s := S512x128) ![w0 (q0 / 128), 0] ![256, 128] g3).toLoadRect.consLift ![1, 512, 128] p1 p2) h3) (harg4.unread x2)))) hc : Vec F S1x128x128 .bf16) x
      = G3 x0 x1 x2 ((Rect.unit (s := S4x512x128) ![a, q0, 0] ![1, 128, 128] hp).emb x) :=
  o_piece x0 x1 x2 a (q0 / 128) _ _ _ (by rw [rd arg2 harg2 x0 a q0 128 h1 g2 p1 p2 h3 r2, ← hb]) (rd arg3 harg3 x1 a _ 256 h1 g3 p1 p2 h3 r3)
    (rd arg4 harg4 x2 a _ 256 h1 g3 p1 p2 h3 r3) q0 hb hp hc x

/-- A store of the log-sum-exp over what was there before. -/
theorem l_store (i : grid0.Coords) (arg2 arg3 : Memref sig .tc .vmem S4x512x128 .bf16) (arg6 : Memref sig .tc .vmem S4x512x128 .f32)
    (harg2 : arg2.IsWhole) (harg3 : arg3.IsWhole) (harg6 : arg6.IsWhole)
    (x0 x1 : Vec F S4x512x128 .bf16) (old : Vec F S4x512x128 .f32) (a q0 : Nat) (hb : q0 = 128 * (q0 / 128))
    (h1 : ∀ i, (![a, 0, 0] : Fin 3 → Nat) i + (![1, 512, 128] : Fin 3 → Nat) i ≤ S4x512x128.size i)
    (g2 : ∀ i, (![q0, 0] : Fin 2 → Nat) i + (![128, 128] : Fin 2 → Nat) i ≤ S512x128.size i)
    (g3 : ∀ i, (![w0 (q0 / 128), 0] : Fin 2 → Nat) i + (![256, 128] : Fin 2 → Nat) i ≤ S512x128.size i) (p1 p2 h3 r2 r3 hR)
    (x : ((Rect.unit (s := S4x512x128) ![a, 0, 0] ![1, 512, 128] h1).within
      ((Rect.unit (s := S512x128) ![q0, 0] ![128, 128] g2).consLift ![1, 512, 128] p1 p2) h3).shape.Idx) :
    (Rect.payAlong (r := Rect.unit (s := S512x128) ![q0, 0] ![128, 128] g2) hR (lBlk i (dw (q0 / 128))
        (LoadRect.valAlong (lr := (Rect.unit (s := S512x128) ![q0, 0] ![128, 128] g2).toLoadRect) r2
          (View.readAt (Elt F) arg2.view ((Rect.unit (s := S4x512x128) ![a, 0, 0] ![1, 512, 128] h1).withinL
            ((Rect.unit (s := S512x128) ![q0, 0] ![128, 128] g2).toLoadRect.consLift ![1, 512, 128] p1 p2) h3) (harg2.unread x0)))
        (LoadRect.valAlong (lr := (Rect.unit (s := S512x128) ![w0 (q0 / 128), 0] ![256, 128] g3).toLoadRect) r3
          (View.readAt (Elt F) arg3.view ((Rect.unit (s := S4x512x128) ![a, 0, 0] ![1, 512, 128] h1).withinL
            ((Rect.unit (s := S512x128) ![w0 (q0 / 128), 0] ![256, 128] g3).toLoadRect.consLift ![1, 512, 128] p1 p2) h3) (harg3.unread x1)))
        (LoadRect.valAlong (lr := (Rect.unit (s := S512x128) ![q0, 0] ![128, 128] g2).toLoadRect) r2
          (View.readAt (Elt F) arg6.view ((Rect.unit (s := S4x512x128) ![a, 0, 0] ![1, 512, 128] h1).withinL
            ((Rect.unit (s := S512x128) ![q0, 0] ![128, 128] g2).toLoadRect.consLift ![1, 512, 128] p1 p2) h3) (harg6.unread old))) : Vec F S128x128 .f32)) x
      = G4 i x0 x1 old (((Rect.unit (s := S4x512x128) ![a, 0, 0] ![1, 512, 128] h1).within
      ((Rect.unit (s := S512x128) ![q0, 0] ![128, 128] g2).consLift ![1, 512, 128] p1 p2) h3).emb x) :=
  l_piece i x0 x1 old a (q0 / 128) _ _ _ (by rw [rd arg2 harg2 x0 a q0 128 h1 g2 p1 p2 h3 r2, ← hb]) (rd arg3 harg3 x1 a _ 256 h1 g3 p1 p2 h3 r3)
    (by rw [rd arg6 harg6 old a q0 128 h1 g2 p1 p2 h3 r2, ← hb]) q0 hb h1 g2 p1 p2 h3 hR x

/-- A store of the log-sum-exp, in the lanes of the grid point, whatever was there. -/
theorem l_store_mine (i : grid0.Coords) (arg2 arg3 : Memref sig .tc .vmem S4x512x128 .bf16)
    (harg2 : arg2.IsWhole) (harg3 : arg3.IsWhole)
    (x0 x1 : Vec F S4x512x128 .bf16) (old : Vec F S4x512x128 .f32) (a q0 : Nat) (hb : q0 = 128 * (q0 / 128))
    (h1 : ∀ i, (![a, 0, 0] : Fin 3 → Nat) i + (![1, 512, 128] : Fin 3 → Nat) i ≤ S4x512x128.size i)
    (g2 : ∀ i, (![q0, 0] : Fin 2 → Nat) i + (![128, 128] : Fin 2 → Nat) i ≤ S512x128.size i)
    (g3 : ∀ i, (![w0 (q0 / 128), 0] : Fin 2 → Nat) i + (![256, 128] : Fin 2 → Nat) i ≤ S512x128.size i) (p1 p2 h3 r2 r3 hR)
    (x : ((Rect.unit (s := S4x512x128) ![a, 0, 0] ![1, 512, 128] h1).within
      ((Rect.unit (s := S512x128) ![q0, 0] ![128, 128] g2).consLift ![1, 512, 128] p1 p2) h3).shape.Idx)
    (o : ((Rect.unit (s := S4x512x128) ![a, 0, 0] ![1, 512, 128] h1).withinL
      ((Rect.unit (s := S512x128) ![q0, 0] ![128, 128] g2).toLoadRect.consLift ![1, 512, 128] p1 p2) h3).shape.Idx → Elt F .f32)
    (hm : Mine i ((((Rect.unit (s := S4x512x128) ![a, 0, 0] ![1, 512, 128] h1).within
      ((Rect.unit (s := S512x128) ![q0, 0] ![128, 128] g2).consLift ![1, 512, 128] p1 p2) h3).emb x) 2)) :
    (Rect.payAlong (r := Rect.unit (s := S512x128) ![q0, 0] ![128, 128] g2) hR (lBlk i (dw (q0 / 128))
        (LoadRect.valAlong (lr := (Rect.unit (s := S512x128) ![q0, 0] ![128, 128] g2).toLoadRect) r2
          (View.readAt (Elt F) arg2.view ((Rect.unit (s := S4x512x128) ![a, 0, 0] ![1, 512, 128] h1).withinL
            ((Rect.unit (s := S512x128) ![q0, 0] ![128, 128] g2).toLoadRect.consLift ![1, 512, 128] p1 p2) h3) (harg2.unread x0)))
        (LoadRect.valAlong (lr := (Rect.unit (s := S512x128) ![w0 (q0 / 128), 0] ![256, 128] g3).toLoadRect) r3
          (View.readAt (Elt F) arg3.view ((Rect.unit (s := S4x512x128) ![a, 0, 0] ![1, 512, 128] h1).withinL
            ((Rect.unit (s := S512x128) ![w0 (q0 / 128), 0] ![256, 128] g3).toLoadRect.consLift ![1, 512, 128] p1 p2) h3) (harg3.unread x1)))
        (LoadRect.valAlong (lr := (Rect.unit (s := S512x128) ![q0, 0] ![128, 128] g2).toLoadRect) r2 o) : Vec F S128x128 .f32)) x
      = G4 i x0 x1 old (((Rect.unit (s := S4x512x128) ![a, 0, 0] ![1, 512, 128] h1).within
      ((Rect.unit (s := S512x128) ![q0, 0] ![128, 128] g2).consLift ![1, 512, 128] p1 p2) h3).emb x) := by
  have hq := (rd arg2 harg2 x0 a q0 128 h1 g2 p1 p2 h3 r2).trans (congrArg (rows 128 x0 a) hb)
  refine Eq.trans ?_ (l_piece i x0 x1 old a (q0 / 128) _ _ (rows 128 old a (128 * (q0 / 128))) hq
    (rd arg3 harg3 x1 a _ 256 h1 g3 p1 p2 h3 r3) rfl q0 hb h1 g2 p1 p2 h3 hR x)
  refine lBlk_mine i _ _ _ _ _ _ ?_
  have e2 : ((((Rect.unit (s := S4x512x128) ![a, 0, 0] ![1, 512, 128] h1).within
      ((Rect.unit (s := S512x128) ![q0, 0] ![128, 128] g2).consLift ![1, 512, 128] p1 p2) h3).emb x) 2)
      = (Shape.reshapeEquiv hR x) 1 := by
    apply Fin.ext
    refine Eq.trans ?_ (Rect.reshapeEquiv_consLift_succ (Rect.unit (s := S512x128) ![q0, 0] ![128, 128] g2) ![1, 512, 128] p1 p2 x 1)
    rw [Rect.emb_apply]; show (0 + 0) + 1 * (x 2).val = (x 2).val; omega
  have h := hm ((Shape.reshapeEquiv hR x) 0)
  rw [e2] at h
  have e : Shape.reshapeEquiv hR x = ix2 ((Shape.reshapeEquiv hR x) 0) ((Shape.reshapeEquiv hR x) 1) := (ix2_eta _).symm
  rw [e]
  exact h

/-- Every store of the output, case A. -/
theorem stores3_A (c : Dev nD) (i : grid0.Coords) (arg2 : Memref sig .tc .vmem S4x512x128 .bf16) (harg2 : arg2.IsWhole) (arg3 : Memref sig .tc .vmem S4x512x128 .bf16) (harg3 : arg3.IsWhole)
    (arg4 : Memref sig .tc .vmem S4x512x128 .bf16) (harg4 : arg4.IsWhole) (arg5 : Memref sig .tc .vmem S4x512x128 .bf16) (harg5 : arg5.IsWhole)
    (arg6 : Memref sig .tc .vmem S4x512x128 .f32) (harg6 : arg6.IsWhole) (hc0 : cond0_0 i)
    (x0 x1 x2 : Vec F S4x512x128 .bf16) :
    ∀ p ∈ (kernelRun0_A c i arg2 harg2 arg3 harg3 arg4 harg4 arg5 harg5 arg6 harg6 hc0 x0 x1 x2).1, ∀ x, p.2 x = G3 x0 x1 x2 (p.1.emb x) := by
  unfold kernelRun0_A
  dsimp only
  repeat' (refine List.forall_mem_cons.2 ⟨?_, ?_⟩)
  all_goals first
    | exact List.forall_mem_nil _
    | (intro x
       dsimp only at x
       refine Eq.trans ?_ (o_store arg2 arg3 arg4 harg2 harg3 harg4 x0 x1 x2 _ _ rfl (by decide) (by decide) (by decide) (by decide) rfl (by decide) (by decide) rfl rfl shapeCasts_S128x128_S1x128x128 x)
       refine congrFun ?_ x
       dsimp only
       sl_unfold_words
       rfl)

/-- Every store of the output, case B. -/
theorem stores3_B (c : Dev nD) (i : grid0.Coords) (arg2 : Memref sig .tc .vmem S4x512x128 .bf16) (harg2 : arg2.IsWhole) (arg3 : Memref sig .tc .vmem S4x512x128 .bf16) (harg3 : arg3.IsWhole)
    (arg4 : Memref sig .tc .vmem S4x512x128 .bf16) (harg4 : arg4.IsWhole) (arg5 : Memref sig .tc .vmem S4x512x128 .bf16) (harg5 : arg5.IsWhole)
    (arg6 : Memref sig .tc .vmem S4x512x128 .f32) (harg6 : arg6.IsWhole) (hc0 : ¬cond0_0 i)
    (x0 x1 x2 : Vec F S4x512x128 .bf16) (xo4 : Vec F S4x512x128 .f32) :
    ∀ p ∈ (kernelRun0_B c i arg2 harg2 arg3 harg3 arg4 harg4 arg5 harg5 arg6 harg6 hc0 x0 x1 x2 xo4).1, ∀ x, p.2 x = G3 x0 x1 x2 (p.1.emb x) := by
  unfold kernelRun0_B
  dsimp only
  repeat' (refine List.forall_mem_cons.2 ⟨?_, ?_⟩)
  all_goals first
    | exact List.forall_mem_nil _
    | (intro x
       dsimp only at x
       refine Eq.trans ?_ (o_store arg2 arg3 arg4 harg2 harg3 harg4 x0 x1 x2 _ _ rfl (by decide) (by decide) (by decide) (by decide) rfl (by decide) (by decide) rfl rfl shapeCasts_S128x128_S1x128x128 x)
       refine congrFun ?_ x
       dsimp only
       sl_unfold_words
       rfl)

/-- Every store of the log-sum-exp, after the first grid point of a group. -/
theorem stores4_B (c : Dev nD) (i : grid0.Coords) (arg2 : Memref sig .tc .vmem S4x512x128 .bf16) (harg2 : arg2.IsWhole) (arg3 : Memref sig .tc .vmem S4x512x128 .bf16) (harg3 : arg3.IsWhole)
    (arg4 : Memref sig .tc .vmem S4x512x128 .bf16) (harg4 : arg4.IsWhole) (arg5 : Memref sig .tc .vmem S4x512x128 .bf16) (harg5 : arg5.IsWhole)
    (arg6 : Memref sig .tc .vmem S4x512x128 .f32) (harg6 : arg6.IsWhole) (hc0 : ¬cond0_0 i)
    (x0 x1 x2 : Vec F S4x512x128 .bf16) (xo4 : Vec F S4x512x128 .f32) :
    ∀ p ∈ (kernelRun0_B c i arg2 harg2 arg3 harg3 arg4 harg4 arg5 harg5 arg6 harg6 hc0 x0 x1 x2 xo4).2.1, ∀ x, p.2 x = G4 i x0 x1 xo4 (p.1.emb x) := by
  unfold kernelRun0_B
  dsimp only
  repeat' (refine List.forall_mem_cons.2 ⟨?_, ?_⟩)
  all_goals first
    | exact List.forall_mem_nil _
    | (intro x
       dsimp only at x
       refine Eq.trans ?_ (l_store i arg2 arg3 arg6 harg2 harg3 harg6 x0 x1 xo4 _ _ rfl (by decide) (by decide) (by decide) rfl (by decide) (by decide) rfl rfl rfl x)
       refine congrFun ?_ x
       dsimp only
       sl_unfold_words
       rfl)

end Cert.Att
end
-- ==== Proof.Att.PiecesA.lean ====
module

public import proofs.«01_k».proof.Proof.Att.Pieces

@[expose] public section
set_option maxRecDepth 16384
set_option maxHeartbeats 1000000
noncomputable section

namespace Cert.Att
open Idealize.ShloMosaic Idealize.ShloMosaic.TcCoe Idealize.ShloMosaic.Tactic Cert.KernelIdeal Cert.KernelIdeal.Gen

variable {F : FTy → Type} [FloatOps F] [Named F]

open kernelRun0_A.sl in
/-- Every store of the log-sum-exp at the first grid point of a group but the fill with zeros, in the lanes of the point. -/
theorem stores4_A (c : Dev nD) (i : grid0.Coords) (arg2 : Memref sig .tc .vmem S4x512x128 .bf16) (harg2 : arg2.IsWhole) (arg3 : Memref sig .tc .vmem S4x512x128 .bf16) (harg3 : arg3.IsWhole)
    (arg4 : Memref sig .tc .vmem S4x512x128 .bf16) (harg4 : arg4.IsWhole) (arg5 : Memref sig .tc .vmem S4x512x128 .bf16) (harg5 : arg5.IsWhole)
    (arg6 : Memref sig .tc .vmem S4x512x128 .f32) (harg6 : arg6.IsWhole) (hc0 : cond0_0 i)
    (x0 x1 x2 : Vec F S4x512x128 .bf16) (old : Vec F S4x512x128 .f32) :
    ∀ p ∈ (kernelRun0_A c i arg2 harg2 arg3 harg3 arg4 harg4 arg5 harg5 arg6 harg6 hc0 x0 x1 x2).2.1.take 16, ∀ x,
      Mine i (p.1.emb x 2) → p.2 x = G4 i x0 x1 old (p.1.emb x) := by
  unfold kernelRun0_A
  dsimp only
  have put := l_store_mine i arg2 arg3 harg2 harg3 x0 x1 old
  repeat' (refine List.forall_mem_cons.2 ⟨?_, ?_⟩)
  refine fun x hm => Eq.trans ?_ (put 3 384 rfl (by decide) (by decide) (by decide) rfl (by decide) (by decide) rfl rfl rfl x (v1469 c i arg2 harg2 arg3 harg3 arg6 x0 x1) hm); rotate_left
  refine fun x hm => Eq.trans ?_ (put 3 256 rfl (by decide) (by decide) (by decide) rfl (by decide) (by decide) rfl rfl rfl x (v1448 c i arg2 harg2 arg3 harg3 arg6 x0 x1) hm); rotate_left
  refine fun x hm => Eq.trans ?_ (put 3 128 rfl (by decide) (by decide) (by decide) rfl (by decide) (by decide) rfl rfl rfl x (v1427 c i arg2 harg2 arg3 harg3 arg6 x0 x1) hm); rotate_left
  refine fun x hm => Eq.trans ?_ (put 3 0 rfl (by decide) (by decide) (by decide) rfl (by decide) (by decide) rfl rfl rfl x (v1406 c i arg2 harg2 arg3 harg3 arg6 x0 x1) hm); rotate_left
  refine fun x hm => Eq.trans ?_ (put 2 384 rfl (by decide) (by decide) (by decide) rfl (by decide) (by decide) rfl rfl rfl x (v1105 c i arg2 harg2 arg3 harg3 arg6 x0 x1) hm); rotate_left
  refine fun x hm => Eq.trans ?_ (put 2 256 rfl (by decide) (by decide) (by decide) rfl (by decide) (by decide) rfl rfl rfl x (v1084 c i arg2 harg2 arg3 harg3 arg6 x0 x1) hm); rotate_left
  refine fun x hm => Eq.trans ?_ (put 2 128 rfl (by decide) (by decide) (by decide) rfl (by decide) (by decide) rfl rfl rfl x (v1063 c i arg2 harg2 arg3 harg3 arg6 x0 x1) hm); rotate_left
  refine fun x hm => Eq.trans ?_ (put 2 0 rfl (by decide) (by decide) (by decide) rfl (by decide) (by decide) rfl rfl rfl x (v1042 c i arg2 harg2 arg3 harg3 arg6 x0 x1) hm); rotate_left
  refine fun x hm => Eq.trans ?_ (put 1 384 rfl (by decide) (by decide) (by decide) rfl (by decide) (by decide) rfl rfl rfl x (v741 c i arg2 harg2 arg3 harg3 arg6 x0 x1) hm); rotate_left
  refine fun x hm => Eq.trans ?_ (put 1 256 rfl (by decide) (by decide) (by decide) rfl (by decide) (by decide) rfl rfl rfl x (v720 c i arg2 harg2 arg3 harg3 arg6 x0 x1) hm); rotate_left
  refine fun x hm => Eq.trans ?_ (put 1 128 rfl (by decide) (by decide) (by decide) rfl (by decide) (by decide) rfl rfl rfl x (v699 c i arg2 harg2 arg3 harg3 arg6 x0 x1) hm); rotate_left
  refine fun x hm => Eq.trans ?_ (put 1 0 rfl (by decide) (by decide) (by decide) rfl (by decide) (by decide) rfl rfl rfl x (v678 c i arg2 harg2 arg3 harg3 arg6 x0 x1) hm); rotate_left
  refine fun x hm => Eq.trans ?_ (put 0 384 rfl (by decide) (by decide) (by decide) rfl (by decide) (by decide) rfl rfl rfl x (v377 c i arg2 harg2 arg3 harg3 arg6 x0 x1) hm); rotate_left
  refine fun x hm => Eq.trans ?_ (put 0 256 rfl (by decide) (by decide) (by decide) rfl (by decide) (by decide) rfl rfl rfl x (v356 c i arg2 harg2 arg3 harg3 arg6 x0 x1) hm); rotate_left
  refine fun x hm => Eq.trans ?_ (put 0 128 rfl (by decide) (by decide) (by decide) rfl (by decide) (by decide) rfl rfl rfl x (v335 c i arg2 harg2 arg3 harg3 arg6 x0 x1) hm); rotate_left
  refine fun x hm => Eq.trans ?_ (put 0 0 rfl (by decide) (by decide) (by decide) rfl (by decide) (by decide) rfl rfl rfl x (v314 c arg6) hm); rotate_left
  exact List.forall_mem_nil _
  all_goals
      (refine congrFun ?_ x
       dsimp only [
           cst_34, cst_281, cst_662, r, r_1, r_2, r_3, r_4, r_5, r_6, r_7, r_8, r_9, r_10, r_11, r_12, r_13, r_14, r_15, r_16, r_17, r_18, r_19, r_20,
           r_21, r_22, r_23, r_24, r_25, r_26, r_27, r_28, r_29, r_30, r_31, r_32, r_33, r_34, r_35, r_36, r_37, r_38, r_39, r_40, r_41, r_42, r_43,
           r_44, r_45, r_46, r_47, r_48, r_49, r_50, r_51, r_52, r_53, r_54, r_55, r_56, r_57, r_58, r_59, r_60, r_61, r_62, r_63, r_64, r_65, r_66,
           r_67, r_68, r_69, r_70, r_71, r_72, r_73, r_74, r_75, r_76, r_77, r_78, r_79, r_80, r_81, r_82, r_83, r_84, r_85, r_86, r_87, r_88, r_89,
           r_90, r_91, r_92, r_93, r_94, r_95, r_96, r_97, r_98, r_99, r_100, r_101, r_102, r_103, r_104, r_105, r_106, r_107, r_108, r_109, r_110,
           r_111, r_112, r_113, r_114, r_115, r_116, r_117, r_118, r_119, r_120, r_121, r_122, r_123, r_124, r_125, r_126, r_127, r_128, r_129, r_130,
           r_131, r_132, r_133, r_134, r_135, r_136, r_137, r_138, r_139, r_140, r_141, r_142, r_143, r_144, r_145, r_146, r_147, r_148, r_149, r_150,
           r_151, r_152, r_153, r_154, r_155, r_156, r_157, r_158, r_159, r_160, r_161, r_162, r_163, r_164, r_165, r_166, r_167, r_168, r_169, r_170,
           r_171, r_172, r_173, r_174, r_175, r_176, r_177, r_178, r_179, r_180, r_181, r_182, r_183, r_184, r_185, r_186, r_187, r_188, r_189, r_190,
           r_191, r_192, r_193, r_194, r_195, r_196, r_197, r_198, r_199, r_200, r_201, r_202, r_203, r_204, r_205, r_206, r_207, r_208, r_209, r_210,
           r_211, r_212, r_213, r_214, r_215, r_216, r_217, r_218, r_219, r_220, r_221, r_222, r_223, r_224, r_225, r_226, r_227, r_228, r_229, r_230,
           r_231, r_232, r_233, r_234, r_235, r_236, r_237, r_238, r_239, r_240, r_241, r_242, r_243, r_244, r_245, r_246, r_247, r_248, r_249, r_250,
           r_251, r_252, r_253, r_254, r_255, r_256, r_257, r_258, r_259, r_260, r_261, r_262, r_263, r_264, r_265, r_266, r_267, r_268, r_269, r_270,
           r_271, r_272, r_273, r_274, r_275, r_276, r_277, r_278, r_279, r_280, r_281, r_282, r_283, r_284, r_285, r_286, r_287, r_288, r_289, r_290,
           r_291, r_292, r_293, r_294, r_295, r_296, r_297, r_298, v0, v1, v2, v60, v68, v76, v84, v92, v96, v100, v104, v108, v112, v116, v120, v424,
           v432, v440, v448, v456, v460, v464, v468, v472, v476, v480, v484, v788, v796, v804, v812, v820, v824, v828, v832, v836, v840, v844, v848,
           v1152, v1160, v1168, v1176, v1184, v1188, v1192, v1196, v1200, v1204, v1208, v1212]
       rfl)

end Cert.Att
end
-- ==== Proof.Att.Math.lean ====
module

public import Idealize.ShloMosaic.Lib.Pointwise

@[expose] public section
noncomputable section

namespace Cert.Att
open Idealize.ShloMosaic

/-! ## Softmax over extended reals -/

/-- The largest of finitely many scores. -/
def top {n : Nat} (s : Fin n → EReal) : EReal := Finset.univ.fold max ⊥ s

/-- The sum of the exponentials of the scores less the largest. -/
def den {n : Nat} (s : Fin n → EReal) : EReal := ∑ j, Ideal.exp (s j - top s)

/-- The softmax-weighted mean of `v`. -/
def att {n : Nat} (s v : Fin n → EReal) : EReal := Ideal.div (∑ j, Ideal.exp (s j - top s) * v j) (den s)

/-- The log-sum-exp. -/
def lse {n : Nat} (s : Fin n → EReal) : EReal := top s + Ideal.log (den s)

/-- A positive real factor distributes over a sum of two. -/
theorem add_mul_pos {c : ℝ} (hc : 0 < c) (x y : EReal) : (x + y) * (c : EReal) = x * c + y * c := by
  rw [mul_comm, EReal.left_distrib_of_nonneg_of_ne_top (by exact_mod_cast hc.le) (EReal.coe_ne_top c), mul_comm x, mul_comm y]

/-- A positive real factor distributes over a finite sum. -/
theorem sum_mul_pos {ι : Type} (t : Finset ι) {c : ℝ} (hc : 0 < c) (f : ι → EReal) : (∑ i ∈ t, f i) * (c : EReal) = ∑ i ∈ t, f i * c := by
  classical
  induction t using Finset.induction_on with
  | empty => simp
  | insert a t ha ih => rw [Finset.sum_insert ha, Finset.sum_insert ha, add_mul_pos hc, ih]

/-- A positive real factor distributes over a difference. -/
theorem sub_mul_pos {c : ℝ} (hc : 0 < c) (x y : EReal) : (x - y) * (c : EReal) = x * c - y * c := by
  rw [sub_eq_add_neg, add_mul_pos hc, EReal.neg_mul, sub_eq_add_neg]

/-- Undoing a positive real factor. -/
theorem mul_pos_cancel {c : ℝ} (hc : 0 < c) (x : EReal) : x * (c : EReal) * ((c⁻¹ : ℝ) : EReal) = x := by
  rw [mul_assoc, ← EReal.coe_mul, mul_inv_cancel₀ hc.ne', EReal.coe_one, mul_one]

/-- The maximum scales with a positive real factor. -/
theorem max_mul_pos {c : ℝ} (hc : 0 < c) (x y : EReal) : max x y * (c : EReal) = max (x * c) (y * c) := by
  have h : Monotone fun z : EReal => z * (c : EReal) := fun a b hab => by
    show a * (c : EReal) ≤ b * c
    exact mul_le_mul_of_nonneg_right hab (by exact_mod_cast hc.le)
  exact h.map_max

/-- Minus infinity times a positive real. -/
theorem bot_mul_pos {c : ℝ} (hc : 0 < c) : (⊥ : EReal) * (c : EReal) = ⊥ := EReal.bot_mul_coe_of_pos hc

/-- The base-two exponential of a score in units of `log 2` is the exponential. -/
theorem exp2_scaled (x : EReal) : Ideal.exp2 (x * (((Real.log 2)⁻¹ : ℝ) : EReal)) = Ideal.exp x := by
  have h2 : 0 < Real.log 2 := Real.log_pos (by norm_num)
  have hc : 0 < (Real.log 2)⁻¹ := inv_pos.mpr h2
  induction x with
  | bot => rw [bot_mul_pos hc]; rfl
  | top => rw [EReal.top_mul_coe_of_pos hc]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = _
    rw [Real.rpow_def_of_pos (by norm_num)]
    congr 1
    field_simp

/-- An excluded key has no weight. -/
theorem exp_bot_sub (m : EReal) : Ideal.exp (⊥ - m) = 0 := by
  rw [sub_eq_add_neg, EReal.bot_add]; rfl

/-- A maximum from minus infinity on is the supremum. -/
theorem top_eq_sup {n : Nat} (s : Fin n → EReal) : top s = Finset.univ.sup s := rfl

/-- A window of 256 keys of 512, from `w` on. -/
def at' (w : Nat) (j : Fin 256) : Fin 512 := Fin.ofNat 512 (w + j.val)

theorem at'_val {w : Nat} (hw : w ≤ 256) (j : Fin 256) : (at' w j).val = w + j.val := by
  show (w + j.val) % 512 = _; have := j.isLt; omega

/-- A sum over all keys of what is zero outside the window is the sum over the window. -/
theorem sum_window {w : Nat} (hw : w ≤ 256) (f : Fin 512 → EReal) (h : ∀ j : Fin 512, ¬ (w ≤ j.val ∧ j.val < w + 256) → f j = 0) :
    ∑ j, f j = ∑ j : Fin 256, f (at' w j) := by
  symm
  refine Finset.sum_of_injOn (at' w) ?_ (fun _ _ => Finset.mem_coe.mpr (Finset.mem_univ _)) ?_ (fun _ _ => rfl)
  · intro a _ b _ hab
    have := congrArg Fin.val hab
    rw [at'_val hw, at'_val hw] at this
    exact Fin.ext (by omega)
  · intro j _ hj
    refine h j fun hin => hj ⟨⟨j.val - w, by omega⟩, Finset.mem_coe.mpr (Finset.mem_univ _), ?_⟩
    exact Fin.ext (by rw [at'_val hw]; show w + (j.val - w) = j.val; omega)

/-- The largest score is in the window when the scores outside are minus infinity, and scales with a positive real. -/
theorem top_window {w : Nat} (hw : w ≤ 256) {c : ℝ} (hc : 0 < c) (s : Fin 512 → EReal) (t : Fin 256 → EReal)
    (ht : ∀ j, t j = s (at' w j) * (c : EReal)) (h : ∀ j : Fin 512, ¬ (w ≤ j.val ∧ j.val < w + 256) → s j = ⊥) : top t = top s * (c : EReal) := by
  rw [top_eq_sup, top_eq_sup]
  have hm : Monotone fun z : EReal => z * (c : EReal) := fun a b hab => by
    show a * (c : EReal) ≤ b * c
    exact mul_le_mul_of_nonneg_right hab (by exact_mod_cast hc.le)
  apply le_antisymm
  · refine Finset.sup_le fun j _ => ?_
    rw [ht]
    exact hm (Finset.le_sup (f := s) (Finset.mem_univ _))
  · obtain ⟨j, -, hj⟩ := Finset.exists_mem_eq_sup Finset.univ ⟨(0 : Fin 512), Finset.mem_univ _⟩ s
    rw [hj]
    by_cases hin : w ≤ j.val ∧ j.val < w + 256
    · have e : at' w ⟨j.val - w, by omega⟩ = j := Fin.ext (by rw [at'_val hw]; show w + (j.val - w) = j.val; omega)
      rw [← e, ← ht]
      exact Finset.le_sup (f := t) (Finset.mem_univ _)
    · rw [h j hin, bot_mul_pos hc]; exact bot_le

/-- The weights agree. -/
theorem weight_window {w : Nat} (hw : w ≤ 256) (s : Fin 512 → EReal) (t : Fin 256 → EReal)
    (ht : ∀ j, t j = s (at' w j) * (((Real.log 2)⁻¹ : ℝ) : EReal)) (h : ∀ j : Fin 512, ¬ (w ≤ j.val ∧ j.val < w + 256) → s j = ⊥) (j : Fin 256) :
    Ideal.exp2 (t j - top t) = Ideal.exp (s (at' w j) - top s) := by
  have hc : 0 < (Real.log 2)⁻¹ := inv_pos.mpr (Real.log_pos (by norm_num))
  rw [top_window hw hc s t ht h, ht, ← sub_mul_pos hc, exp2_scaled]

/-- The denominators agree. -/
theorem den_window {w : Nat} (hw : w ≤ 256) (s : Fin 512 → EReal) (t : Fin 256 → EReal)
    (ht : ∀ j, t j = s (at' w j) * (((Real.log 2)⁻¹ : ℝ) : EReal)) (h : ∀ j : Fin 512, ¬ (w ≤ j.val ∧ j.val < w + 256) → s j = ⊥) :
    ∑ j, Ideal.exp2 (t j - top t) = den s := by
  unfold den
  rw [sum_window hw _ fun j hj => by rw [h j hj, exp_bot_sub]]
  exact Finset.sum_congr rfl fun j _ => weight_window hw s t ht h j

/-- Attention over the window, in units of `log 2`, is attention over all keys. -/
theorem att_window {w : Nat} (hw : w ≤ 256) (s v : Fin 512 → EReal) (t u : Fin 256 → EReal)
    (ht : ∀ j, t j = s (at' w j) * (((Real.log 2)⁻¹ : ℝ) : EReal)) (h : ∀ j : Fin 512, ¬ (w ≤ j.val ∧ j.val < w + 256) → s j = ⊥)
    (hu : ∀ j, u j = v (at' w j)) :
    Ideal.div (∑ j, Ideal.exp2 (t j - top t) * u j) (∑ j, Ideal.exp2 (t j - top t)) = att s v := by
  rw [den_window hw s t ht h]
  unfold att
  rw [sum_window hw (fun j => Ideal.exp (s j - top s) * v j) fun j hj => by rw [h j hj, exp_bot_sub, zero_mul]]
  congr 1
  exact Finset.sum_congr rfl fun j _ => by rw [weight_window hw s t ht h j, hu]

/-- The log-sum-exp over the window, in units of `log 2`, is that over all keys. -/
theorem lse_window {w : Nat} (hw : w ≤ 256) (s : Fin 512 → EReal) (t : Fin 256 → EReal)
    (ht : ∀ j, t j = s (at' w j) * (((Real.log 2)⁻¹ : ℝ) : EReal)) (h : ∀ j : Fin 512, ¬ (w ≤ j.val ∧ j.val < w + 256) → s j = ⊥) :
    top t * ((Real.log 2 : ℝ) : EReal) + Ideal.log (∑ j, Ideal.exp2 (t j - top t)) = lse s := by
  have hc : 0 < (Real.log 2)⁻¹ := inv_pos.mpr (Real.log_pos (by norm_num))
  rw [den_window hw s t ht h, top_window hw hc s t ht h]
  have := mul_pos_cancel hc (top s)
  rw [inv_inv] at this
  rw [this]
  rfl

/-- A sum over the lanes of a pair of heads, the other head's lanes zeroed: the sum over the lanes of one. -/
theorem sum_half (a : Nat) (ha : a < 2) (f : Fin 128 → EReal) (h : ∀ l : Fin 128, l.val / 64 ≠ a → f l = 0) :
    ∑ l, f l = ∑ d : Fin 64, f ⟨64 * a + d.val, by omega⟩ := by
  symm
  refine Finset.sum_of_injOn (fun d : Fin 64 => (⟨64 * a + d.val, by omega⟩ : Fin 128)) ?_ (fun _ _ => Finset.mem_coe.mpr (Finset.mem_univ _)) ?_ (fun _ _ => rfl)
  · intro x _ y _ hab
    have := congrArg Fin.val hab
    exact Fin.ext (by dsimp only at this; omega)
  · intro l _ hl
    refine h l fun hin => hl ⟨⟨l.val % 64, by omega⟩, Finset.mem_coe.mpr (Finset.mem_univ _), ?_⟩
    exact Fin.ext (by show 64 * a + l.val % 64 = l.val; omega)

/-! ## Comparison words -/

/-- The word of `|a - b| ≤ 64` for small numbers. -/
theorem near_word (a b : Nat) (ha : a < 1024) (hb : b < 1024) :
    IntOp.cmpi .sle (IntOp.absi (BitVec.ofNat 32 a - BitVec.ofNat 32 b)) 64#32 = if a ≤ b + 64 ∧ b ≤ a + 64 then 1#1 else 0#1 := by
  have key : (BitVec.sle (IntOp.absi (BitVec.ofNat 32 a - BitVec.ofNat 32 b)) 64#32) = decide (a ≤ b + 64 ∧ b ≤ a + 64) := by
    unfold IntOp.absi
    rw [BitVec.msb_eq_decide]
    rcases Nat.lt_or_ge a b with h | h
    · have e : (BitVec.ofNat 32 a - BitVec.ofNat 32 b).toNat = 2 ^ 32 - (b - a) := by
        rw [BitVec.toNat_sub, BitVec.toNat_ofNat, BitVec.toNat_ofNat]; omega
      rw [if_pos (by rw [e]; simp; omega)]
      rw [BitVec.sle_eq_decide, decide_eq_decide, BitVec.toInt_eq_toNat_cond, BitVec.toInt_eq_toNat_cond, BitVec.toNat_neg, e]
      have e2 : (2 ^ 32 - (2 ^ 32 - (b - a))) % 2 ^ 32 = b - a := by omega
      rw [e2]
      simp
      split_ifs <;> omega
    · have e : (BitVec.ofNat 32 a - BitVec.ofNat 32 b).toNat = a - b := by
        rw [BitVec.toNat_sub, BitVec.toNat_ofNat, BitVec.toNat_ofNat]; omega
      rw [if_neg (by rw [e]; simp; omega)]
      rw [BitVec.sle_eq_decide, decide_eq_decide, BitVec.toInt_eq_toNat_cond, BitVec.toInt_eq_toNat_cond, e]
      simp
      split_ifs <;> omega
  unfold IntOp.cmpi
  dsimp only
  rw [key]
  by_cases h : a ≤ b + 64 ∧ b ≤ a + 64 <;> simp [h]

end Cert.Att
end
-- ==== Proof.Att.Value.lean ====
module

public import proofs.«01_k».proof.Proof.Att.Place
public import proofs.«01_k».proof.Proof.Att.Math

@[expose] public section
set_option maxRecDepth 16384
noncomputable section

namespace Cert.Att
open Idealize.ShloMosaic Idealize.ShloMosaic.TcCoe Cert.KernelIdeal Cert.KernelIdeal.Gen

/-! ## What a block computes, over the extended reals -/

theorem q_scale_val : Named.named (F := Ideal) κ "q_scale" (φ := .f32) 0x3E38AA3B#32 = (((1 / 8) * (Real.log 2)⁻¹ : ℝ) : EReal) :=
  IdealRules.named_const.ideal_named_scalar _ _ _ _ rfl

theorem mask_val : Named.named (F := Ideal) κ "mask" (φ := .f32) 0xF149F2CA#32 = (⊥ : EReal) :=
  IdealRules.named_const.ideal_named_scalar _ _ _ _ rfl

theorem ln2_val : Named.named (F := Ideal) κ "ln2" (φ := .f32) 0x3F317218#32 = ((Real.log 2 : ℝ) : EReal) :=
  IdealRules.named_const.ideal_named_scalar _ _ _ _ rfl

/-- Lane `d` of half `hh` of a pair of heads. -/
def lane (hh : Fin 2) (d : Fin 64) : Fin 128 := ⟨64 * hh.val + d.val, by omega⟩

/-- The masked, scaled scores of query `i` of class `a`, head `hh` of the pair, against all keys. -/
def score (x0 x1 : Vec Ideal S4x512x128 .bf16) (a : Fin 4) (hh : Fin 2) (i j : Fin 512) : EReal :=
  if j.val ≤ i.val + 64 ∧ i.val ≤ j.val + 64 then
    (∑ d : Fin 64, x0 (ix3 a i (lane hh d)) * x1 (ix3 a j (lane hh d))) * ((1 / 8 : ℝ) : EReal)
  else ⊥

/-- Query `r` of block `b`. -/
def qrow (b : Fin 4) (r : Fin 128) : Fin 512 := ⟨128 * b.val + r.val, by omega⟩

theorem w0_le (b : Nat) : w0 b ≤ 256 := Nat.min_le_right _ _

/-- The queries of half `hh`, the other half zeroed. -/
def qhalf (hh : Fin 2) (q : Vec Ideal S128x128 .bf16) : FVec Ideal S128x128 .bf16 := if hh = 0 then qlo q else qhi q

/-- The lane comparison word. -/
theorem lane_word (l : Fin 128) : IntOp.cmpi .sge (BitVec.ofNat 32 l.val) 64#32 = if 64 ≤ l.val then 1#1 else 0#1 := by
  revert l; decide

theorem qhalf_apply (hh : Fin 2) (q : Vec Ideal S128x128 .bf16) (r l : Fin 128) :
    qhalf hh q (ix2 r l) = if l.val / 64 = hh.val then q (ix2 r l) * (((1 / 8) * (Real.log 2)⁻¹ : ℝ) : EReal) else 0 := by
  have hl := l.isLt
  unfold qhalf
  match hh with
  | 0 =>
    rw [if_pos rfl]
    pointwise [qlo, qsc, k0_pay3]
    rw [lane_word, q_scale_val]
    by_cases h : 64 ≤ l.val
    · rw [if_pos h, if_neg (by show l.val / 64 ≠ 0; omega)]; rfl
    · rw [if_neg h, if_pos (by show l.val / 64 = 0; omega)]; rfl
  | 1 =>
    rw [if_neg (by decide)]
    pointwise [qhi, qsc, k0_pay3]
    rw [lane_word, q_scale_val]
    by_cases h : 64 ≤ l.val
    · rw [if_pos h, if_pos (by show l.val / 64 = 1; omega)]; rfl
    · rw [if_neg h, if_neg (by show l.val / 64 ≠ 1; omega)]; rfl

/-- The window word: how far a key of the window is from a query of the block. -/
theorem window_word (b : Fin 4) (r : Fin 128) (j : Fin 256) :
    IntOp.addi (IntOp.subi (BitVec.ofNat 32 j.val) (BitVec.ofNat 32 r.val)) (dw b.val)
      = BitVec.ofNat 32 (at' (w0 b.val) j).val - BitVec.ofNat 32 (qrow b r).val := by
  rw [at'_val (w0_le _)]
  show BitVec.ofNat 32 j.val - BitVec.ofNat 32 r.val + (BitVec.ofNat 32 (w0 b.val) - BitVec.ofNat 32 (128 * b.val))
    = BitVec.ofNat 32 (w0 b.val + j.val) - BitVec.ofNat 32 (128 * b.val + r.val)
  rw [BitVec.ofNat_add, BitVec.ofNat_add]
  generalize BitVec.ofNat 32 j.val = u
  generalize BitVec.ofNat 32 r.val = v
  generalize BitVec.ofNat 32 (w0 b.val) = w
  generalize BitVec.ofNat 32 (128 * b.val) = z
  simp only [BitVec.sub_eq_add_neg, BitVec.neg_add]
  ac_rfl

/-- A selection on a set bit. -/
theorem sel_one {α : Type} (a b : α) : Scalar.select 1#1 a b = a := rfl

/-- The kernel's scores of a window are the scores in units of `log 2`. -/
theorem sc_apply (x0 x1 : Vec Ideal S4x512x128 .bf16) (a : Fin 4) (hh : Fin 2) (b : Fin 4) (r : Fin 128) (j : Fin 256) :
    sc (dw b.val) (qhalf hh (rows 128 x0 a.val (128 * b.val))) (rows 256 x1 a.val (w0 b.val)) (ix2 r j)
      = score x0 x1 a hh (qrow b r) (at' (w0 b.val) j) * (((Real.log 2)⁻¹ : ℝ) : EReal) := by
  have hc : 0 < (Real.log 2)⁻¹ := inv_pos.mpr (Real.log_pos (by norm_num))
  have h8 : 0 < (1 / 8 : ℝ) * (Real.log 2)⁻¹ := mul_pos (by norm_num) hc
  pointwise [sc, near, k0_pay6]
  rw [window_word, near_word _ _ (lt_trans (Fin.isLt _) (by norm_num)) (lt_trans (Fin.isLt _) (by norm_num)), mask_val]
  unfold score
  split_ifs with h
  · have e : ∀ l : Fin 128, qhalf hh (rows 128 x0 a.val (128 * b.val)) (ix2 r l) * rows 256 x1 a.val (w0 b.val) (ix2 j l)
        = if l.val / 64 = hh.val then (x0 (ix3 a (qrow b r) l) * x1 (ix3 a (at' (w0 b.val) j) l)) * (((1 / 8) * (Real.log 2)⁻¹ : ℝ) : EReal) else 0 := by
      intro l
      have e1 : rows 128 x0 a.val (128 * b.val) (ix2 r l) = x0 (ix3 a (qrow b r) l) := by
        unfold rows
        refine congrArg x0 (funext fun i => Fin.ext ?_)
        have := a.isLt; have := b.isLt; have := r.isLt
        match i with
        | ⟨0, _⟩ => show a.val % 4 = a.val; omega
        | ⟨1, _⟩ => show (128 * b.val + r.val) % 512 = 128 * b.val + r.val; omega
        | ⟨2, _⟩ => rfl
      have e2 : rows 256 x1 a.val (w0 b.val) (ix2 j l) = x1 (ix3 a (at' (w0 b.val) j) l) := by
        unfold rows
        refine congrArg x1 (funext fun i => Fin.ext ?_)
        have := a.isLt
        match i with
        | ⟨0, _⟩ => show a.val % 4 = a.val; omega
        | ⟨1, _⟩ => rfl
        | ⟨2, _⟩ => rfl
      rw [qhalf_apply, e1, e2]
      split_ifs
      · rw [mul_right_comm]
      · rw [zero_mul]
    rw [sel_one, Finset.sum_congr rfl fun l _ => e l, sum_half hh.val hh.isLt _ fun l hl => if_neg hl]
    rw [mul_assoc, ← EReal.coe_mul, sum_mul_pos _ h8]
    refine Finset.sum_congr rfl fun d _ => ?_
    rw [if_pos (by show (64 * hh.val + d.val) / 64 = hh.val; omega)]
    rfl
  · rw [bot_mul_pos hc]; rfl

/-- A key outside the window is not near a query of the block. -/
theorem score_outside (x0 x1 : Vec Ideal S4x512x128 .bf16) (a : Fin 4) (hh : Fin 2) (b : Fin 4) (r : Fin 128) (j : Fin 512)
    (h : ¬ (w0 b.val ≤ j.val ∧ j.val < w0 b.val + 256)) : score x0 x1 a hh (qrow b r) j = ⊥ := by
  unfold score
  refine if_neg ?_
  show ¬ (j.val ≤ 128 * b.val + r.val + 64 ∧ 128 * b.val + r.val ≤ j.val + 64)
  have := b.isLt; have := r.isLt; have := j.isLt
  unfold w0 at h
  omega

theorem mx_apply (s : FVec Ideal S128x256 .f32) (r : Fin 128) : mx s (ix2 r 0) = top fun j => s (ix2 r j) := by
  pointwise [mx]
  rfl

/-- The values a block stores of the attention. -/
theorem ov_apply (x0 x1 x2 : Vec Ideal S4x512x128 .bf16) (a : Fin 4) (hh : Fin 2) (b : Fin 4) (r : Fin 128) (l : Fin 128) :
    ov (sc (dw b.val) (qhalf hh (rows 128 x0 a.val (128 * b.val))) (rows 256 x1 a.val (w0 b.val))) (rows 256 x2 a.val (w0 b.val)) (ix2 r l)
      = att (score x0 x1 a hh (qrow b r)) (fun j => x2 (ix3 a j l)) := by
  pointwise [ov, sm, ex]
  rw [mx_apply]
  refine att_window (w0_le b.val) _ _ _ (fun j => rows 256 x2 a.val (w0 b.val) (ix2 j l)) (fun j => sc_apply x0 x1 a hh b r j) (fun j hj => score_outside x0 x1 a hh b r j hj) ?_
  intro j
  unfold rows
  refine congrArg x2 (funext fun i => Fin.ext ?_)
  have := a.isLt
  match i with
  | ⟨0, _⟩ => show a.val % 4 = a.val; omega
  | ⟨1, _⟩ => rfl
  | ⟨2, _⟩ => rfl

/-- The log-sum-exp a block stores. -/
theorem ls_apply (x0 x1 : Vec Ideal S4x512x128 .bf16) (a : Fin 4) (hh : Fin 2) (b : Fin 4) (r : Fin 128) :
    ls (sc (dw b.val) (qhalf hh (rows 128 x0 a.val (128 * b.val))) (rows 256 x1 a.val (w0 b.val))) (ix2 r 0)
      = lse (score x0 x1 a hh (qrow b r)) := by
  pointwise [ls, sm, ex]
  rw [mx_apply, ln2_val]
  exact lse_window (w0_le b.val) _ _ (fun j => sc_apply x0 x1 a hh b r j) (fun j hj => score_outside x0 x1 a hh b r j hj)

/-- The half of a lane. -/
def half (l : Fin 128) : Fin 2 := ⟨l.val / 64, by omega⟩

/-- The output block at an element: attention of the lane's head. -/
theorem G3_apply (x0 x1 x2 : Vec Ideal S4x512x128 .bf16) (a : Fin 4) (i : Fin 512) (l : Fin 128) :
    G3 x0 x1 x2 (ix3 a i l) = att (score x0 x1 a (half l) i) (fun j => x2 (ix3 a j l)) := by
  have hi := i.isLt
  have hb : i.val / 128 < 4 := by omega
  have e : i = qrow ⟨i.val / 128, hb⟩ (Fin.ofNat 128 (i.val % 128)) := Fin.ext (by
    show i.val = 128 * (i.val / 128) + (i.val % 128) % 128; omega)
  show oBlk (dw (i.val / 128)) (rows 128 x0 a.val (128 * (i.val / 128))) (rows 256 x1 a.val (w0 (i.val / 128)))
    (rows 256 x2 a.val (w0 (i.val / 128))) (ix2 (Fin.ofNat 128 (i.val % 128)) l) = _
  conv_rhs => rw [e]
  by_cases h : 64 ≤ l.val
  · have hh : half l = 1 := Fin.ext (by show l.val / 64 = 1; have := l.isLt; omega)
    rw [hh, ← ov_apply x0 x1 x2 a 1 ⟨i.val / 128, hb⟩ (Fin.ofNat 128 (i.val % 128)) l]
    pointwise [oBlk, k0_pay3]
    rw [lane_word, if_pos h]
    rfl
  · have hh : half l = 0 := Fin.ext (by show l.val / 64 = 0; omega)
    rw [hh, ← ov_apply x0 x1 x2 a 0 ⟨i.val / 128, hb⟩ (Fin.ofNat 128 (i.val % 128)) l]
    pointwise [oBlk, k0_pay3]
    rw [lane_word, if_neg h]
    rfl

/-- The words of the lanes a grid point sets. -/
theorem mine_words (p : Fin 8) (l : Fin 128) (k : Fin 2) :
    IntOp.andi (IntOp.cmpi .sge (BitVec.ofNat 32 l.val) (Scalar.addi (Scalar.muli (Scalar.muli 2#32 (BitVec.ofNat 32 p.val)) 8#32) (BitVec.ofNat 32 (8 * k.val))))
      (IntOp.cmpi .slt (BitVec.ofNat 32 l.val) (Scalar.addi (Scalar.muli (Scalar.muli 2#32 (BitVec.ofNat 32 p.val)) 8#32) (BitVec.ofNat 32 (8 * k.val + 8))))
    = if l.val / 8 = 2 * p.val + k.val then 1#1 else 0#1 := by
  revert p l k; decide +kernel

/-- The log-sum-exp block at an element: the lane's head if the point sets it, else what was there. -/
theorem G4_apply (i : grid0.Coords) (x0 x1 : Vec Ideal S4x512x128 .bf16) (old : Vec Ideal S4x512x128 .f32) (a : Fin 4) (q : Fin 512) (l : Fin 128) :
    G4 i x0 x1 old (ix3 a q l) = if l.val / 8 = 2 * (i 1).val then lse (score x0 x1 a 0 q)
      else if l.val / 8 = 2 * (i 1).val + 1 then lse (score x0 x1 a 1 q) else old (ix3 a q l) := by
  have hi := q.isLt
  have hb : q.val / 128 < 4 := by omega
  have e : q = qrow ⟨q.val / 128, hb⟩ (Fin.ofNat 128 (q.val % 128)) := Fin.ext (by
    show q.val = 128 * (q.val / 128) + (q.val % 128) % 128; omega)
  have w0' := mine_words (i 1) l 0
  have w1' := mine_words (i 1) l 1
  have l0 := ls_apply x0 x1 a 0 ⟨q.val / 128, hb⟩ (Fin.ofNat 128 (q.val % 128))
  have l1 := ls_apply x0 x1 a 1 ⟨q.val / 128, hb⟩ (Fin.ofNat 128 (q.val % 128))
  rw [← e] at l0 l1
  have ho : rows 128 old a.val (128 * (q.val / 128)) (ix2 (Fin.ofNat 128 (q.val % 128)) l) = old (ix3 a q l) := by
    unfold rows
    refine congrArg old (funext fun i => Fin.ext ?_)
    have := a.isLt
    match i with
    | ⟨0, _⟩ => show a.val % 4 = a.val; omega
    | ⟨1, _⟩ => show (128 * (q.val / 128) + (q.val % 128) % 128) % 512 = q.val; omega
    | ⟨2, _⟩ => rfl
  show lBlk i (dw (q.val / 128)) (rows 128 x0 a.val (128 * (q.val / 128))) (rows 256 x1 a.val (w0 (q.val / 128)))
    (rows 128 old a.val (128 * (q.val / 128))) (ix2 (Fin.ofNat 128 (q.val % 128)) l) = _
  pointwise [lBlk, k0_pay4, k0_pay5]
  rw [← l0, ← l1, ← ho]
  refine Eq.trans (congrArg₂ (fun u v => Scalar.select u _ (Scalar.select v _ _)) w0' w1') ?_
  show Scalar.select (if l.val / 8 = 2 * (i 1).val + 0 then 1#1 else 0#1) _ (Scalar.select (if l.val / 8 = 2 * (i 1).val + 1 then 1#1 else 0#1) _ _) = _
  rw [Nat.add_zero]
  split_ifs <;> rfl

/-- The lanes a point sets. -/
theorem mine_iff (i : grid0.Coords) (l : Fin 128) (h : l.val / 16 = (i 1).val) : Mine i l := by
  intro r
  have w0' := mine_words (i 1) l 0
  have w1' := mine_words (i 1) l 1
  by_cases hk : l.val / 8 = 2 * (i 1).val
  · left
    pointwise [k0_pay4]
    exact w0'.trans (if_pos hk)
  · right
    pointwise [k0_pay5]
    refine w1'.trans (if_pos ?_)
    show l.val / 8 = 2 * (i 1).val + 1
    omega

end Cert.Att
end
-- ==== Proof.Att.Outs.lean ====
module

public import proofs.«01_k».proof.Proof.Att.PiecesA
public import proofs.«01_k».proof.Proof.Att.Value

@[expose] public section
set_option maxRecDepth 16384
noncomputable section

namespace Cert.Att
open Idealize.ShloMosaic Idealize.ShloMosaic.TcCoe Idealize.ShloMosaic.Tactic Cert.KernelIdeal Cert.KernelIdeal.Gen

/-! ## What a grid point leaves in its output blocks -/

/-- An element of a set `P` some piece covers, after writes whose pieces agree with `G` on `P`, over any earlier writes. -/
theorem read_writes_on {sig : RefSig} {κ : Kind} {sp : Space} {s : Shape} {e : EltTy} {Val : EltTy → Type} (v : View sig κ sp s e) (f) (G : s.Idx → Val e)
    (P : s.Idx → Prop) (M : List (View.Piece Val s e)) :
    ∀ L : List (View.Piece Val s e), (∀ p ∈ L, ∀ x : p.1.shape.Idx, P (p.1.emb x) → p.2 x = G (p.1.emb x)) →
      ∀ y : s.Idx, P y → (∃ p ∈ L, y ∈ p.1.set) → v.read Val (v.writes Val f (L ++ M)) y = G y
  | [], _, _, _, h => by obtain ⟨_, hm, _⟩ := h; exact absurd hm List.not_mem_nil
  | p :: L, hG, y, hP, h => by
    by_cases hy : y ∈ p.1.set
    · obtain ⟨x, rfl⟩ : ∃ x, p.1.emb x = y := p.1.exists_idx_of_mem hy
      obtain ⟨r, w⟩ := p
      rw [List.cons_append, View.read_writes_cons_emb]
      exact hG ⟨r, w⟩ List.mem_cons_self x hP
    · have hy' : y ∉ Finset.univ.map p.1.emb := by rwa [Rect.map_emb_univ]
      rw [List.cons_append, View.writes_cons, View.read_slice_write_of_not_mem p.1 _ _ _ hy']
      refine read_writes_on v f G P M L (fun p' hp' => hG p' (List.mem_cons_of_mem _ hp')) y hP ?_
      obtain ⟨p', hm, hy''⟩ := h
      rcases List.mem_cons.mp hm with rfl | hm
      · exact absurd hy'' hy
      · exact ⟨p', hm, hy''⟩

section
variable {F : FTy → Type} [FloatOps F] [Named F]
variable (c : Dev nD) (i : grid0.Coords) (arg2 : Memref sig .tc .vmem S4x512x128 .bf16) (harg2 : arg2.IsWhole) (arg3 : Memref sig .tc .vmem S4x512x128 .bf16) (harg3 : arg3.IsWhole)
    (arg4 : Memref sig .tc .vmem S4x512x128 .bf16) (harg4 : arg4.IsWhole) (arg5 : Memref sig .tc .vmem S4x512x128 .bf16) (harg5 : arg5.IsWhole)
    (arg6 : Memref sig .tc .vmem S4x512x128 .f32) (harg6 : arg6.IsWhole)
    (x0 x1 x2 : Vec F S4x512x128 .bf16)

/-- The attention block after the first point of a group. -/
theorem out3_A (hc0 : cond0_0 i) : out0_A_3 c i arg2 harg2 arg3 harg3 arg4 harg4 arg5 harg5 arg6 harg6 hc0 x0 x1 x2 = G3 x0 x1 x2 :=
  funext fun y => View.read_writes_apply_of_pieces VO0_3 _ _ _ (stores3_A c i arg2 harg2 arg3 harg3 arg4 harg4 arg5 harg5 arg6 harg6 hc0 x0 x1 x2) y
    (cover0_A_3 c i arg2 harg2 arg3 harg3 arg4 harg4 arg5 harg5 arg6 harg6 hc0 x0 x1 x2 y)

/-- The attention block after a later point. -/
theorem out3_B (hc0 : ¬cond0_0 i) (xo4 : Vec F S4x512x128 .f32) :
    out0_B_3 c i arg2 harg2 arg3 harg3 arg4 harg4 arg5 harg5 arg6 harg6 hc0 x0 x1 x2 xo4 = G3 x0 x1 x2 :=
  funext fun y => View.read_writes_apply_of_pieces VO0_3 _ _ _ (stores3_B c i arg2 harg2 arg3 harg3 arg4 harg4 arg5 harg5 arg6 harg6 hc0 x0 x1 x2 xo4) y
    (cover0_B_3 c i arg2 harg2 arg3 harg3 arg4 harg4 arg5 harg5 arg6 harg6 hc0 x0 x1 x2 xo4 y)

/-- The log-sum-exp block after a later point. -/
theorem out4_B (hc0 : ¬cond0_0 i) (xo4 : Vec F S4x512x128 .f32) :
    out0_B_4 c i arg2 harg2 arg3 harg3 arg4 harg4 arg5 harg5 arg6 harg6 hc0 x0 x1 x2 xo4 = G4 i x0 x1 xo4 :=
  funext fun y => View.read_writes_apply_of_pieces VO0_4 _ _ _ (stores4_B c i arg2 harg2 arg3 harg3 arg4 harg4 arg5 harg5 arg6 harg6 hc0 x0 x1 x2 xo4) y
    (cover0_B_4 c i arg2 harg2 arg3 harg3 arg4 harg4 arg5 harg5 arg6 harg6 hc0 x0 x1 x2 xo4 y)

/-- The stores of the first point but the fill cover the block. -/
theorem cover_A (hc0 : cond0_0 i) (y : S4x512x128.Idx) :
    ∃ p ∈ (kernelRun0_A c i arg2 harg2 arg3 harg3 arg4 harg4 arg5 harg5 arg6 harg6 hc0 x0 x1 x2).2.1.take 16, y ∈ p.1.set :=
  View.cover_of_tiledL ((kernelRun0_A c i arg2 harg2 arg3 harg3 arg4 harg4 arg5 harg5 arg6 harg6 hc0 x0 x1 x2).2.1.take 16) S1x128x128.size (by sl_kernel_rfl) y

/-- The log-sum-exp block after the first point of a group, in the point's lanes. -/
theorem out4_A (hc0 : cond0_0 i) (old : Vec F S4x512x128 .f32) (y : S4x512x128.Idx) (hm : Mine i (y 2)) :
    out0_A_4 c i arg2 harg2 arg3 harg3 arg4 harg4 arg5 harg5 arg6 harg6 hc0 x0 x1 x2 y = G4 i x0 x1 old y := by
  unfold out0_A_4
  rw [← List.take_append_drop 16 (kernelRun0_A c i arg2 harg2 arg3 harg3 arg4 harg4 arg5 harg5 arg6 harg6 hc0 x0 x1 x2).2.1]
  exact read_writes_on VO0_4 _ _ (fun y => Mine i (y 2)) _ _
    (stores4_A c i arg2 harg2 arg3 harg3 arg4 harg4 arg5 harg5 arg6 harg6 hc0 x0 x1 x2 old) y hm
    (cover_A c i arg2 harg2 arg3 harg3 arg4 harg4 arg5 harg5 arg6 harg6 x0 x1 x2 hc0 y)
end

/-! ## The blocks at every grid point, over the extended reals -/

variable (m : (ℓ : Loc nD τ sig) → Buf (Elt Ideal) ℓ) (c : Dev nD)

/-- The attention block at every point. -/
theorem outs3 (t : Fin cfg0.N) : (outsAt0 m c t.val t.isLt).1 = G3 (iblk m c 0 t) (iblk m c 1 t) (iblk m c 2 t) := by
  by_cases h0 : t.val % 8 = 0
  · have hc := (hcond0_0 t).mpr h0
    rw [outsAt0_A m c t h0]
    dsimp only
    exact out3_A (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) hc
  · have hc : ¬cond0_0 (grid0.coords t) := fun h => h0 ((hcond0_0 t).mp h)
    rw [outsAt0_B m c t h0]
    dsimp only
    exact out3_B (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) hc (outsAt0 m c (t.val - 1) (Nat.lt_of_le_of_lt (Nat.sub_le _ _) t.isLt)).2

/-- The log-sum-exp block at the first point of a group, in its lanes. -/
theorem outs4_A (t : Fin cfg0.N) (h0 : t.val % 8 = 0) (old : Vec Ideal S4x512x128 .f32) (y : S4x512x128.Idx) (hm : Mine (grid0.coords t) (y 2)) :
    (outsAt0 m c t.val t.isLt).2 y = G4 (grid0.coords t) (iblk m c 0 t) (iblk m c 1 t) old y := by
  have hc := (hcond0_0 t).mpr h0
  rw [outsAt0_A m c t h0]
  dsimp only
  exact out4_A (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) hc old y hm

/-- The log-sum-exp block at a later point. -/
theorem outs4_B (t : Fin cfg0.N) (h0 : ¬t.val % 8 = 0) :
    (outsAt0 m c t.val t.isLt).2 = G4 (grid0.coords t) (iblk m c 0 t) (iblk m c 1 t) (outsAt0 m c (t.val - 1) (Nat.lt_of_le_of_lt (Nat.sub_le _ _) t.isLt)).2 := by
  have hc : ¬cond0_0 (grid0.coords t) := fun h => h0 ((hcond0_0 t).mp h)
  rw [outsAt0_B m c t h0]
  dsimp only
  exact out4_B (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) hc (outsAt0 m c (t.val - 1) (Nat.lt_of_le_of_lt (Nat.sub_le _ _) t.isLt)).2

end Cert.Att
end
-- ==== Proof.Att.Spec.lean ====
module

public import proofs.«01_k».proof.Proof.Att.Math

@[expose] public section
noncomputable section

namespace Cert.Att
open Idealize.ShloMosaic

/-! ## Banded attention within classes, from the array of queries, keys and values -/

/-- Lane `d` of head `h`. -/
def col (h : Fin 16) (d : Fin 64) : Fin 1024 := ⟨64 * h.val + d.val, by omega⟩

/-- Column `x` of part `w` (queries, keys, values). -/
def part (w : Fin 3) (x : Fin 1024) : Fin 3072 := ⟨1024 * w.val + x.val, by omega⟩

/-- The score of query `i` against key `j`, in class `a` and head `h`: `⊥` beyond 64 positions. -/
def S (A : (⟨3, ![16, 512, 3072]⟩ : Shape).Idx → EReal) (a : Fin 16) (h : Fin 16) (i j : Fin 512) : EReal :=
  if j.val ≤ i.val + 64 ∧ i.val ≤ j.val + 64 then
    (∑ d : Fin 64, A (ix3 a i (part 0 (col h d))) * A (ix3 a j (part 1 (col h d)))) * ((1 / 8 : ℝ) : EReal)
  else ⊥

/-- The head of an output column. -/
def headO (x : Fin 1024) : Fin 16 := ⟨x.val / 64, by omega⟩

/-- The head of a column of the log-sum-exps, each repeated 8 times. -/
def headL (x : Fin 128) : Fin 16 := ⟨x.val / 8, by omega⟩

/-- The attention at an element. -/
def O (A : (⟨3, ![16, 512, 3072]⟩ : Shape).Idx → EReal) (a : Fin 16) (i : Fin 512) (x : Fin 1024) : EReal :=
  att (S A a (headO x) i) fun j => A (ix3 a j (part 2 x))

/-- The log-sum-exp at an element. -/
def L (A : (⟨3, ![16, 512, 3072]⟩ : Shape).Idx → EReal) (a : Fin 16) (i : Fin 512) (x : Fin 128) : EReal :=
  lse (S A a (headL x) i)

end Cert.Att
end
-- ==== Proof.Att.Arrays.lean ====
module

public import proofs.«01_k».proof.Proof.Att.Outs
public import proofs.«01_k».proof.Proof.Att.Spec

@[expose] public section
set_option maxRecDepth 16384
noncomputable section

namespace Cert.Att
open Idealize.ShloMosaic Idealize.ShloMosaic.TcCoe Cert.KernelIdeal Cert.KernelIdeal.Gen Idealize.ShloMosaic.Pipeline

variable (m : (ℓ : Loc nD τ sig) → Buf (Elt Ideal) ℓ) (c : Dev nD)

/-! ## Where the blocks sit in the arrays -/

theorem coord1 : ∀ t : Fin grid0.N, (grid0.coords t 1).val = t.val % 8 := by decide +kernel

theorem index0 : ∀ t : Fin grid0.N, win0_0.index t 0 = t.val / 8 ∧ win0_0.index t 1 = 0 ∧ win0_0.index t 2 = t.val % 8 := by decide +kernel
theorem index1 : ∀ t : Fin grid0.N, win0_1.index t 0 = t.val / 8 ∧ win0_1.index t 1 = 0 ∧ win0_1.index t 2 = 8 + t.val % 8 := by decide +kernel
theorem index2 : ∀ t : Fin grid0.N, win0_2.index t 0 = t.val / 8 ∧ win0_2.index t 1 = 0 ∧ win0_2.index t 2 = 16 + t.val % 8 := by decide +kernel
theorem index3 : ∀ t : Fin grid0.N, win0_3.index t 0 = t.val / 8 ∧ win0_3.index t 1 = 0 ∧ win0_3.index t 2 = t.val % 8 := by decide +kernel
theorem index4 : ∀ t : Fin grid0.N, win0_4.index t 0 = t.val / 8 ∧ win0_4.index t 1 = 0 ∧ win0_4.index t 2 = 0 := by decide +kernel

theorem N_eq : grid0.N = 32 := by decide +kernel

/-- The class of row `a` of a block of point `t`. -/
def cls (t : Fin grid0.N) (a : Fin 4) : Fin 16 := ⟨4 * (t.val / 8) + a.val, by have : t.val < 32 := lt_of_lt_of_eq t.isLt N_eq; omega⟩

/-- The column of lane `l` of a block of point `t`. -/
def lcol (t : Fin grid0.N) (l : Fin 128) : Fin 1024 := ⟨128 * (t.val % 8) + l.val, by omega⟩

/-- The argument array. -/
abbrev arg : Vec Ideal S16x512x3072 .bf16 := m ((c : Thread nD τ).loc main_arg0)

theorem iblk0 (t : Fin grid0.N) (a : Fin 4) (j : Fin 512) (l : Fin 128) :
    iblk m c 0 t (ix3 a j l) = arg m c (ix3 (cls t a) j (part 0 (lcol t l))) := by
  refine congrArg (m ((c : Thread nD τ).loc main_arg0)) (funext fun k => Fin.ext ?_)
  refine (Window.rect_emb_val win0_0 t (ix3 a j l) k).trans ?_
  obtain ⟨h0, h1, h2⟩ := index0 t
  match k with
  | ⟨0, _⟩ => exact (congrArg (· * 4 + a.val) h0).trans (by show _ = 4 * (t.val / 8) + a.val; omega)
  | ⟨1, _⟩ => exact (congrArg (· * 512 + j.val) h1).trans (by show _ = j.val; omega)
  | ⟨2, _⟩ => exact (congrArg (· * 128 + l.val) h2).trans (by show _ = 1024 * 0 + (128 * (t.val % 8) + l.val); omega)

theorem iblk1 (t : Fin grid0.N) (a : Fin 4) (j : Fin 512) (l : Fin 128) :
    iblk m c 1 t (ix3 a j l) = arg m c (ix3 (cls t a) j (part 1 (lcol t l))) := by
  refine congrArg (m ((c : Thread nD τ).loc main_arg0)) (funext fun k => Fin.ext ?_)
  refine (Window.rect_emb_val win0_1 t (ix3 a j l) k).trans ?_
  obtain ⟨h0, h1, h2⟩ := index1 t
  match k with
  | ⟨0, _⟩ => exact (congrArg (· * 4 + a.val) h0).trans (by show _ = 4 * (t.val / 8) + a.val; omega)
  | ⟨1, _⟩ => exact (congrArg (· * 512 + j.val) h1).trans (by show _ = j.val; omega)
  | ⟨2, _⟩ => exact (congrArg (· * 128 + l.val) h2).trans (by show _ = 1024 * 1 + (128 * (t.val % 8) + l.val); omega)

theorem iblk2 (t : Fin grid0.N) (a : Fin 4) (j : Fin 512) (l : Fin 128) :
    iblk m c 2 t (ix3 a j l) = arg m c (ix3 (cls t a) j (part 2 (lcol t l))) := by
  refine congrArg (m ((c : Thread nD τ).loc main_arg0)) (funext fun k => Fin.ext ?_)
  refine (Window.rect_emb_val win0_2 t (ix3 a j l) k).trans ?_
  obtain ⟨h0, h1, h2⟩ := index2 t
  match k with
  | ⟨0, _⟩ => exact (congrArg (· * 4 + a.val) h0).trans (by show _ = 4 * (t.val / 8) + a.val; omega)
  | ⟨1, _⟩ => exact (congrArg (· * 512 + j.val) h1).trans (by show _ = j.val; omega)
  | ⟨2, _⟩ => exact (congrArg (· * 128 + l.val) h2).trans (by show _ = 1024 * 2 + (128 * (t.val % 8) + l.val); omega)

/-- The scores of a block are the array's. -/
theorem score_blk (t : Fin grid0.N) (a : Fin 4) (hh : Fin 2) (h : Fin 16) (e : h.val = 2 * (t.val % 8) + hh.val) (i : Fin 512) :
    score (iblk m c 0 t) (iblk m c 1 t) a hh i = S (arg m c) (cls t a) h i := by
  funext j
  unfold score S
  refine if_congr Iff.rfl (congrArg (· * ((1 / 8 : ℝ) : EReal)) (Finset.sum_congr rfl fun d _ => ?_)) rfl
  rw [iblk0, iblk1]
  have e1 : lcol t (lane hh d) = col h d := Fin.ext (by show 128 * (t.val % 8) + (64 * hh.val + d.val) = 64 * h.val + d.val; omega)
  rw [e1]

/-- The attention block of a point, element by element. -/
theorem blk3 (t : Fin grid0.N) (a : Fin 4) (i : Fin 512) (l : Fin 128) :
    (outsAt0 m c t.val t.isLt).1 (ix3 a i l) = O (arg m c) (cls t a) i (lcol t l) := by
  rw [outs3, G3_apply]
  unfold O
  rw [score_blk m c t a (half l) (headO (lcol t l)) (by show (128 * (t.val % 8) + l.val) / 64 = 2 * (t.val % 8) + l.val / 64; omega) i]
  exact congrArg (att _) (funext fun j => iblk2 m c t a j l)

/-- The log-sum-exp block after a point: the lanes of the points so far of its group. -/
theorem blk4 (n : Nat) (t : Fin grid0.N) (hn : t.val % 8 = n) (a : Fin 4) (i : Fin 512) (l : Fin 128) (hl : l.val / 16 ≤ n) :
    (outsAt0 m c t.val t.isLt).2 (ix3 a i l) = L (arg m c) (cls t a) i l := by
  induction n generalizing t with
  | zero =>
    have hm : Mine (grid0.coords t) l := mine_iff (grid0.coords t) l (by rw [coord1]; omega)
    refine (outs4_A m c t hn (fun _ => (0 : EReal)) (ix3 a i l) hm).trans ?_
    rw [G4_apply, coord1]
    unfold L
    rcases Nat.lt_or_ge l.val 8 with h | h
    · rw [if_pos (by omega), score_blk m c t a 0 (headL l) (by show l.val / 8 = 2 * (t.val % 8) + 0; omega) i]
    · rw [if_neg (by omega), if_pos (by omega), score_blk m c t a 1 (headL l) (by show l.val / 8 = 2 * (t.val % 8) + 1; omega) i]
  | succ n ih =>
    have h0 : ¬t.val % 8 = 0 := by omega
    rw [outs4_B m c t h0, G4_apply, coord1]
    unfold L
    by_cases h : l.val / 8 = 2 * (t.val % 8)
    · rw [if_pos h, score_blk m c t a 0 (headL l) (by show l.val / 8 = 2 * (t.val % 8) + 0; omega) i]
    · rw [if_neg h]
      by_cases h' : l.val / 8 = 2 * (t.val % 8) + 1
      · rw [if_pos h', score_blk m c t a 1 (headL l) (by show l.val / 8 = 2 * (t.val % 8) + 1; omega) i]
      · rw [if_neg h']
        have lt : t.val - 1 < grid0.N := Nat.lt_of_le_of_lt (Nat.sub_le _ _) t.isLt
        refine (ih ⟨t.val - 1, lt⟩ (by show (t.val - 1) % 8 = n; omega) (by omega)).trans ?_
        have ec : cls ⟨t.val - 1, lt⟩ a = cls t a := Fin.ext (by show 4 * ((t.val - 1) / 8) + a.val = 4 * (t.val / 8) + a.val; omega)
        rw [ec]
        rfl

/-! ## The arrays after the run -/

/-- The attention array. -/
def arrO (A : Vec Ideal S16x512x3072 .bf16) : Vec Ideal S16x512x1024 .bf16 := fun y => O A (y 0) (y 1) (y 2)

/-- The log-sum-exp array. -/
def arrL (A : Vec Ideal S16x512x3072 .bf16) : Vec Ideal S16x512x128 .f32 := fun y => L A (y 0) (y 1) (y 2)

theorem emb3 (t : Fin grid0.N) (a : Fin 4) (i : Fin 512) (l : Fin 128) :
    ((cfg0.win 3).blk t).view.emb (ix3 a i l) = (ix3 (cls t a) i (lcol t l) : S16x512x1024.Idx) := by
  refine funext fun k => Fin.ext ?_
  refine (Window.rect_emb_val win0_3 t (ix3 a i l) k).trans ?_
  obtain ⟨h0, h1, h2⟩ := index3 t
  match k with
  | ⟨0, _⟩ => exact (congrArg (· * 4 + a.val) h0).trans (by show _ = 4 * (t.val / 8) + a.val; omega)
  | ⟨1, _⟩ => exact (congrArg (· * 512 + i.val) h1).trans (by show _ = i.val; omega)
  | ⟨2, _⟩ => exact (congrArg (· * 128 + l.val) h2).trans (by show _ = 128 * (t.val % 8) + l.val; omega)

theorem emb4 (t : Fin grid0.N) (a : Fin 4) (i : Fin 512) (l : Fin 128) :
    ((cfg0.win 4).blk t).view.emb (ix3 a i l) = (ix3 (cls t a) i l : S16x512x128.Idx) := by
  refine funext fun k => Fin.ext ?_
  refine (Window.rect_emb_val win0_4 t (ix3 a i l) k).trans ?_
  obtain ⟨h0, h1, h2⟩ := index4 t
  match k with
  | ⟨0, _⟩ => exact (congrArg (· * 4 + a.val) h0).trans (by show _ = 4 * (t.val / 8) + a.val; omega)
  | ⟨1, _⟩ => exact (congrArg (· * 512 + i.val) h1).trans (by show _ = i.val; omega)
  | ⟨2, _⟩ => exact (congrArg (· * 128 + l.val) h2).trans (by show _ = l.val; omega)

theorem flush3 : ∀ t : Fin grid0.N, win0_3.flush t = true := by decide +kernel
theorem flush4 : ∀ t : Fin grid0.N, win0_4.flush t = decide (t.val % 8 = 7) := by decide +kernel

/-- An index of rank 3 is its coordinates. -/
theorem ix3_eta {n0 n1 n2 : Nat} (y : (⟨3, ![n0, n1, n2]⟩ : Shape).Idx) : ix3 (y 0) (y 1) (y 2) = y := by
  funext k
  match k with
  | ⟨0, _⟩ => rfl
  | ⟨1, _⟩ => rfl
  | ⟨2, _⟩ => rfl

/-- The attention array after the run. -/
theorem arr3 : (dats m 0 c).arrAt 3 cfg0.N = arrO (arg m c) := by
  refine Dat.arrAt_eq_of_cover (dats m 0 c) 3 (arrO (arg m c)) (fun t _ => ?_) (fun y => ?_)
  · rw [Cert.KernelIdeal.Value.flushed3]
    funext y
    rw [← ix3_eta y]
    refine (blk3 m c t (y 0) (y 1) (y 2)).trans ?_
    exact (congrArg (arrO (arg m c)) (emb3 t (y 0) (y 1) (y 2))).symm
  · obtain ⟨a, i, x, rfl⟩ : ∃ (a : Fin 16) (i : Fin 512) (x : Fin 1024), y = (ix3 a i x : S16x512x1024.Idx) := ⟨y 0, y 1, y 2, (ix3_eta y).symm⟩
    have ht : 8 * (a.val / 4) + x.val / 128 < grid0.N := by rw [N_eq]; omega
    refine ⟨⟨8 * (a.val / 4) + x.val / 128, ht⟩, flush3 _, ?_⟩
    have e := emb3 ⟨8 * (a.val / 4) + x.val / 128, ht⟩ ⟨a.val % 4, by omega⟩ i ⟨x.val % 128, by omega⟩
    have e1 : cls ⟨8 * (a.val / 4) + x.val / 128, ht⟩ ⟨a.val % 4, by omega⟩ = a := Fin.ext (by
      show 4 * ((8 * (a.val / 4) + x.val / 128) / 8) + a.val % 4 = a.val; omega)
    have e2 : lcol ⟨8 * (a.val / 4) + x.val / 128, ht⟩ ⟨x.val % 128, by omega⟩ = x := Fin.ext (by
      show 128 * ((8 * (a.val / 4) + x.val / 128) % 8) + x.val % 128 = x.val; omega)
    rw [e1, e2] at e
    rw [← e]
    exact View.emb_mem_set _ _

/-- The log-sum-exp array after the run. -/
theorem arr4 : (dats m 0 c).arrAt 4 cfg0.N = arrL (arg m c) := by
  refine Dat.arrAt_eq_of_cover (dats m 0 c) 4 (arrL (arg m c)) (fun t hf => ?_) (fun y => ?_)
  · have h7 : t.val % 8 = 7 := of_decide_eq_true ((flush4 t).symm.trans hf)
    rw [Cert.KernelIdeal.Value.flushed4]
    funext y
    rw [← ix3_eta y]
    refine (blk4 m c 7 t h7 (y 0) (y 1) (y 2) (by have : (y 2).val < 128 := (y 2).isLt; omega)).trans ?_
    exact (congrArg (arrL (arg m c)) (emb4 t (y 0) (y 1) (y 2))).symm
  · obtain ⟨a, i, x, rfl⟩ : ∃ (a : Fin 16) (i : Fin 512) (x : Fin 128), y = (ix3 a i x : S16x512x128.Idx) := ⟨y 0, y 1, y 2, (ix3_eta y).symm⟩
    have ht : 8 * (a.val / 4) + 7 < grid0.N := by rw [N_eq]; omega
    refine ⟨⟨8 * (a.val / 4) + 7, ht⟩, (flush4 _).trans (decide_eq_true (by show (8 * (a.val / 4) + 7) % 8 = 7; omega)), ?_⟩
    have e := emb4 ⟨8 * (a.val / 4) + 7, ht⟩ ⟨a.val % 4, by omega⟩ i x
    have e1 : cls ⟨8 * (a.val / 4) + 7, ht⟩ ⟨a.val % 4, by omega⟩ = a := Fin.ext (by
      show 4 * ((8 * (a.val / 4) + 7) / 8) + a.val % 4 = a.val; omega)
    rw [e1] at e
    rw [← e]
    exact View.emb_mem_set _ _

end Cert.Att
end
-- ==== Proof.Att.RefSide.lean ====
module

public import proofs.«01_k».proof.Proof.Gen.ReferenceIdeal.Read
public import proofs.«01_k».proof.Proof.Att.Spec
public import Idealize.ShloMosaic.Lib.KernelVsHost

@[expose] public section
set_option maxRecDepth 16384
noncomputable section

namespace Cert.Att
open Idealize.ShloMosaic Cert.ReferenceIdeal Cert.ReferenceIdeal.Read

/-! ## The reference at an element -/

variable (A : (⟨3, ![16, 512, 3072]⟩ : Shape).Idx → EReal)

theorem eighth_val : Ideal.ofBits .f32 0x3E000000#32 = ((1 / 8 : ℝ) : EReal) := by
  simp [Ideal.ofBits, Ideal.ieee, -EReal.coe_mul]; norm_num

theorem ninf_val : Ideal.ofBits .f32 0xFF800000#32 = (⊥ : EReal) := by rfl

theorem zero_val : Ideal.ofBits .f32 0x00000000#32 = (0 : EReal) := Ideal.ofBits_zero_f32

/-- Element `d` of head `h` of part `w`. -/
theorem v1_at (a : Fin 16) (i : Fin 512) (h : Fin 48) (d : Fin 64) (x : Fin 3072) (hx : x.val = 64 * h.val + d.val) :
    val_main_v1 (F := Ideal) A (ix4 a i h d) = A (ix3 a i x) := by
  rw [val_main_v1_apply, val_main_v0_apply]
  refine congrArg A (funext fun k => Fin.ext ?_)
  have := a.isLt; have := i.isLt; have := h.isLt; have := d.isLt
  match k with
  | ⟨0, _⟩ => show (((a.val * 512 + i.val) * 48 + h.val) * 64 + d.val) / 1572864 = a.val; omega
  | ⟨1, _⟩ => show (((a.val * 512 + i.val) * 48 + h.val) * 64 + d.val) / 3072 % 512 = i.val; omega
  | ⟨2, _⟩ => show (((a.val * 512 + i.val) * 48 + h.val) * 64 + d.val) % 3072 = x.val; omega

theorem v2_at (a : Fin 16) (i : Fin 512) (h : Fin 16) (d : Fin 64) :
    val_main_v2 (F := Ideal) A (ix4 a i h d) = A (ix3 a i (part 0 (col h d))) := by
  rw [val_main_v2_apply]
  refine Eq.trans (congrArg (val_main_v1 (F := Ideal) A) (funext fun k => Fin.ext ?_)) (v1_at A a i ⟨h.val, by omega⟩ d (part 0 (col h d)) (by
    show 1024 * 0 + (64 * h.val + d.val) = 64 * h.val + d.val; omega))
  match k with
  | ⟨0, _⟩ => rfl
  | ⟨1, _⟩ => rfl
  | ⟨2, _⟩ => rfl
  | ⟨3, _⟩ => rfl

theorem v3_at (a : Fin 16) (i : Fin 512) (h : Fin 16) (d : Fin 64) :
    val_main_v3 (F := Ideal) A (ix4 a i h d) = A (ix3 a i (part 1 (col h d))) := by
  rw [val_main_v3_apply]
  refine Eq.trans (congrArg (val_main_v1 (F := Ideal) A) (funext fun k => Fin.ext ?_)) (v1_at A a i ⟨16 + h.val, by omega⟩ d (part 1 (col h d)) (by
    show 1024 * 1 + (64 * h.val + d.val) = 64 * (16 + h.val) + d.val; omega))
  match k with
  | ⟨0, _⟩ => rfl
  | ⟨1, _⟩ => rfl
  | ⟨2, _⟩ => rfl
  | ⟨3, _⟩ => rfl

theorem v4_at (a : Fin 16) (i : Fin 512) (h : Fin 16) (d : Fin 64) :
    val_main_v4 (F := Ideal) A (ix4 a i h d) = A (ix3 a i (part 2 (col h d))) := by
  rw [val_main_v4_apply]
  refine Eq.trans (congrArg (val_main_v1 (F := Ideal) A) (funext fun k => Fin.ext ?_)) (v1_at A a i ⟨32 + h.val, by omega⟩ d (part 2 (col h d)) (by
    show 1024 * 2 + (64 * h.val + d.val) = 64 * (32 + h.val) + d.val; omega))
  match k with
  | ⟨0, _⟩ => rfl
  | ⟨1, _⟩ => rfl
  | ⟨2, _⟩ => rfl
  | ⟨3, _⟩ => rfl

theorem ix4_ext {n0 n1 n2 n3 : Nat} {x y : (⟨4, ![n0, n1, n2, n3]⟩ : Shape).Idx} (h0 : (x 0).val = (y 0).val) (h1 : (x 1).val = (y 1).val)
    (h2 : (x 2).val = (y 2).val) (h3 : (x 3).val = (y 3).val) : x = y := funext fun k => Fin.ext (match k with
  | ⟨0, _⟩ => h0
  | ⟨1, _⟩ => h1
  | ⟨2, _⟩ => h2
  | ⟨3, _⟩ => h3)

theorem ix3_ext {n0 n1 n2 : Nat} {x y : (⟨3, ![n0, n1, n2]⟩ : Shape).Idx} (h0 : (x 0).val = (y 0).val) (h1 : (x 1).val = (y 1).val)
    (h2 : (x 2).val = (y 2).val) : x = y := funext fun k => Fin.ext (match k with
  | ⟨0, _⟩ => h0
  | ⟨1, _⟩ => h1
  | ⟨2, _⟩ => h2)

/-- The masked scores. -/
theorem v14_at (a h : Fin 16) (i j : Fin 512) : val_main_v14 (F := Ideal) A (ix4 a h i j) = S A a h i j := by
  have e5 : val_main_v5 (F := Ideal) A (ix4 a h i j) = ∑ d : Fin 64, A (ix3 a i (part 0 (col h d))) * A (ix3 a j (part 1 (col h d))) := by
    rw [val_main_v5_apply]
    refine Finset.sum_congr rfl fun d _ => congrArg₂ (· * ·) ?_ ?_
    · exact (congrArg (val_main_v2 (F := Ideal) A) (ix4_ext (y := ix4 a i h d) rfl rfl rfl rfl)).trans (v2_at A a i h d)
    · exact (congrArg (val_main_v3 (F := Ideal) A) (ix4_ext (y := ix4 a j h d) rfl rfl rfl rfl)).trans (v3_at A a j h d)
  rw [val_main_v14_apply, val_main_call0_v1_apply, val_main_v13_apply, val_main_v11_apply, val_main_v10_apply, val_main_v9_apply, val_main_v8_apply,
    val_main_v12_apply, val_main_c_apply, val_main_call0_v2_apply, val_main_call0_v0_apply, val_main_cst_0_apply, val_main_v7_apply, e5,
    val_main_v6_apply, val_main_cst_apply]
  refine Eq.trans (congrArg (fun w => Scalar.select w _ _) (near_word i.val j.val (by omega) (by omega))) ?_
  unfold S
  rw [← eighth_val]
  by_cases hn : i.val ≤ j.val + 64 ∧ j.val ≤ i.val + 64
  · rw [if_pos hn, if_pos hn.symm]; rfl
  · rw [if_neg hn, if_neg fun hc => hn hc.symm]; exact ninf_val

/-- The largest score. -/
theorem v15_at (a h : Fin 16) (i : Fin 512) : val_main_v15 (F := Ideal) A (ix3 a h i) = top (S A a h i) := by
  unfold val_main_v15 val_main_cst_1
  rw [hostReduce_maximumf_eq_multiReduction _ _ _ _ (by decide) (by decide) (by decide)]
  pointwise
  rw [ninf_val]
  exact Finset.fold_congr fun j _ => v14_at A a h i j

theorem v18_at (a h : Fin 16) (i j : Fin 512) : val_main_v18 (F := Ideal) A (ix4 a h i j) = S A a h i j - top (S A a h i) := by
  rw [val_main_v18_apply, val_main_v17_apply, val_main_v16_apply, v14_at]
  have e : idx_main_v16 (idx_main_v17 (ix4 a h i j)) = ix3 a h i := ix3_ext rfl rfl rfl
  rw [e, v15_at]
  rfl

theorem v19_at (a h : Fin 16) (i j : Fin 512) : val_main_v19 (F := Ideal) A (ix4 a h i j) = Ideal.exp (S A a h i j - top (S A a h i)) := by
  rw [val_main_v19_apply, v18_at]; rfl

/-- The sum of the weights. -/
theorem v20_at (a h : Fin 16) (i : Fin 512) : val_main_v20 (F := Ideal) A (ix3 a h i) = den (S A a h i) := by
  rw [val_main_v20_apply, val_main_cst_2_apply]
  refine (congrArg (· + _) zero_val).trans ((zero_add _).trans ?_)
  refine Finset.sum_congr rfl fun j _ => ?_
  have e : idx_main_v20 (ix3 a h i) j = ix4 a h i j := ix4_ext rfl rfl rfl rfl
  rw [e, v19_at]

/-- The attention of a head. -/
theorem v24_at (a h : Fin 16) (i : Fin 512) (d : Fin 64) :
    val_main_v24 (F := Ideal) A (ix4 a h i d) = att (S A a h i) fun j => A (ix3 a j (part 2 (col h d))) := by
  have e21 : val_main_v21 (F := Ideal) A (ix4 a h i d) = ∑ j, Ideal.exp (S A a h i j - top (S A a h i)) * A (ix3 a j (part 2 (col h d))) := by
    rw [val_main_v21_apply]
    refine Finset.sum_congr rfl fun j _ => congrArg₂ (· * ·) ?_ ?_
    · have e : lidx_main_v21 (ix4 a h i d) j = ix4 a h i j := ix4_ext rfl rfl rfl rfl
      rw [e, v19_at]
    · have e : ridx_main_v21 (ix4 a h i d) j = ix4 a j h d := ix4_ext rfl rfl rfl rfl
      rw [e, v4_at]
  have e : idx_main_v22 (idx_main_v23 (ix4 a h i d)) = ix3 a h i := ix3_ext rfl rfl rfl
  rw [val_main_v24_apply, e21, val_main_v23_apply, val_main_v22_apply, e, v20_at]
  rfl

/-- The log-sum-exp of a head. -/
theorem v26_at (a h : Fin 16) (i : Fin 512) : val_main_v26 (F := Ideal) A (ix3 a h i) = lse (S A a h i) := by
  rw [val_main_v26_apply, val_main_v25_apply, v15_at, v20_at]; rfl

/-- The reference's first result. -/
theorem v29_at (a : Fin 16) (i : Fin 512) (x : Fin 1024) : val_main_v29 (F := Ideal) A (ix3 a i x) = O A a i x := by
  have e : col (headO x) ⟨x.val % 64, by omega⟩ = x := Fin.ext (by show 64 * (x.val / 64) + x.val % 64 = x.val; omega)
  have e24 := v24_at A a (headO x) i ⟨x.val % 64, by omega⟩
  rw [e] at e24
  rw [val_main_v29_apply, val_main_v28_apply, val_main_v27_apply]
  refine Eq.trans (congrArg (val_main_v24 (F := Ideal) A) (ix4_ext ?_ ?_ ?_ ?_)) e24
  · show ((a.val * 512 + i.val) * 1024 + x.val) / 524288 = a.val; omega
  · show ((a.val * 512 + i.val) * 1024 + x.val) / 64 % 16 = x.val / 64; omega
  · show ((a.val * 512 + i.val) * 1024 + x.val) / 1024 % 512 = i.val; omega
  · show ((a.val * 512 + i.val) * 1024 + x.val) % 64 = x.val % 64; omega

/-- The reference's second result. -/
theorem v32_at (a : Fin 16) (i : Fin 512) (x : Fin 128) : val_main_v32 (F := Ideal) A (ix3 a i x) = L A a i x := by
  rw [val_main_v32_apply, val_main_v31_apply, val_main_v30_apply]
  refine Eq.trans (congrArg (val_main_v26 (F := Ideal) A) (ix3_ext (y := ix3 a (headL x) i) ?_ ?_ ?_)) (v26_at A a (headL x) i)
  · show ((a.val * 512 + i.val) * 128 + x.val) / 65536 = a.val; omega
  · show ((a.val * 512 + i.val) * 128 + x.val) / 8 % 16 = x.val / 8; omega
  · show ((a.val * 512 + i.val) * 128 + x.val) / 128 % 512 = i.val; omega

end Cert.Att
end
-- ==== Proof.Proj.Blocks.lean ====
module

public import proofs.«01_k».proof.Proof.Gen.Kernel2Ideal.Value
public import Idealize.ShloMosaic.Lib.Pointwise
public import Idealize.ShloMosaic.Lib.VecWindow

@[expose] public section
set_option maxRecDepth 16384
noncomputable section

namespace Cert.Proj
open Idealize.ShloMosaic Idealize.ShloMosaic.TcCoe Idealize.ShloMosaic.Tactic Cert.Kernel2Ideal Cert.Kernel2Ideal.Gen

/-! ## What a grid point leaves in its buffers -/

section
variable {F : FTy → Type} [FloatOps F]
variable (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x512 .f32) (harg4 : arg4.IsWhole) (arg5 : Memref sig .tc .vmem S1024x512 .f32) (harg5 : arg5.IsWhole)
    (arg6 : Memref sig .tc .vmem S1024x2048 .bf16) (harg6 : arg6.IsWhole)
    (x0 : Vec F S1024x2048 .f32) (x1 : Vec F S1x2048 .f32) (x2 : Vec F S2048x512 .f32)

/-- The normalized rows after the first point of a row block. -/
theorem rows_A (hc0 : cond0_0 i) : sout0_A_0 c i arg2 harg2 arg3 harg3 arg4 harg4 arg5 harg5 arg6 harg6 hc0 x0 x1 x2 = k0_pay1 x0 x1 := by
  unfold sout0_A_0 kernelRun0_A
  refine (View.read_writes_full _ _ _ _ _).trans ?_
  rw [View.readAt_full arg2.view, View.readAt_full arg3.view, harg2.read_unread, harg3.read_unread]

/-- The product's block after the first point of a row block. -/
theorem out_A (hc0 : cond0_0 i) : out0_A_3 c i arg2 harg2 arg3 harg3 arg4 harg4 arg5 harg5 arg6 harg6 hc0 x0 x1 x2 = k0_pay2 (k0_pay1 x0 x1) x2 := by
  unfold out0_A_3 kernelRun0_A
  refine (View.read_writes_full _ _ _ _ _).trans ?_
  have e : kernelRun0_A.sl.v3 c arg2 harg2 arg3 harg3 arg6 x0 x1 = k0_pay1 x0 x1 := by
    unfold kernelRun0_A.sl.v3
    refine (View.readCov_full arg6.view _ _ _ _).trans ?_
    rw [View.readAt_full arg2.view, View.readAt_full arg3.view, harg2.read_unread, harg3.read_unread]
  rw [e]
  exact congrArg (k0_pay2 _) ((View.readAt_full arg4.view _ _).trans (harg4.read_unread x2))

/-- The product's block after a later point. -/
theorem out_B (hc0 : ¬cond0_0 i) (xs0 : Vec F S1024x2048 .bf16) :
    out0_B_3 c i arg2 harg2 arg3 harg3 arg4 harg4 arg5 harg5 arg6 harg6 hc0 x0 x1 x2 xs0 = k0_pay2 xs0 x2 := by
  unfold out0_B_3 kernelRun0_B
  refine (View.read_writes_full _ _ _ _ _).trans ?_
  exact congrArg₂ k0_pay2 ((View.readAt_full arg6.view _ _).trans (harg6.read_unread xs0)) ((View.readAt_full arg4.view _ _).trans (harg4.read_unread x2))
end

/-! ## The buffers at every grid point, over the extended reals -/

variable (m : (ℓ : Loc nD τ sig) → Buf (Elt Ideal) ℓ) (c : Dev nD)

theorem index0 : ∀ t : Fin grid0.N, win0_0.index t 0 = t.val / 7 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = t.val % 7 := by decide +kernel
theorem index3 : ∀ t : Fin grid0.N, win0_3.index t 0 = t.val / 7 ∧ win0_3.index t 1 = t.val % 7 := by decide +kernel

/-- The three arguments. -/
abbrev argX : Vec Ideal S8192x2048 .f32 := m ((c : Thread nD τ).loc main_arg0)
abbrev argG : Vec Ideal S1x2048 .f32 := m ((c : Thread nD τ).loc main_arg1)
abbrev argW : Vec Ideal S2048x6560 .f32 := m ((c : Thread nD τ).loc main_arg2)

/-- The array's row of row `i` of a block of point `t`. -/
def row (t : Fin grid0.N) (i : Fin 1024) : Fin 8192 := ⟨1024 * (t.val / 7) + i.val, by have : t.val < 56 := lt_of_lt_of_eq t.isLt N_0; omega⟩

/-- The array's column of column `j` of a block of point `t`. -/
def col (t : Fin grid0.N) (j : Fin 512) : Fin 3584 := ⟨512 * (t.val % 7) + j.val, by omega⟩

/-- A column of the product among the weight's columns. -/
def wcol (j : Fin 3584) : Fin 6560 := ⟨j.val, by omega⟩

theorem blk0 (t : Fin grid0.N) (i : Fin 1024) (k : Fin 2048) : iblk m c 0 t (ix2 i k) = argX m c (ix2 (row t i) k) := by
  refine congrArg (m ((c : Thread nD τ).loc main_arg0)) (funext fun a => Fin.ext ?_)
  refine (Pipeline.Window.rect_emb_val win0_0 t (ix2 i k) a).trans ?_
  obtain ⟨h0, h1⟩ := index0 t
  match a with
  | ⟨0, _⟩ => exact (congrArg (· * 1024 + i.val) h0).trans (by show _ = 1024 * (t.val / 7) + i.val; omega)
  | ⟨1, _⟩ => exact (congrArg (· * 2048 + k.val) h1).trans (by show _ = k.val; omega)

theorem blk1 (t : Fin grid0.N) (k : Fin 2048) : iblk m c 1 t (ix2 0 k) = argG m c (ix2 0 k) := by
  refine congrArg (m ((c : Thread nD τ).loc main_arg1)) (funext fun a => Fin.ext ?_)
  refine (Pipeline.Window.rect_emb_val win0_1 t (ix2 0 k) a).trans ?_
  obtain ⟨h0, h1⟩ := index1 t
  match a with
  | ⟨0, _⟩ => exact (congrArg (· * 1 + 0) h0).trans rfl
  | ⟨1, _⟩ => exact (congrArg (· * 2048 + k.val) h1).trans (by show _ = k.val; omega)

/-- No block of the weight is cut at the array's end. -/
theorem blk2 (t : Fin grid0.N) (k : Fin 2048) (j : Fin 512) : X0_2 m c t (ix2 k j) = argW m c (ix2 k (wcol (col t j))) := by
  unfold X0_2 Pipeline.Window.fill
  rw [dif_pos (moved0_2 t (ix2 k j))]
  refine congrArg (m ((c : Thread nD τ).loc main_arg2)) (funext fun a => Fin.ext ?_)
  refine (Pipeline.Window.rect_emb_val win0_2 t _ a).trans ?_
  obtain ⟨h0, h1⟩ := index2 t
  match a with
  | ⟨0, _⟩ => exact (congrArg (· * 2048 + k.val) h0).trans (by show _ = k.val; omega)
  | ⟨1, _⟩ => exact (congrArg (· * 512 + j.val) h1).trans (by show _ = 512 * (t.val % 7) + j.val; omega)

/-- The scratch after every point: the normalized rows of the point's row block. -/
theorem rows_at (n : Nat) (t : Fin cfg0.N) (hn : t.val % 7 = n) : (outsAt0 m c t.val t.isLt).2 = k0_pay1 (iblk m c 0 t) (iblk m c 1 t) := by
  induction n generalizing t with
  | zero =>
    have hc := (hcond0_0 t).mpr hn
    rw [outsAt0_A m c t hn]
    dsimp only
    exact rows_A (F := Ideal) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (X0_2 m c t) hc
  | succ n ih =>
    have h0 : ¬t.val % 7 = 0 := by omega
    rw [outsAt0_B m c t h0]
    have lt : t.val - 1 < cfg0.N := Nat.lt_of_le_of_lt (Nat.sub_le _ _) t.isLt
    refine (ih ⟨t.val - 1, lt⟩ (by show (t.val - 1) % 7 = n; omega)).trans ?_
    have e0 : iblk m c 0 ⟨t.val - 1, lt⟩ = iblk m c 0 t := funext fun y => by
      obtain ⟨i, k, rfl⟩ : ∃ (i : Fin 1024) (k : Fin 2048), y = ix2 i k := ⟨y 0, y 1, funext fun a => match a with | ⟨0, _⟩ => rfl | ⟨1, _⟩ => rfl⟩
      rw [blk0, blk0]
      have er : row ⟨t.val - 1, lt⟩ i = row t i := Fin.ext (by show 1024 * ((t.val - 1) / 7) + i.val = 1024 * (t.val / 7) + i.val; omega)
      rw [er]
    have e1 : iblk m c 1 ⟨t.val - 1, lt⟩ = iblk m c 1 t := funext fun y => by
      obtain ⟨k, rfl⟩ : ∃ (k : Fin 2048), y = ix2 0 k := ⟨y 1, funext fun a => match a with | ⟨0, _⟩ => Fin.ext (by have : (y 0).val < 1 := (y 0).isLt; show (y 0).val = 0; omega) | ⟨1, _⟩ => rfl⟩
      rw [blk1, blk1]
    exact congrArg₂ k0_pay1 e0 e1

/-- The product's block after every point. -/
theorem out_at (t : Fin cfg0.N) : (outsAt0 m c t.val t.isLt).1 = k0_pay2 (k0_pay1 (iblk m c 0 t) (iblk m c 1 t)) (X0_2 m c t) := by
  have hr := rows_at m c _ t rfl
  by_cases h0 : t.val % 7 = 0
  · have hc := (hcond0_0 t).mpr h0
    rw [outsAt0_A m c t h0]
    dsimp only
    exact out_A (F := Ideal) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (X0_2 m c t) hc
  · have hc : ¬cond0_0 (grid0.coords t) := fun h => h0 ((hcond0_0 t).mp h)
    rw [outsAt0_B m c t h0] at hr ⊢
    dsimp only at hr ⊢
    refine (out_B (F := Ideal) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (X0_2 m c t) hc (outsAt0 m c (t.val - 1) (Nat.lt_of_le_of_lt (Nat.sub_le _ _) t.isLt)).2).trans ?_
    exact congrArg (k0_pay2 · (X0_2 m c t)) hr

/-! ## The array after the run -/

/-- Row `i` of `X` normalized and scaled, at channel `k`. -/
def normed {n : Nat} (X : Fin n → Fin 2048 → EReal) (G : Fin 2048 → EReal) (i : Fin n) (k : Fin 2048) : EReal :=
  X i k * Ideal.rsqrt (Ideal.div (∑ x, X i x * X i x) (Ideal.ofBits .f32 0x45000000#32) + Ideal.ofBits .f32 0x358637BD#32) * G k

/-- The product of the normalized rows with the weight's columns. -/
def arrZ (X : Vec Ideal S8192x2048 .f32) (G : Vec Ideal S1x2048 .f32) (W : Vec Ideal S2048x6560 .f32) : Vec Ideal S8192x3584 .f32 := fun y =>
  ∑ k, normed (fun i k => X (ix2 i k)) (fun k => G (ix2 0 k)) (y 0) k * W (ix2 k (wcol (y 1)))

theorem blk3 (t : Fin grid0.N) (i : Fin 1024) (j : Fin 512) :
    (outsAt0 m c t.val t.isLt).1 (ix2 i j) = arrZ (argX m c) (argG m c) (argW m c) (ix2 (row t i) (col t j)) := by
  rw [out_at]
  generalize h0 : iblk m c 0 t = x0
  generalize h1 : iblk m c 1 t = x1
  generalize h2 : X0_2 m c t = x2
  pointwise [k0_pay2, k0_pay1]
  subst h0; subst h1; subst h2
  simp only [blk0, blk1, blk2]
  rfl

theorem emb3 (t : Fin grid0.N) (i : Fin 1024) (j : Fin 512) :
    ((cfg0.win 3).blk t).view.emb (ix2 i j) = (ix2 (row t i) (col t j) : S8192x3584.Idx) := by
  refine funext fun a => Fin.ext ?_
  refine (Pipeline.Window.rect_emb_val win0_3 t (ix2 i j) a).trans ?_
  obtain ⟨h0, h1⟩ := index3 t
  match a with
  | ⟨0, _⟩ => exact (congrArg (· * 1024 + i.val) h0).trans (by show _ = 1024 * (t.val / 7) + i.val; omega)
  | ⟨1, _⟩ => exact (congrArg (· * 512 + j.val) h1).trans (by show _ = 512 * (t.val % 7) + j.val; omega)

theorem flush3 : ∀ t : Fin grid0.N, win0_3.flush t = true := by decide +kernel

/-- An index of rank 2 is its coordinates. -/
theorem ix2_eta {n0 n1 : Nat} (y : (⟨2, ![n0, n1]⟩ : Shape).Idx) : ix2 (y 0) (y 1) = y := by
  funext k
  match k with
  | ⟨0, _⟩ => rfl
  | ⟨1, _⟩ => rfl

/-- The array after the run. -/
theorem arr3 : (dats m 0 c).arrAt 3 cfg0.N = arrZ (argX m c) (argG m c) (argW m c) := by
  refine Pipeline.Dat.arrAt_eq_of_cover (dats m 0 c) 3 (arrZ (argX m c) (argG m c) (argW m c)) (fun t _ => ?_) (fun y => ?_)
  · rw [Cert.Kernel2Ideal.Value.flushed3]
    funext y
    rw [← ix2_eta y]
    refine (blk3 m c t (y 0) (y 1)).trans ?_
    exact (congrArg (arrZ (argX m c) (argG m c) (argW m c)) (emb3 t (y 0) (y 1))).symm
  · obtain ⟨i, j, rfl⟩ : ∃ (i : Fin 8192) (j : Fin 3584), y = (ix2 i j : S8192x3584.Idx) := ⟨y 0, y 1, (ix2_eta y).symm⟩
    have ht : 7 * (i.val / 1024) + j.val / 512 < grid0.N := by rw [N_0]; omega
    refine ⟨⟨7 * (i.val / 1024) + j.val / 512, ht⟩, flush3 _, ?_⟩
    have e := emb3 ⟨7 * (i.val / 1024) + j.val / 512, ht⟩ ⟨i.val % 1024, by omega⟩ ⟨j.val % 512, by omega⟩
    have e1 : row ⟨7 * (i.val / 1024) + j.val / 512, ht⟩ ⟨i.val % 1024, by omega⟩ = i := Fin.ext (by
      show 1024 * ((7 * (i.val / 1024) + j.val / 512) / 7) + i.val % 1024 = i.val; omega)
    have e2 : col ⟨7 * (i.val / 1024) + j.val / 512, ht⟩ ⟨j.val % 512, by omega⟩ = j := Fin.ext (by
      show 512 * ((7 * (i.val / 1024) + j.val / 512) % 7) + j.val % 512 = j.val; omega)
    rw [e1, e2] at e
    rw [← e]
    exact View.emb_mem_set _ _

end Cert.Proj
end
-- ==== Proof.Proj.RefSide.lean ====
module

public import proofs.«01_k».proof.Proof.Gen.Reference2Ideal.Read
public import proofs.«01_k».proof.Proof.Proj.Blocks
public import Idealize.ShloMosaic.Lib.IdealHost

@[expose] public section
set_option maxRecDepth 16384
noncomputable section

namespace Cert.Proj
open Idealize.ShloMosaic Cert.Reference2Ideal Cert.Reference2Ideal.Read

/-- An index of rank 2 with the coordinates `i` and `j`. -/
theorem ix2_ext {n0 n1 : Nat} {y : (⟨2, ![n0, n1]⟩ : Shape).Idx} {i : Fin n0} {j : Fin n1} (h0 : y 0 = i) (h1 : y 1 = j) : y = ix2 i j := by
  subst h0; subst h1; exact (ix2_eta y).symm

/-- The reference's result is the product of the normalized rows with the weight's columns. -/
theorem ref13 (x0 : Vec Ideal S8192x2048 .f32) (x1 : Vec Ideal S1x2048 .f32) (x2 : Vec Ideal S2048x6560 .f32) :
    val_main_v13 (F := Ideal) x0 x1 x2 = arrZ x0 x1 x2 := by
  funext y
  obtain ⟨i, j, rfl⟩ : ∃ (i : Fin 8192) (j : Fin 3584), y = (ix2 i j : S8192x3584.Idx) := ⟨y 0, y 1, (ix2_eta y).symm⟩
  rw [val_main_v13_apply]
  refine Finset.sum_congr rfl fun k _ => ?_
  simp only [val_main_v11_apply, val_main_v9_apply, val_main_v8_apply, val_main_v7_apply, val_main_v6_apply, val_main_v5_apply, val_main_v4_apply, val_main_v3_apply,
    val_main_v2_apply, val_main_v1_apply, val_main_v0_apply, val_main_v10_apply, val_main_v12_apply, val_main_cst_apply, val_main_cst_0_apply, val_main_cst_1_apply]
  have e0 : lidx_main_v13 (ix2 i j) k = ix2 i k := ix2_ext rfl rfl
  have e1 : ∀ q : Fin 2048, idx_main_v1 (idx_main_v2 (idx_main_v8 (lidx_main_v13 (ix2 i j) k))) q = ix2 i q := fun q => ix2_ext rfl rfl
  have e2 : idx_main_v10 (lidx_main_v13 (ix2 i j) k) = ix2 0 k := ix2_ext rfl rfl
  have e3 : idx_main_v12 (ridx_main_v13 (ix2 i j) k) = ix2 k (wcol j) := ix2_ext rfl rfl
  simp only [e1]
  rw [e2, e3, e0]
  have ez : (FloatOps.ofBits (F := Ideal) FTy.f32 0#32) = (0 : EReal) := Ideal.ofBits_zero_f32
  rw [ez, zero_add]
  rfl

end Cert.Proj
end
-- ==== Proof.Exp.Kit.lean ====
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Exp

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl

def tbl : pre0.Contents (Elt F) := fun j => V m (0 : Dev nD) (pre0.ref j)
theorem V_pre (c : Dev nD) (j : Fin 5) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S57 .i32 := Memref.whole main_arg4
abbrev htbM0_0 : tbM0_0.IsWhole := Memref.isWhole_whole _
abbrev tbM0_1 : Memref sig .tc .smem S57 .i32 := Memref.whole main_arg5
abbrev htbM0_1 : tbM0_1.IsWhole := Memref.isWhole_whole _
abbrev tbM0_2 : Memref sig .tc .smem S57 .i32 := Memref.whole main_arg6
abbrev htbM0_2 : tbM0_2.IsWhole := Memref.isWhole_whole _
abbrev tbM0_3 : Memref sig .tc .smem S57 .i32 := Memref.whole main_arg7
abbrev htbM0_3 : tbM0_3.IsWhole := Memref.isWhole_whole _
abbrev tbM0_4 : Memref sig .tc .smem S57 .i32 := Memref.whole main_arg8
abbrev htbM0_4 : tbM0_4.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (Pipeline.UD sig nD τ) ℕ) :=
  M.view.loc (c : Thread nD τ) ↦{fullShare.right} f

theorem PhiT0_eq (c : Dev nD) : (Pipeline.ΦT pre0 (tbl m) c : sProp (MT nD τ sig Unit (Elt F) ℕ (Pipeline.UD sig nD τ) ℕ)) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (Pipeline.UD sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c)⟩) h

abbrev VO0_3 : View sig .tc .vmem S640x2048 .f32 := (Memref.whole cc0_stg3_0 : Memref sig .tc .vmem S640x2048 .f32).view
abbrev ms0_0 (hO : Ok m) (t : Fin (cfgM m hO).N) : Memref sig .tc .vmem S1x2048x512 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x512x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S640x2048 .f32 := spec0_3.stage ((cfgM m hO).slots t 3)
abbrev hs0_3 (hO : Ok m) (t : Fin (cfgM m hO).N) : (ms0_3 m hO t).IsWhole := hstage0_3 (((cfgM m hO).slots t 3).cast nbuf0_3)

abbrev scM0_0 : Memref sig .tc .vmem S640x2048 .f32 := Memref.whole cc0_scratch0
abbrev scM0_1 : Memref sig .tc .vmem S640x2048 .bf16 := Memref.whole cc0_scratch1
abbrev VS0_1 : View sig .tc .vmem S640x2048 .bf16 := scM0_1.view
abbrev hbM0_0 : Memref sig .tc .hbm S16384x2048 .f32 := Memref.whole main_arg0
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp (MT nD τ sig Unit (Elt F) ℕ (Pipeline.UD sig nD τ) ℕ) :=
  M.view.loc (c : Thread nD τ) ↦{fullShare} f

abbrev osem0 : Fin 1 → SemLoc sig := fun j => (![SemLoc.dma 8] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp (MT nD τ sig Unit (Elt F) ℕ (Pipeline.UD sig nD τ) ℕ))
      = iprop(semVal ((c : Thread nD τ), SemLoc.dma 8) 0) := by
  rw [Pipeline.ownSems0_eq_of_list c osem0 [0] (by decide) (by decide)]; rfl
def H0 : Finset (Ref sig .tc) := {main_arg0}
theorem H0_sub : H0 ⊆ Pipeline.restRefsP sig pre0 spec0 := by decide
theorem hbmPts0_eq (c : Dev nD) :
    (bigSep H0 (fun b => ((c : Thread nD τ).loc b) ↦{fullShare} V m c b) : sProp (MT nD τ sig Unit (Elt F) ℕ (Pipeline.UD sig nD τ) ℕ)) = iprop(hbPt0 c hbM0_0 (V m c main_arg0)) := by
  rw [BI.bigSep_eq_bigSepL_of_eq [main_arg0] (by decide) (by decide)]; rfl

theorem PhiD0_eq (c : Dev nD) :
    (Pipeline.ΦD osem0 spec0 H0 (V m) c : sProp (MT nD τ sig Unit (Elt F) ℕ (Pipeline.UD sig nD τ) ℕ))
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 8) 0) ∗ iprop(hbPt0 c hbM0_0 (V m c main_arg0))) := by
  rw [Pipeline.ΦD_eq, scopedRest0_eq, ownSems00_eq, hbmPts0_eq]; simp only [scM0_0, scM0_1, owns_whole]; try rfl

end Cert.Kernel3Ideal.Exp

end
-- ==== Proof.Exp.Runs.lean ====
module

public import proofs.«01_k».proof.Proof.Exp.Kit
public import Idealize.ShloMosaic.Lib.VecWindow

@[expose] public section

set_option maxRecDepth 16384

noncomputable section

namespace Cert.Kernel3Ideal.Exp

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The word a table holds at an offset, as the body reads it. -/
abbrev twd (c : Dev nD) (M : Memref sig .tc .smem S57 .i32) (xt : TbBuf0 (F := F) c M) (off : Fin 1 → ℕ) (h : ∀ a, off a + S1.size a ≤ S57.size a) : BitVec 32 :=
  M.view.readAt (Elt F) (Rect.unit (s := S57) off S1.size h).toLoadRect xt (Shape.Idx.first (numel1_S1.symm ▸ Nat.one_pos))

/-- The 640 rows from row `st` lie inside the rows' array. -/
abbrev InRows (st : BitVec 32) : Prop := ∀ a, (![st.toNat, 0] : Fin 2 → ℕ) a + S640x2048.size a ≤ S16384x2048.size a

/-- The 640 rows of the rows' array from row `st`. -/
abbrev srcSl (st : BitVec 32) (h : InRows st) : Memref sig .tc .hbm S640x2048 .f32 :=
  (Memref.whole main_arg0 : Memref sig .tc .hbm S16384x2048 .f32).slice (Rect.unit (s := S16384x2048) ![st.toNat, 0] S640x2048.size h) (fun _ => rfl)

/-- Their contents. -/
abbrev rows (c : Dev nD) (fh : HbBuf0 (F := F) c hbM0_0) (st : BitVec 32) (h : InRows st) : Vec F S640x2048 .f32 := (srcSl st h).view.read (Elt F) fh

/-- The copy of those rows into the scratch under way, and the rest of the rows' array. -/
abbrev flight (c : Dev nD) (fh : HbBuf0 (F := F) c hbM0_0) (st : BitVec 32) (h : InRows st) : sProp (MT nD τ sig Unit (Elt F) ℕ (Pipeline.UD sig nD τ) ℕ) :=
  iprop((∃ g, Transfers.Flight countersEmb (c : Thread nD τ) (SemLoc.dma 8) () 163840
      iprop((scM0_0.view.loc (c : Thread nD τ) ↦[scM0_0.view.set]{fullShare} scM0_0.view.writes (Elt F) g [⟨Rect.whole S640x2048, rows c fh st h⟩])
        ∗ (hbM0_0.view.loc (c : Thread nD τ) ↦[(srcSl st h).view.set]{fullShare} fh)))
    ∗ (hbM0_0.view.loc (c : Thread nD τ) ↦[Finset.univ \ (srcSl st h).view.set]{fullShare} fh))

/-- No copy under way: the scratch at some contents, the counter at zero, the rows' array whole. -/
abbrev rest (c : Dev nD) (fh : HbBuf0 (F := F) c hbM0_0) : sProp (MT nD τ sig Unit (Elt F) ℕ (Pipeline.UD sig nD τ) ℕ) :=
  iprop((∃ d, owns (c : Thread nD τ) scM0_0 fullShare d) ∗ semVal ((c : Thread nD τ), SemLoc.dma 8) 0 ∗ hbPt0 c hbM0_0 fh)

/-- The rows lent to the copy and the rest of their array are the array. -/
theorem rejoin (c : Dev nD) (fh : HbBuf0 (F := F) c hbM0_0) (st : BitVec 32) (h : InRows st) :
    iprop((hbM0_0.view.loc (c : Thread nD τ) ↦[(srcSl st h).view.set]{fullShare} fh)
      ∗ (hbM0_0.view.loc (c : Thread nD τ) ↦[Finset.univ \ (srcSl st h).view.set]{fullShare} fh))
    ⊢ (hbPt0 c hbM0_0 fh : sProp (MT nD τ sig Unit (Elt F) ℕ (Pipeline.UD sig nD τ) ℕ)) := by
  refine (pointsTo_join_subset (Finset.subset_univ _)).trans (Entails.of_eq ?_)
  rw [Finset.piecewise_same]

/-- A load of the scratch after a copy into all of it. -/
theorem readWhole [∀ e, Nonempty (Elt F e)] (X : Vec F S640x2048 .f32) (inb : ∀ a, (![0, 0] : Fin 2 → ℕ) a + S640x2048.size a ≤ S640x2048.size a) :
    scM0_0.view.readCov (Val := Elt F) [⟨Rect.whole S640x2048, X⟩] (Rect.unit ![0, 0] S640x2048.size inb).toLoadRect = X :=
  View.readCov_full scM0_0.view inb (off' := fun _ => 0) (fun a => by simp) X []

set_option maxHeartbeats 1000000 in
/-- The first half of the first item, the next item there. -/
theorem runFN (c : Dev nD) (i : grid0.Coords) (arg8 : Memref sig .tc .vmem S1x2048x512 .f32) (harg8 : arg8.IsWhole) (arg9 : Memref sig .tc .vmem S1x2048x512 .f32) (harg9 : arg9.IsWhole) (arg10 : Memref sig .tc .vmem S1x512x2048 .f32) (harg10 : arg10.IsWhole) (arg11 : Memref sig .tc .vmem S640x2048 .f32) (harg11 : arg11.IsWhole)
    (x0 : Vec F S1x2048x512 .f32) (x1 : Vec F S1x2048x512 .f32) (x2 : Vec F S1x512x2048 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (fh0 : HbBuf0 (F := F) c hbM0_0) (v lo hi vn s sn s0 : BitVec 32)
    (ev : twd c tbM0_4 xt4 (k0_off1 i) (k0_off1_inb i) = v)
    (elo : twd c tbM0_2 xt2 (k0_off8 i) (k0_off8_inb i) = lo)
    (ehi : twd c tbM0_3 xt3 (k0_off8 i) (k0_off8_inb i) = hi)
    (evn : twd c tbM0_4 xt4 (k0_off5 i) (k0_off5_inb i) = vn)
    (es : twd c tbM0_1 xt1 (k0_off3 i) (k0_off3_inb i) = s)
    (esn : twd c tbM0_1 xt1 (k0_off6 i) (k0_off6_inb i) = sn)
    (es0 : twd c tbM0_1 xt1 ![0] inb_S57_S1_0 = s0)
    (h1 : k0_cond1 i v = 1#1)
    (h2 : k0_cond2 i = 1#1)
    (h3 : k0_cond3 i vn = 1#1)
    (h4 : ¬ k0_cond4 i v = 1#1)
    (h5 : k0_cond5 v = 1#1)
    (h6 : k0_cond6 i = 1#1)
    (h7 : ¬ k0_cond7 i = 1#1)
    (hst : InRows s0) (c1 : k0_chk1 i v s0)
    (c2 : k0_chk2 i v s)
    (hsn : InRows sn) (c3 : k0_chk3 i v vn sn)
    (W : Waits sig Unit) (K : PUnit → sProp (MT nD τ sig Unit (Elt F) ℕ (Pipeline.UD sig nD τ) ℕ)) :
        iprop(owns (c : Thread nD τ) arg8 fullShare x0 ∗ owns (c : Thread nD τ) arg9 fullShare x1 ∗ owns (c : Thread nD τ) arg10 fullShare x2 ∗ (∃ d, owns (c : Thread nD τ) arg11 fullShare d) ∗ rest c fh0 ∗ (∃ d, owns (c : Thread nD τ) scM0_1 fullShare d) ∗ tbPt0 c tbM0_0 xt0 ∗ tbPt0 c tbM0_1 xt1 ∗ tbPt0 c tbM0_2 xt2 ∗ tbPt0 c tbM0_3 xt3 ∗ tbPt0 c tbM0_4 xt4 ∗ owes (c : Thread nD τ) 0 W
            ∗ (iprop(owns (c : Thread nD τ) arg8 fullShare x0 ∗ owns (c : Thread nD τ) arg9 fullShare x1 ∗ owns (c : Thread nD τ) arg10 fullShare x2 ∗ owns (c : Thread nD τ) arg11 fullShare (k0_pay4 (k0_pay1 (rows c fh0 s0 hst)) x0 x1 lo hi x2) ∗ flight c fh0 sn hsn ∗ owns (c : Thread nD τ) scM0_1 fullShare (k0_pay1 (rows c fh0 s0 hst)) ∗ tbPt0 c tbM0_0 xt0 ∗ tbPt0 c tbM0_1 xt1 ∗ tbPt0 c tbM0_2 xt2 ∗ tbPt0 c tbM0_3 xt3 ∗ tbPt0 c tbM0_4 xt4 ∗ (∃ W', owes (c : Thread nD τ) 0 W')) -∗ K ⟨⟩))
          ⊢ wp frame (wpE (defs₀ (F := F)) Variants.none c none) Set.univ (cc0_moe_experts i tbM0_0 htbM0_0 tbM0_1 htbM0_1 tbM0_2 htbM0_2 tbM0_3 htbM0_3 tbM0_4 htbM0_4 (Memref.whole main_arg0) (Memref.isWhole_whole _) arg8 harg8 arg9 harg9 arg10 harg10 arg11 harg11 scM0_0 (Memref.isWhole_whole _) scM0_1 (Memref.isWhole_whole _) cc0_scratch2) K := by
    simp only [cc0_moe_experts_eq_skeleton]; unfold cc0_moe_experts_skel
    simp only [k0_part1_eq_skeleton]
    subst ev elo ehi evn es esn es0
    (try unfold rest); (try unfold flight); unfold owns
    iintro ⟨⟨%f0, %hf0, H0⟩, ⟨%f1, %hf1, H1⟩, ⟨%f2, %hf2, H2⟩, ⟨%d3, %f3, -, H3⟩, ⟨⟨%ds0, %fs0, -, HS0⟩, Hq0, Hh0⟩, ⟨%ds1, %fs1, -, HS1⟩, HT0, HT1, HT2, HT3, HT4, HW, Hk⟩
    obtain rfl := harg8.eq_unread hf0; obtain rfl := harg9.eq_unread hf1; obtain rfl := harg10.eq_unread hf2
    sl_exec (disch := first | sl_exact h1 | sl_exact h2 | sl_exact c1 | sl_exact c2 | sl_exact h4 | sl_exact h5 | sl_exact h6 | sl_exact h7 | sl_exact h3 | sl_exact c3)
    sl_step
    iapply Hk
    isplitl [H0]
    · iexists _; isplitr; · ipureintro; exact harg8.read_unread _
      iexact H0
    isplitl [H1]
    · iexists _; isplitr; · ipureintro; exact harg9.read_unread _
      iexact H1
    isplitl [H2]
    · iexists _; isplitr; · ipureintro; exact harg10.read_unread _
      iexact H2
    isplitl [H3]
    · iexists _; isplitr
      swap; · iexact H3
      ipureintro; refine (View.read_writes_full _ _ _ _ _).trans ?_
      refine congr (congr (congr (congr (congr (congrArg k0_pay4 ?_) ?_) ?_) ?_) ?_) ?_
      · unfold runFN.sl.v14
        refine (View.readCov_full scM0_1.view _ _ _ _).trans ?_
        refine congrArg k0_pay1 ?_
        unfold runFN.sl.v21
        exact readWhole _ _
      · exact (View.readAt_full arg8.view _ _).trans (harg8.read_unread x0)
      · exact (View.readAt_full arg9.view _ _).trans (harg9.read_unread x1)
      · rfl
      · rfl
      · exact (View.readAt_full arg10.view _ _).trans (harg10.read_unread x2)
    isplitl [Hq0 Hh0]
    · isplitl [Hq0]
      · iexists _; iexact Hq0
      iexact Hh0
    isplitl [HS1]
    · iexists _; isplitr
      swap; · iexact HS1
      ipureintro
      unfold runFN.sl.HS1_1
      refine (View.read_writes_full _ _ _ _ _).trans ?_
      refine congrArg k0_pay1 ?_
      unfold runFN.sl.v21
      exact readWhole _ _
    isplitl [HT0]; · iexact HT0
    isplitl [HT1]; · iexact HT1
    isplitl [HT2]; · iexact HT2
    isplitl [HT3]; · iexact HT3
    isplitl [HT4]; · iexact HT4
    iexists _; iexact HW

set_option maxHeartbeats 1000000 in
/-- The first half of the first item, no next item. -/
theorem runFX (c : Dev nD) (i : grid0.Coords) (arg8 : Memref sig .tc .vmem S1x2048x512 .f32) (harg8 : arg8.IsWhole) (arg9 : Memref sig .tc .vmem S1x2048x512 .f32) (harg9 : arg9.IsWhole) (arg10 : Memref sig .tc .vmem S1x512x2048 .f32) (harg10 : arg10.IsWhole) (arg11 : Memref sig .tc .vmem S640x2048 .f32) (harg11 : arg11.IsWhole)
    (x0 : Vec F S1x2048x512 .f32) (x1 : Vec F S1x2048x512 .f32) (x2 : Vec F S1x512x2048 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (fh0 : HbBuf0 (F := F) c hbM0_0) (v lo hi vn s s0 : BitVec 32)
    (ev : twd c tbM0_4 xt4 (k0_off1 i) (k0_off1_inb i) = v)
    (elo : twd c tbM0_2 xt2 (k0_off8 i) (k0_off8_inb i) = lo)
    (ehi : twd c tbM0_3 xt3 (k0_off8 i) (k0_off8_inb i) = hi)
    (evn : twd c tbM0_4 xt4 (k0_off5 i) (k0_off5_inb i) = vn)
    (es : twd c tbM0_1 xt1 (k0_off3 i) (k0_off3_inb i) = s)
    (es0 : twd c tbM0_1 xt1 ![0] inb_S57_S1_0 = s0)
    (h1 : k0_cond1 i v = 1#1)
    (h2 : k0_cond2 i = 1#1)
    (h3 : ¬ k0_cond3 i vn = 1#1)
    (h4 : ¬ k0_cond4 i v = 1#1)
    (h5 : k0_cond5 v = 1#1)
    (h6 : k0_cond6 i = 1#1)
    (h7 : ¬ k0_cond7 i = 1#1)
    (hst : InRows s0) (c1 : k0_chk1 i v s0)
    (c2 : k0_chk2 i v s)
    (W : Waits sig Unit) (K : PUnit → sProp (MT nD τ sig Unit (Elt F) ℕ (Pipeline.UD sig nD τ) ℕ)) :
        iprop(owns (c : Thread nD τ) arg8 fullShare x0 ∗ owns (c : Thread nD τ) arg9 fullShare x1 ∗ owns (c : Thread nD τ) arg10 fullShare x2 ∗ (∃ d, owns (c : Thread nD τ) arg11 fullShare d) ∗ rest c fh0 ∗ (∃ d, owns (c : Thread nD τ) scM0_1 fullShare d) ∗ tbPt0 c tbM0_0 xt0 ∗ tbPt0 c tbM0_1 xt1 ∗ tbPt0 c tbM0_2 xt2 ∗ tbPt0 c tbM0_3 xt3 ∗ tbPt0 c tbM0_4 xt4 ∗ owes (c : Thread nD τ) 0 W
            ∗ (iprop(owns (c : Thread nD τ) arg8 fullShare x0 ∗ owns (c : Thread nD τ) arg9 fullShare x1 ∗ owns (c : Thread nD τ) arg10 fullShare x2 ∗ owns (c : Thread nD τ) arg11 fullShare (k0_pay4 (k0_pay1 (rows c fh0 s0 hst)) x0 x1 lo hi x2) ∗ rest c fh0 ∗ owns (c : Thread nD τ) scM0_1 fullShare (k0_pay1 (rows c fh0 s0 hst)) ∗ tbPt0 c tbM0_0 xt0 ∗ tbPt0 c tbM0_1 xt1 ∗ tbPt0 c tbM0_2 xt2 ∗ tbPt0 c tbM0_3 xt3 ∗ tbPt0 c tbM0_4 xt4 ∗ (∃ W', owes (c : Thread nD τ) 0 W')) -∗ K ⟨⟩))
          ⊢ wp frame (wpE (defs₀ (F := F)) Variants.none c none) Set.univ (cc0_moe_experts i tbM0_0 htbM0_0 tbM0_1 htbM0_1 tbM0_2 htbM0_2 tbM0_3 htbM0_3 tbM0_4 htbM0_4 (Memref.whole main_arg0) (Memref.isWhole_whole _) arg8 harg8 arg9 harg9 arg10 harg10 arg11 harg11 scM0_0 (Memref.isWhole_whole _) scM0_1 (Memref.isWhole_whole _) cc0_scratch2) K := by
    simp only [cc0_moe_experts_eq_skeleton]; unfold cc0_moe_experts_skel
    simp only [k0_part1_eq_skeleton]
    subst ev elo ehi evn es es0
    (try unfold rest); (try unfold flight); unfold owns
    iintro ⟨⟨%f0, %hf0, H0⟩, ⟨%f1, %hf1, H1⟩, ⟨%f2, %hf2, H2⟩, ⟨%d3, %f3, -, H3⟩, ⟨⟨%ds0, %fs0, -, HS0⟩, Hq0, Hh0⟩, ⟨%ds1, %fs1, -, HS1⟩, HT0, HT1, HT2, HT3, HT4, HW, Hk⟩
    obtain rfl := harg8.eq_unread hf0; obtain rfl := harg9.eq_unread hf1; obtain rfl := harg10.eq_unread hf2
    sl_exec (disch := first | sl_exact h1 | sl_exact h2 | sl_exact c1 | sl_exact c2 | sl_exact h4 | sl_exact h5 | sl_exact h6 | sl_exact h7 | sl_exact h3)
    sl_step
    iapply Hk
    isplitl [H0]
    · iexists _; isplitr; · ipureintro; exact harg8.read_unread _
      iexact H0
    isplitl [H1]
    · iexists _; isplitr; · ipureintro; exact harg9.read_unread _
      iexact H1
    isplitl [H2]
    · iexists _; isplitr; · ipureintro; exact harg10.read_unread _
      iexact H2
    isplitl [H3]
    · iexists _; isplitr
      swap; · iexact H3
      ipureintro; refine (View.read_writes_full _ _ _ _ _).trans ?_
      refine congr (congr (congr (congr (congr (congrArg k0_pay4 ?_) ?_) ?_) ?_) ?_) ?_
      · unfold runFX.sl.v14
        refine (View.readCov_full scM0_1.view _ _ _ _).trans ?_
        refine congrArg k0_pay1 ?_
        unfold runFX.sl.v21
        exact readWhole _ _
      · exact (View.readAt_full arg8.view _ _).trans (harg8.read_unread x0)
      · exact (View.readAt_full arg9.view _ _).trans (harg9.read_unread x1)
      · rfl
      · rfl
      · exact (View.readAt_full arg10.view _ _).trans (harg10.read_unread x2)
    isplitl [HS0 Hq0 Hh0]
    · isplitl [HS0]
      · iexists _; iexists _; isplitr
        swap; · iexact HS0
        ipureintro; rfl
      isplitl [Hq0]; · iexact Hq0
      iexact Hh0
    isplitl [HS1]
    · iexists _; isplitr
      swap; · iexact HS1
      ipureintro
      unfold runFX.sl.HS1_1
      refine (View.read_writes_full _ _ _ _ _).trans ?_
      refine congrArg k0_pay1 ?_
      unfold runFX.sl.v21
      exact readWhole _ _
    isplitl [HT0]; · iexact HT0
    isplitl [HT1]; · iexact HT1
    isplitl [HT2]; · iexact HT2
    isplitl [HT3]; · iexact HT3
    isplitl [HT4]; · iexact HT4
    iexists _; iexact HW

set_option maxHeartbeats 1000000 in
/-- The first half of a later item, the next item there. -/
theorem runGN (c : Dev nD) (i : grid0.Coords) (arg8 : Memref sig .tc .vmem S1x2048x512 .f32) (harg8 : arg8.IsWhole) (arg9 : Memref sig .tc .vmem S1x2048x512 .f32) (harg9 : arg9.IsWhole) (arg10 : Memref sig .tc .vmem S1x512x2048 .f32) (harg10 : arg10.IsWhole) (arg11 : Memref sig .tc .vmem S640x2048 .f32) (harg11 : arg11.IsWhole)
    (x0 : Vec F S1x2048x512 .f32) (x1 : Vec F S1x2048x512 .f32) (x2 : Vec F S1x512x2048 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (fh0 : HbBuf0 (F := F) c hbM0_0) (v lo hi vn s sn : BitVec 32)
    (ev : twd c tbM0_4 xt4 (k0_off1 i) (k0_off1_inb i) = v)
    (elo : twd c tbM0_2 xt2 (k0_off8 i) (k0_off8_inb i) = lo)
    (ehi : twd c tbM0_3 xt3 (k0_off8 i) (k0_off8_inb i) = hi)
    (evn : twd c tbM0_4 xt4 (k0_off5 i) (k0_off5_inb i) = vn)
    (es : twd c tbM0_1 xt1 (k0_off3 i) (k0_off3_inb i) = s)
    (esn : twd c tbM0_1 xt1 (k0_off6 i) (k0_off6_inb i) = sn)
    (h1 : k0_cond1 i v = 1#1)
    (h2 : ¬ k0_cond2 i = 1#1)
    (h3 : k0_cond3 i vn = 1#1)
    (h4 : ¬ k0_cond4 i v = 1#1)
    (h5 : k0_cond5 v = 1#1)
    (h6 : k0_cond6 i = 1#1)
    (h7 : ¬ k0_cond7 i = 1#1)
    (st : BitVec 32) (hst : InRows st)
    (c2 : k0_chk2 i v s)
    (hsn : InRows sn) (c3 : k0_chk3 i v vn sn)
    (W : Waits sig Unit) (K : PUnit → sProp (MT nD τ sig Unit (Elt F) ℕ (Pipeline.UD sig nD τ) ℕ)) :
        iprop(owns (c : Thread nD τ) arg8 fullShare x0 ∗ owns (c : Thread nD τ) arg9 fullShare x1 ∗ owns (c : Thread nD τ) arg10 fullShare x2 ∗ (∃ d, owns (c : Thread nD τ) arg11 fullShare d) ∗ flight c fh0 st hst ∗ (∃ d, owns (c : Thread nD τ) scM0_1 fullShare d) ∗ tbPt0 c tbM0_0 xt0 ∗ tbPt0 c tbM0_1 xt1 ∗ tbPt0 c tbM0_2 xt2 ∗ tbPt0 c tbM0_3 xt3 ∗ tbPt0 c tbM0_4 xt4 ∗ owes (c : Thread nD τ) 0 W
            ∗ (iprop(owns (c : Thread nD τ) arg8 fullShare x0 ∗ owns (c : Thread nD τ) arg9 fullShare x1 ∗ owns (c : Thread nD τ) arg10 fullShare x2 ∗ owns (c : Thread nD τ) arg11 fullShare (k0_pay4 (k0_pay1 (rows c fh0 st hst)) x0 x1 lo hi x2) ∗ flight c fh0 sn hsn ∗ owns (c : Thread nD τ) scM0_1 fullShare (k0_pay1 (rows c fh0 st hst)) ∗ tbPt0 c tbM0_0 xt0 ∗ tbPt0 c tbM0_1 xt1 ∗ tbPt0 c tbM0_2 xt2 ∗ tbPt0 c tbM0_3 xt3 ∗ tbPt0 c tbM0_4 xt4 ∗ (∃ W', owes (c : Thread nD τ) 0 W')) -∗ K ⟨⟩))
          ⊢ wp frame (wpE (defs₀ (F := F)) Variants.none c none) Set.univ (cc0_moe_experts i tbM0_0 htbM0_0 tbM0_1 htbM0_1 tbM0_2 htbM0_2 tbM0_3 htbM0_3 tbM0_4 htbM0_4 (Memref.whole main_arg0) (Memref.isWhole_whole _) arg8 harg8 arg9 harg9 arg10 harg10 arg11 harg11 scM0_0 (Memref.isWhole_whole _) scM0_1 (Memref.isWhole_whole _) cc0_scratch2) K := by
    simp only [cc0_moe_experts_eq_skeleton]; unfold cc0_moe_experts_skel
    simp only [k0_part1_eq_skeleton]
    subst ev elo ehi evn es esn
    (try unfold rest); (try unfold flight); unfold owns
    iintro ⟨⟨%f0, %hf0, H0⟩, ⟨%f1, %hf1, H1⟩, ⟨%f2, %hf2, H2⟩, ⟨%d3, %f3, -, H3⟩, ⟨⟨%g0, Hq0⟩, Hh0⟩, ⟨%ds1, %fs1, -, HS1⟩, HT0, HT1, HT2, HT3, HT4, HW, Hk⟩
    obtain rfl := harg8.eq_unread hf0; obtain rfl := harg9.eq_unread hf1; obtain rfl := harg10.eq_unread hf2
    sl_exec (disch := first | sl_exact h1 | sl_exact h2 | sl_exact c2 | sl_exact h4 | sl_exact h5 | sl_exact h6 | sl_exact h7 | sl_exact h3 | sl_exact c3)
    sl_step
    iapply Hk
    isplitl [H0]
    · iexists _; isplitr; · ipureintro; exact harg8.read_unread _
      iexact H0
    isplitl [H1]
    · iexists _; isplitr; · ipureintro; exact harg9.read_unread _
      iexact H1
    isplitl [H2]
    · iexists _; isplitr; · ipureintro; exact harg10.read_unread _
      iexact H2
    isplitl [H3]
    · iexists _; isplitr
      swap; · iexact H3
      ipureintro; refine (View.read_writes_full _ _ _ _ _).trans ?_
      refine congr (congr (congr (congr (congr (congrArg k0_pay4 ?_) ?_) ?_) ?_) ?_) ?_
      · unfold runGN.sl.v14
        refine (View.readCov_full scM0_1.view _ _ _ _).trans ?_
        refine congrArg k0_pay1 ?_
        unfold runGN.sl.v21
        exact readWhole _ _
      · exact (View.readAt_full arg8.view _ _).trans (harg8.read_unread x0)
      · exact (View.readAt_full arg9.view _ _).trans (harg9.read_unread x1)
      · rfl
      · rfl
      · exact (View.readAt_full arg10.view _ _).trans (harg10.read_unread x2)
    isplitl [Hq0 Hh0]
    · isplitl [Hq0]
      · iexists _; iexact Hq0
      iexact Hh0
    isplitl [HS1]
    · iexists _; isplitr
      swap; · iexact HS1
      ipureintro
      unfold runGN.sl.HS1_1
      refine (View.read_writes_full _ _ _ _ _).trans ?_
      refine congrArg k0_pay1 ?_
      unfold runGN.sl.v21
      exact readWhole _ _
    isplitl [HT0]; · iexact HT0
    isplitl [HT1]; · iexact HT1
    isplitl [HT2]; · iexact HT2
    isplitl [HT3]; · iexact HT3
    isplitl [HT4]; · iexact HT4
    iexists _; iexact HW

set_option maxHeartbeats 1000000 in
/-- The first half of a later item, no next item. -/
theorem runGX (c : Dev nD) (i : grid0.Coords) (arg8 : Memref sig .tc .vmem S1x2048x512 .f32) (harg8 : arg8.IsWhole) (arg9 : Memref sig .tc .vmem S1x2048x512 .f32) (harg9 : arg9.IsWhole) (arg10 : Memref sig .tc .vmem S1x512x2048 .f32) (harg10 : arg10.IsWhole) (arg11 : Memref sig .tc .vmem S640x2048 .f32) (harg11 : arg11.IsWhole)
    (x0 : Vec F S1x2048x512 .f32) (x1 : Vec F S1x2048x512 .f32) (x2 : Vec F S1x512x2048 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (fh0 : HbBuf0 (F := F) c hbM0_0) (v lo hi vn s : BitVec 32)
    (ev : twd c tbM0_4 xt4 (k0_off1 i) (k0_off1_inb i) = v)
    (elo : twd c tbM0_2 xt2 (k0_off8 i) (k0_off8_inb i) = lo)
    (ehi : twd c tbM0_3 xt3 (k0_off8 i) (k0_off8_inb i) = hi)
    (evn : twd c tbM0_4 xt4 (k0_off5 i) (k0_off5_inb i) = vn)
    (es : twd c tbM0_1 xt1 (k0_off3 i) (k0_off3_inb i) = s)
    (h1 : k0_cond1 i v = 1#1)
    (h2 : ¬ k0_cond2 i = 1#1)
    (h3 : ¬ k0_cond3 i vn = 1#1)
    (h4 : ¬ k0_cond4 i v = 1#1)
    (h5 : k0_cond5 v = 1#1)
    (h6 : k0_cond6 i = 1#1)
    (h7 : ¬ k0_cond7 i = 1#1)
    (st : BitVec 32) (hst : InRows st)
    (c2 : k0_chk2 i v s)
    (W : Waits sig Unit) (K : PUnit → sProp (MT nD τ sig Unit (Elt F) ℕ (Pipeline.UD sig nD τ) ℕ)) :
        iprop(owns (c : Thread nD τ) arg8 fullShare x0 ∗ owns (c : Thread nD τ) arg9 fullShare x1 ∗ owns (c : Thread nD τ) arg10 fullShare x2 ∗ (∃ d, owns (c : Thread nD τ) arg11 fullShare d) ∗ flight c fh0 st hst ∗ (∃ d, owns (c : Thread nD τ) scM0_1 fullShare d) ∗ tbPt0 c tbM0_0 xt0 ∗ tbPt0 c tbM0_1 xt1 ∗ tbPt0 c tbM0_2 xt2 ∗ tbPt0 c tbM0_3 xt3 ∗ tbPt0 c tbM0_4 xt4 ∗ owes (c : Thread nD τ) 0 W
            ∗ (iprop(owns (c : Thread nD τ) arg8 fullShare x0 ∗ owns (c : Thread nD τ) arg9 fullShare x1 ∗ owns (c : Thread nD τ) arg10 fullShare x2 ∗ owns (c : Thread nD τ) arg11 fullShare (k0_pay4 (k0_pay1 (rows c fh0 st hst)) x0 x1 lo hi x2) ∗ rest c fh0 ∗ owns (c : Thread nD τ) scM0_1 fullShare (k0_pay1 (rows c fh0 st hst)) ∗ tbPt0 c tbM0_0 xt0 ∗ tbPt0 c tbM0_1 xt1 ∗ tbPt0 c tbM0_2 xt2 ∗ tbPt0 c tbM0_3 xt3 ∗ tbPt0 c tbM0_4 xt4 ∗ (∃ W', owes (c : Thread nD τ) 0 W')) -∗ K ⟨⟩))
          ⊢ wp frame (wpE (defs₀ (F := F)) Variants.none c none) Set.univ (cc0_moe_experts i tbM0_0 htbM0_0 tbM0_1 htbM0_1 tbM0_2 htbM0_2 tbM0_3 htbM0_3 tbM0_4 htbM0_4 (Memref.whole main_arg0) (Memref.isWhole_whole _) arg8 harg8 arg9 harg9 arg10 harg10 arg11 harg11 scM0_0 (Memref.isWhole_whole _) scM0_1 (Memref.isWhole_whole _) cc0_scratch2) K := by
    simp only [cc0_moe_experts_eq_skeleton]; unfold cc0_moe_experts_skel
    simp only [k0_part1_eq_skeleton]
    subst ev elo ehi evn es
    (try unfold rest); (try unfold flight); unfold owns
    iintro ⟨⟨%f0, %hf0, H0⟩, ⟨%f1, %hf1, H1⟩, ⟨%f2, %hf2, H2⟩, ⟨%d3, %f3, -, H3⟩, ⟨⟨%g0, Hq0⟩, Hh0⟩, ⟨%ds1, %fs1, -, HS1⟩, HT0, HT1, HT2, HT3, HT4, HW, Hk⟩
    obtain rfl := harg8.eq_unread hf0; obtain rfl := harg9.eq_unread hf1; obtain rfl := harg10.eq_unread hf2
    sl_exec (disch := first | sl_exact h1 | sl_exact h2 | sl_exact c2 | sl_exact h4 | sl_exact h5 | sl_exact h6 | sl_exact h7 | sl_exact h3)
    sl_step
    iapply Hk
    isplitl [H0]
    · iexists _; isplitr; · ipureintro; exact harg8.read_unread _
      iexact H0
    isplitl [H1]
    · iexists _; isplitr; · ipureintro; exact harg9.read_unread _
      iexact H1
    isplitl [H2]
    · iexists _; isplitr; · ipureintro; exact harg10.read_unread _
      iexact H2
    isplitl [H3]
    · iexists _; isplitr
      swap; · iexact H3
      ipureintro; refine (View.read_writes_full _ _ _ _ _).trans ?_
      refine congr (congr (congr (congr (congr (congrArg k0_pay4 ?_) ?_) ?_) ?_) ?_) ?_
      · unfold runGX.sl.v14
        refine (View.readCov_full scM0_1.view _ _ _ _).trans ?_
        refine congrArg k0_pay1 ?_
        unfold runGX.sl.v21
        exact readWhole _ _
      · exact (View.readAt_full arg8.view _ _).trans (harg8.read_unread x0)
      · exact (View.readAt_full arg9.view _ _).trans (harg9.read_unread x1)
      · rfl
      · rfl
      · exact (View.readAt_full arg10.view _ _).trans (harg10.read_unread x2)
    isplitl [Hq0_dst Hq0 Hh0]
    · isplitl [Hq0_dst]
      · iexists _; iexists _; isplitr
        swap; · iexact Hq0_dst
        ipureintro; rfl
      isplitl [Hq0]; · iexact Hq0
      iexact Hh0
    isplitl [HS1]
    · iexists _; isplitr
      swap; · iexact HS1
      ipureintro
      unfold runGX.sl.HS1_1
      refine (View.read_writes_full _ _ _ _ _).trans ?_
      refine congrArg k0_pay1 ?_
      unfold runGX.sl.v21
      exact readWhole _ _
    isplitl [HT0]; · iexact HT0
    isplitl [HT1]; · iexact HT1
    isplitl [HT2]; · iexact HT2
    isplitl [HT3]; · iexact HT3
    isplitl [HT4]; · iexact HT4
    iexists _; iexact HW

set_option maxHeartbeats 1000000 in
/-- The second half of the hidden channels of an item that is there. -/
theorem runB (c : Dev nD) (i : grid0.Coords) (arg8 : Memref sig .tc .vmem S1x2048x512 .f32) (harg8 : arg8.IsWhole) (arg9 : Memref sig .tc .vmem S1x2048x512 .f32) (harg9 : arg9.IsWhole) (arg10 : Memref sig .tc .vmem S1x512x2048 .f32) (harg10 : arg10.IsWhole) (arg11 : Memref sig .tc .vmem S640x2048 .f32) (harg11 : arg11.IsWhole)
    (x0 : Vec F S1x2048x512 .f32) (x1 : Vec F S1x2048x512 .f32) (x2 : Vec F S1x512x2048 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (xb : Vec F S640x2048 .bf16) (p : Vec F S640x2048 .f32) (v lo hi : BitVec 32)
    (ev : twd c tbM0_4 xt4 (k0_off1 i) (k0_off1_inb i) = v)
    (elo : twd c tbM0_2 xt2 (k0_off8 i) (k0_off8_inb i) = lo)
    (ehi : twd c tbM0_3 xt3 (k0_off8 i) (k0_off8_inb i) = hi)
    (h1 : ¬ k0_cond1 i v = 1#1)
    (h4 : ¬ k0_cond4 i v = 1#1)
    (h5 : k0_cond5 v = 1#1)
    (h6 : ¬ k0_cond6 i = 1#1)
    (h7 : k0_cond7 i = 1#1)
    (W : Waits sig Unit) (K : PUnit → sProp (MT nD τ sig Unit (Elt F) ℕ (Pipeline.UD sig nD τ) ℕ)) :
        iprop(owns (c : Thread nD τ) arg8 fullShare x0 ∗ owns (c : Thread nD τ) arg9 fullShare x1 ∗ owns (c : Thread nD τ) arg10 fullShare x2 ∗ owns (c : Thread nD τ) arg11 fullShare p ∗ owns (c : Thread nD τ) scM0_1 fullShare xb ∗ tbPt0 c tbM0_0 xt0 ∗ tbPt0 c tbM0_1 xt1 ∗ tbPt0 c tbM0_2 xt2 ∗ tbPt0 c tbM0_3 xt3 ∗ tbPt0 c tbM0_4 xt4 ∗ owes (c : Thread nD τ) 0 W
            ∗ (iprop(owns (c : Thread nD τ) arg8 fullShare x0 ∗ owns (c : Thread nD τ) arg9 fullShare x1 ∗ owns (c : Thread nD τ) arg10 fullShare x2 ∗ owns (c : Thread nD τ) arg11 fullShare (k0_pay3 (k0_pay4 xb x0 x1 lo hi x2) p) ∗ owns (c : Thread nD τ) scM0_1 fullShare xb ∗ tbPt0 c tbM0_0 xt0 ∗ tbPt0 c tbM0_1 xt1 ∗ tbPt0 c tbM0_2 xt2 ∗ tbPt0 c tbM0_3 xt3 ∗ tbPt0 c tbM0_4 xt4 ∗ (∃ W', owes (c : Thread nD τ) 0 W')) -∗ K ⟨⟩))
          ⊢ wp frame (wpE (defs₀ (F := F)) Variants.none c none) Set.univ (cc0_moe_experts i tbM0_0 htbM0_0 tbM0_1 htbM0_1 tbM0_2 htbM0_2 tbM0_3 htbM0_3 tbM0_4 htbM0_4 (Memref.whole main_arg0) (Memref.isWhole_whole _) arg8 harg8 arg9 harg9 arg10 harg10 arg11 harg11 scM0_0 (Memref.isWhole_whole _) scM0_1 (Memref.isWhole_whole _) cc0_scratch2) K := by
    simp only [cc0_moe_experts_eq_skeleton]; unfold cc0_moe_experts_skel
    simp only [k0_part1_eq_skeleton]
    subst ev elo ehi
    have hw13 : (scM0_1).IsWhole := Memref.isWhole_whole _
    unfold owns
    iintro ⟨⟨%f0, %hf0, H0⟩, ⟨%f1, %hf1, H1⟩, ⟨%f2, %hf2, H2⟩, ⟨%f3, %hf3, H3⟩, ⟨%fs1, %hfs1, HS1⟩, HT0, HT1, HT2, HT3, HT4, HW, Hk⟩
    obtain rfl := harg8.eq_unread hf0; obtain rfl := harg9.eq_unread hf1; obtain rfl := harg10.eq_unread hf2; obtain rfl := harg11.eq_unread hf3
    sl_exec (disch := first | sl_exact h1 | sl_exact h4 | sl_exact h5 | sl_exact h6 | sl_exact h7)
    sl_step
    iapply Hk
    isplitl [H0]
    · iexists _; isplitr; · ipureintro; exact harg8.read_unread _
      iexact H0
    isplitl [H1]
    · iexists _; isplitr; · ipureintro; exact harg9.read_unread _
      iexact H1
    isplitl [H2]
    · iexists _; isplitr; · ipureintro; exact harg10.read_unread _
      iexact H2
    isplitl [H3]
    · iexists _; isplitr
      swap; · iexact H3
      ipureintro; refine (View.read_writes_full _ _ _ _ _).trans ?_
      refine congr (congrArg k0_pay3 ?_) ?_
      · refine congr (congr (congr (congr (congr (congrArg k0_pay4 ?_) ?_) ?_) ?_) ?_) ?_
        · exact (View.readAt_full scM0_1.view _ _).trans hfs1
        · exact (View.readAt_full arg8.view _ _).trans (harg8.read_unread x0)
        · exact (View.readAt_full arg9.view _ _).trans (harg9.read_unread x1)
        · rfl
        · rfl
        · exact (View.readAt_full arg10.view _ _).trans (harg10.read_unread x2)
      · exact (View.readAt_full arg11.view _ _).trans (harg11.read_unread p)
    isplitl [HS1]
    · iexists _; isplitr
      swap; · iexact HS1
      ipureintro; exact hfs1
    isplitl [HT0]; · iexact HT0
    isplitl [HT1]; · iexact HT1
    isplitl [HT2]; · iexact HT2
    isplitl [HT3]; · iexact HT3
    isplitl [HT4]; · iexact HT4
    iexists _; iexact HW

set_option maxHeartbeats 1000000 in
/-- An item that is not there. -/
theorem runZA (c : Dev nD) (i : grid0.Coords) (arg8 : Memref sig .tc .vmem S1x2048x512 .f32) (harg8 : arg8.IsWhole) (arg9 : Memref sig .tc .vmem S1x2048x512 .f32) (harg9 : arg9.IsWhole) (arg10 : Memref sig .tc .vmem S1x512x2048 .f32) (harg10 : arg10.IsWhole) (arg11 : Memref sig .tc .vmem S640x2048 .f32) (harg11 : arg11.IsWhole)
    (x0 : Vec F S1x2048x512 .f32) (x1 : Vec F S1x2048x512 .f32) (x2 : Vec F S1x512x2048 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (v : BitVec 32)
    (ev : twd c tbM0_4 xt4 (k0_off1 i) (k0_off1_inb i) = v)
    (h1 : ¬ k0_cond1 i v = 1#1)
    (h4 : k0_cond4 i v = 1#1)
    (h5 : ¬ k0_cond5 v = 1#1)
    (W : Waits sig Unit) (K : PUnit → sProp (MT nD τ sig Unit (Elt F) ℕ (Pipeline.UD sig nD τ) ℕ)) :
        iprop((∃ d, owns (c : Thread nD τ) arg11 fullShare d) ∗ tbPt0 c tbM0_0 xt0 ∗ tbPt0 c tbM0_1 xt1 ∗ tbPt0 c tbM0_2 xt2 ∗ tbPt0 c tbM0_3 xt3 ∗ tbPt0 c tbM0_4 xt4 ∗ owes (c : Thread nD τ) 0 W
            ∗ (iprop(owns (c : Thread nD τ) arg11 fullShare (k0_pay2 (F := F)) ∗ tbPt0 c tbM0_0 xt0 ∗ tbPt0 c tbM0_1 xt1 ∗ tbPt0 c tbM0_2 xt2 ∗ tbPt0 c tbM0_3 xt3 ∗ tbPt0 c tbM0_4 xt4 ∗ (∃ W', owes (c : Thread nD τ) 0 W')) -∗ K ⟨⟩))
          ⊢ wp frame (wpE (defs₀ (F := F)) Variants.none c none) Set.univ (cc0_moe_experts i tbM0_0 htbM0_0 tbM0_1 htbM0_1 tbM0_2 htbM0_2 tbM0_3 htbM0_3 tbM0_4 htbM0_4 (Memref.whole main_arg0) (Memref.isWhole_whole _) arg8 harg8 arg9 harg9 arg10 harg10 arg11 harg11 scM0_0 (Memref.isWhole_whole _) scM0_1 (Memref.isWhole_whole _) cc0_scratch2) K := by
    simp only [cc0_moe_experts_eq_skeleton]; unfold cc0_moe_experts_skel
    simp only [k0_part1_eq_skeleton]
    subst ev
    unfold owns
    iintro ⟨⟨%d3, %f3, -, H3⟩, HT0, HT1, HT2, HT3, HT4, HW, Hk⟩
    sl_exec (disch := first | sl_exact h1 | sl_exact h4 | sl_exact h5)
    sl_step
    iapply Hk
    isplitl [H3]
    · iexists _; isplitr
      swap; · iexact H3
      ipureintro; exact View.read_writes_full _ _ _ _ _
    isplitl [HT0]; · iexact HT0
    isplitl [HT1]; · iexact HT1
    isplitl [HT2]; · iexact HT2
    isplitl [HT3]; · iexact HT3
    isplitl [HT4]; · iexact HT4
    iexists _; iexact HW

set_option maxHeartbeats 1000000 in
/-- An item that is not there. -/
theorem runZB (c : Dev nD) (i : grid0.Coords) (arg8 : Memref sig .tc .vmem S1x2048x512 .f32) (harg8 : arg8.IsWhole) (arg9 : Memref sig .tc .vmem S1x2048x512 .f32) (harg9 : arg9.IsWhole) (arg10 : Memref sig .tc .vmem S1x512x2048 .f32) (harg10 : arg10.IsWhole) (arg11 : Memref sig .tc .vmem S640x2048 .f32) (harg11 : arg11.IsWhole)
    (x0 : Vec F S1x2048x512 .f32) (x1 : Vec F S1x2048x512 .f32) (x2 : Vec F S1x512x2048 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (v : BitVec 32)
    (ev : twd c tbM0_4 xt4 (k0_off1 i) (k0_off1_inb i) = v)
    (h1 : ¬ k0_cond1 i v = 1#1)
    (h4 : ¬ k0_cond4 i v = 1#1)
    (h5 : ¬ k0_cond5 v = 1#1)
    (W : Waits sig Unit) (K : PUnit → sProp (MT nD τ sig Unit (Elt F) ℕ (Pipeline.UD sig nD τ) ℕ)) :
        iprop(tbPt0 c tbM0_0 xt0 ∗ tbPt0 c tbM0_1 xt1 ∗ tbPt0 c tbM0_2 xt2 ∗ tbPt0 c tbM0_3 xt3 ∗ tbPt0 c tbM0_4 xt4 ∗ owes (c : Thread nD τ) 0 W
            ∗ (iprop(tbPt0 c tbM0_0 xt0 ∗ tbPt0 c tbM0_1 xt1 ∗ tbPt0 c tbM0_2 xt2 ∗ tbPt0 c tbM0_3 xt3 ∗ tbPt0 c tbM0_4 xt4 ∗ (∃ W', owes (c : Thread nD τ) 0 W')) -∗ K ⟨⟩))
          ⊢ wp frame (wpE (defs₀ (F := F)) Variants.none c none) Set.univ (cc0_moe_experts i tbM0_0 htbM0_0 tbM0_1 htbM0_1 tbM0_2 htbM0_2 tbM0_3 htbM0_3 tbM0_4 htbM0_4 (Memref.whole main_arg0) (Memref.isWhole_whole _) arg8 harg8 arg9 harg9 arg10 harg10 arg11 harg11 scM0_0 (Memref.isWhole_whole _) scM0_1 (Memref.isWhole_whole _) cc0_scratch2) K := by
    simp only [cc0_moe_experts_eq_skeleton]; unfold cc0_moe_experts_skel
    simp only [k0_part1_eq_skeleton]
    subst ev
    iintro ⟨HT0, HT1, HT2, HT3, HT4, HW, Hk⟩
    sl_exec (disch := first | sl_exact h1 | sl_exact h4 | sl_exact h5)
    sl_step
    iapply Hk
    isplitl [HT0]; · iexact HT0
    isplitl [HT1]; · iexact HT1
    isplitl [HT2]; · iexact HT2
    isplitl [HT3]; · iexact HT3
    isplitl [HT4]; · iexact HT4
    iexists _; iexact HW

end Cert.Kernel3Ideal.Exp

end

end
-- ==== Proof.Exp.Facts.lean ====
module

public import proofs.«01_k».proof.Proof.Exp.Runs
public import Idealize.ShloMosaic.Lib.WordCmp

@[expose] public section

set_option maxRecDepth 16384

noncomputable section

namespace Cert.Kernel3Ideal.Exp

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The grid's points -/

theorem co0 (t : Fin grid0.N) : (grid0.coords t 0).val = t.val / 2 := by
  have ht : t.val < 114 := Nat.lt_of_lt_of_eq t.isLt N_0
  have e0 : (grid0.coords t 0).val = t.val / 2 % 57 := Pipeline.Grid.coords_val t 0 (by decide) rfl
  rw [e0]; omega

theorem co1 (t : Fin grid0.N) : (grid0.coords t 1).val = t.val % 2 := by
  have e1 : (grid0.coords t 1).val = t.val / 1 % 2 := Pipeline.Grid.coords_val t 1 (by decide) rfl
  rw [e1]; omega

theorem eqBit (v w : BitVec 32) : Scalar.cmpi .eq v w = if v = w then 1#1 else 0#1 := by
  show BitVec.ofBool (v == w) = _
  by_cases h : v = w
  · rw [if_pos h, beq_iff_eq.mpr h]; rfl
  · rw [if_neg h, beq_eq_false_iff_ne.mpr h]; rfl

theorem cond1 (t : Fin grid0.N) (v : BitVec 32) : k0_cond1 (grid0.coords t) v = 1#1 ↔ (v = 1#32 ∧ t.val % 2 = 0) := by
  unfold k0_cond1; simp only [co1, eqBit]
  rcases Nat.mod_two_eq_zero_or_one t.val with h | h <;> rw [h] <;> by_cases hv : v = 1#32 <;> simp [hv] <;> decide

theorem cond2 : ∀ t : Fin grid0.N, k0_cond2 (grid0.coords t) = 1#1 ↔ t.val / 2 = 0 := by decide +kernel
theorem cond6 : ∀ t : Fin grid0.N, k0_cond6 (grid0.coords t) = 1#1 ↔ t.val % 2 = 0 := by decide +kernel
theorem cond7 : ∀ t : Fin grid0.N, k0_cond7 (grid0.coords t) = 1#1 ↔ t.val % 2 = 1 := by decide +kernel
theorem cond3a : ∀ t : Fin grid0.N, k0_cond3 (grid0.coords t) 1#32 = 1#1 ↔ t.val / 2 + 1 < 57 := by decide +kernel

theorem cond3 (t : Fin grid0.N) (v : BitVec 32) : k0_cond3 (grid0.coords t) v = 1#1 ↔ (t.val / 2 + 1 < 57 ∧ v = 1#32) := by
  by_cases hv : v = 1#32
  · subst hv; rw [cond3a]; simp
  · unfold k0_cond3; simp only [eqBit, hv, if_false, and_false, iff_false]
    generalize Scalar.cmpi .slt _ _ = b
    revert b; decide

theorem cond4 (t : Fin grid0.N) (v : BitVec 32) : k0_cond4 (grid0.coords t) v = 1#1 ↔ (v ≠ 1#32 ∧ t.val % 2 = 0) := by
  unfold k0_cond4; simp only [co1, eqBit]
  rcases Nat.mod_two_eq_zero_or_one t.val with h | h <;> rw [h] <;> by_cases hv : v = 1#32 <;> simp [hv] <;> decide

theorem cond5 (v : BitVec 32) : k0_cond5 v = 1#1 ↔ v = 1#32 := by
  unfold k0_cond5; simp only [eqBit]
  by_cases hv : v = 1#32 <;> simp [hv] <;> decide

theorem off1 : ∀ t : Fin grid0.N, k0_off1 (grid0.coords t) = ![t.val / 2] := by decide +kernel
theorem off3 : ∀ t : Fin grid0.N, k0_off3 (grid0.coords t) = ![t.val / 2] := by decide +kernel
theorem off8 : ∀ t : Fin grid0.N, k0_off8 (grid0.coords t) = ![t.val / 2] := by decide +kernel
theorem off5 : ∀ t : Fin grid0.N, k0_off5 (grid0.coords t) = ![min (t.val / 2 + 1) 56] := by decide +kernel
theorem off6 : ∀ t : Fin grid0.N, k0_off6 (grid0.coords t) = ![min (t.val / 2 + 1) 56] := by decide +kernel

/-- The output's block is written back at the odd points. -/
theorem flush3 (a : (pcfg0 (F := F)).Adm) : ∀ t : Fin (cfg0 a).N, ((cfg0 a).win 3).flush t = true ↔ t.val % 2 = 1 :=
  (fun t => Pipeline.Window.flushOf_reads cc0_transform_4 reads0_3 hreads0_3 0 (by decide) (by decide) (Pipeline.Window.sep_of_coord cc0_transform_4 0 0 (fun _ => rfl) (by decide)) (P := 2) (m := 1) (by decide) rfl t : ∀ t : Fin grid0.N, Pipeline.Window.flushOf grid0 true cc0_transform_4 t = true ↔ t.val % 2 = 1)

/-- The output is stored at every even point. -/
theorem live3 (a : (pcfg0 (F := F)).Adm) (t : Fin (cfg0 a).N) (h : t.val % 2 = 0) : (cfg0 a).idle 3 ((cfg0 a).grid.coords t) = false := by
  suffices H : ∀ v : BitVec 32, (!(k0_cond4 (grid0.coords t) v == 1#1) && !(k0_cond5 v == 1#1 && k0_cond6 (grid0.coords t) == 1#1) && !(k0_cond5 v == 1#1 && k0_cond7 (grid0.coords t) == 1#1)) = false from H _
  intro v
  by_cases hv : v = 1#32
  · have h5 := (cond5 v).mpr hv
    have h6 := (cond6 t).mpr h
    simp [h5, h6]
  · have h4 := (cond4 t v).mpr ⟨hv, h⟩
    simp [h4]

/-! ## The tables' words -/

/-- Word `k` of a table. -/
def wd (c : Dev nD) (M : Memref sig .tc .smem S57 .i32) (xt : TbBuf0 (F := F) c M) (k : ℕ) : BitVec 32 :=
  if h : k < 57 then twd c M xt ![k] (fun a => by fin_cases a; show k + 1 ≤ 57; omega) else 0#32

theorem twd_eq (c : Dev nD) (M : Memref sig .tc .smem S57 .i32) (xt : TbBuf0 (F := F) c M) (k : ℕ) (hk : k < 57) (off : Fin 1 → ℕ) (e : off = ![k]) (h) :
    twd c M xt off h = wd c M xt k := by
  subst e; unfold wd; rw [dif_pos hk]

variable (m : (ℓ : Loc nD τ sig) → Buf (Elt F) ℓ)

/-- The first row of item `k`, the rows of its group, and whether it is there. -/
abbrev stW (c : Dev nD) (k : ℕ) : BitVec 32 := wd c tbM0_1 (tbl m 1) k
abbrev loW (c : Dev nD) (k : ℕ) : BitVec 32 := wd c tbM0_2 (tbl m 2) k
abbrev hiW (c : Dev nD) (k : ℕ) : BitVec 32 := wd c tbM0_3 (tbl m 3) k
abbrev okW (c : Dev nD) (k : ℕ) : BitVec 32 := wd c tbM0_4 (tbl m 4) k

/-- What the run needs of the tables: the items that are there come first, and the rows of one that is there
    begin at a multiple of eight and end inside the rows' array. -/
structure Tabs : Prop where
  first : ∀ c k, k + 1 < 57 → okW m c (k + 1) = 1#32 → okW m c k = 1#32
  mult : ∀ c k, k < 57 → okW m c k = 1#32 → 8 ∣ (stW m c k).toNat
  inside : ∀ c k, k < 57 → okW m c k = 1#32 → (stW m c k).toNat + 640 ≤ 16384

variable {m} in
theorem Tabs.inRows (hT : Tabs m) (c : Dev nD) (k : ℕ) (hk : k < 57) (ho : okW m c k = 1#32) : InRows (stW m c k) := fun a => by
  have := hT.inside c k hk ho
  match a with
  | ⟨0, _⟩ => exact this
  | ⟨1, _⟩ => exact Nat.le_refl 2048

end Cert.Kernel3Ideal.Exp

end

end
-- ==== Proof.Exp.Frame.lean ====
module

public import proofs.«01_k».proof.Proof.Exp.Facts
public import Idealize.ShloMosaic.Lib.Claim

@[expose] public section

set_option maxRecDepth 16384

noncomputable section

namespace Cert.Kernel3Ideal.Exp

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the buffers hold, point by point -/

/-- The 640 rows of item `k` (rows of no meaning where they would not lie in the array). -/
def rowsW (c : Dev nD) (k : ℕ) : Vec F S640x2048 .f32 :=
  if h : InRows (stW m c k) then rows c (V m c main_arg0) (stW m c k) h else rows c (V m c main_arg0) 0#32 (by decide)

theorem rowsW_eq (c : Dev nD) (k : ℕ) (h : InRows (stW m c k)) : rows c (V m c main_arg0) (stW m c k) h = rowsW m c k := by
  unfold rowsW; rw [dif_pos h]

/-- What the half of the hidden columns at point `t` gives. -/
def half (hO : Ok m) (c : Dev nD) (t : Fin (cfgM m hO).N) : Vec F S640x2048 .f32 :=
  k0_pay4 (k0_pay1 (rowsW m c (t.val / 2))) (iblk m hO c 0 t) (iblk m hO c 1 t) (loW m c (t.val / 2)) (hiW m c (t.val / 2)) (iblk m hO c 2 t)

/-- What the output's staging buffer holds after point `t`. -/
def outV (hO : Ok m) (c : Dev nD) (t : Fin (cfgM m hO).N) : Vec F S640x2048 .f32 :=
  if okW m c (t.val / 2) = 1#32 then
    if t.val % 2 = 0 then half m hO c t else k0_pay3 (half m hO c t) (half m hO c ⟨t.val - 1, Nat.lt_of_le_of_lt (Nat.sub_le _ _) t.isLt⟩)
  else k0_pay2

/-- The copy under way before position `n`: of the rows of the item whose first half is next, if it is there
    and not the first. -/
def copySt (c : Dev nD) (n : ℕ) : sProp (MT nD τ sig Unit (Elt F) ℕ (Pipeline.UD sig nD τ) ℕ) :=
  if h : (1 ≤ (n + 1) / 2 ∧ (n + 1) / 2 < 57 ∧ okW m c ((n + 1) / 2) = 1#32) ∧ InRows (stW m c ((n + 1) / 2)) then
    flight c (V m c main_arg0) (stW m c ((n + 1) / 2)) h.2
  else rest c (V m c main_arg0)

theorem copy_fly (c : Dev nD) (n k : ℕ) (e : (n + 1) / 2 = k) (h1 : 1 ≤ k) (h2 : k < 57) (ho : okW m c k = 1#32) (hr : InRows (stW m c k)) :
    copySt m c n = flight c (V m c main_arg0) (stW m c k) hr := by
  subst e; unfold copySt; rw [dif_pos ⟨⟨h1, h2, ho⟩, hr⟩]

theorem copy_rest (c : Dev nD) (n : ℕ) (h : ¬ (1 ≤ (n + 1) / 2 ∧ (n + 1) / 2 < 57 ∧ okW m c ((n + 1) / 2) = 1#32)) :
    copySt m c n = rest c (V m c main_arg0) := by
  unfold copySt; rw [dif_neg (fun h' => h h'.1)]

theorem copy_odd (c : Dev nD) (n : ℕ) (h : n % 2 = 1) : copySt m c (n + 1) = copySt m c n := by
  have e : (n + 1 + 1) / 2 = (n + 1) / 2 := by omega
  unfold copySt; simp only [e]

/-- The rows held rounded before position `n`: within an item that is there. -/
def xbSt (c : Dev nD) (n : ℕ) : sProp (MT nD τ sig Unit (Elt F) ℕ (Pipeline.UD sig nD τ) ℕ) :=
  if n % 2 = 1 ∧ okW m c (n / 2) = 1#32 then owns (c : Thread nD τ) scM0_1 fullShare (k0_pay1 (rowsW m c (n / 2)))
  else iprop(∃ d, owns (c : Thread nD τ) scM0_1 fullShare d)

theorem xb_in (c : Dev nD) (n k : ℕ) (e : n / 2 = k) (h : n % 2 = 1) (ho : okW m c k = 1#32) :
    xbSt m c n = owns (c : Thread nD τ) scM0_1 fullShare (k0_pay1 (rowsW m c k)) := by
  subst e; unfold xbSt; rw [if_pos ⟨h, ho⟩]

theorem xb_out (c : Dev nD) (n : ℕ) (h : ¬ (n % 2 = 1 ∧ okW m c (n / 2) = 1#32)) :
    xbSt m c n = iprop(∃ d, owns (c : Thread nD τ) scM0_1 fullShare d) := by
  unfold xbSt; rw [if_neg h]

/-- The invariant before position `n`. -/
def PhiE (c : Dev nD) (n : ℕ) : sProp (MT nD τ sig Unit (Elt F) ℕ (Pipeline.UD sig nD τ) ℕ) :=
  iprop(copySt m c n ∗ xbSt m c n ∗ (∃ r, prngReg c r) ∗ Pipeline.ΦT pre0 (tbl m) c)

/-! ## The pipeline's proof data -/

def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outV m hO c t
  Φ t := PhiE m c t.val
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = outV m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-- The second half of an item finds in the output's buffer what the first half left. -/
theorem before0_3 (hO : Ok m) (c : Dev nD) (t : Fin (cfgM m hO).N) (hj : t.val % 2 = 1) (d) :
    (dats m hO 0 c).before 3 t d = outV m hO c ⟨t.val - 1, Nat.lt_of_le_of_lt (Nat.sub_le _ _) t.isLt⟩ := by
  have ht : t.val ≠ 0 := by omega
  have hf : ((cfgM m hO).win 3).flush ⟨t.val - 1, Nat.lt_of_le_of_lt (Nat.sub_le _ _) t.isLt⟩ = false := by
    refine Bool.eq_false_iff.mpr fun h => ?_
    have := (flush3 (adm m hO) ⟨t.val - 1, Nat.lt_of_le_of_lt (Nat.sub_le _ _) t.isLt⟩).mp h
    have : (t.val - 1) % 2 = 1 := this
    omega
  rw [(dats m hO 0 c).before_of_pos 3 t ht (((cfgM m hO).win 3).fetch_out rfl t), hf, if_neg Bool.false_ne_true]
  unfold Dat.left
  rw [live3 (adm m hO) ⟨t.val - 1, Nat.lt_of_le_of_lt (Nat.sub_le _ _) t.isLt⟩ (by show (t.val - 1) % 2 = 0; omega)]
  show (dats m hO 0 c).kept 3 _ d = _
  unfold Dat.kept
  rw [Pipeline.fill_of_clip_none 3 _ (fun _ => rfl) d ((dats m hO 0 c).after 3 _), Window.fill_cut]
  exact after0_3 m hO c _

/-- The output's buffer at what the proof data names is what the body owes of it at any point. -/
theorem leaves3 (hO : Ok m) (c : Dev nD) (t : Fin (cfgM m hO).N) :
    (owns (c : Thread nD τ) (ms0_3 m hO t) fullShare (outV m hO c t) : sProp (MT nD τ sig Unit (Elt F) ℕ (Pipeline.UD sig nD τ) ℕ)) ⊢ (dats m hO 0 c).leavesExact 3 t := by
  rw [← after0_3 m hO c t]
  unfold Dat.leavesExact
  rcases Nat.mod_two_eq_zero_or_one t.val with h | h
  · rw [live3 (adm m hO) t h]
    exact .rfl
  · rw [(flush3 (adm m hO) t).mpr h]
    cases (cfgM m hO).idle 3 ((cfgM m hO).grid.coords t) <;> exact .rfl

/-! ## The body, at a point -/

def bodyPre (hO : Ok m) (c : Dev nD) (t : Fin (cfgM m hO).N) : sProp (MT nD τ sig Unit (Elt F) ℕ (Pipeline.UD sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

def bodyPost (hO : Ok m) (c : Dev nD) (t : Fin (cfgM m hO).N) : sProp (MT nD τ sig Unit (Elt F) ℕ (Pipeline.UD sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ (dats m hO 0 c).leavesExact 3 t)

/-- The kernel body at point `t`, on what the pipeline calls it with. -/
abbrev bodyAt0 (a : (pcfg0 (F := F)).Adm) (t : Fin (cfg0 a).N) : Prog (TpuEff nD τ sig (Elt F) Λ₀ .tc) PUnit :=
  cc0_moe_experts (grid0.coords t) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _) cc0_scratch2

set_option maxHeartbeats 2000000 in
/-- The first half of the first item, the next item there. -/
theorem body_FN (hO : Ok m) (hT : Tabs m) (c : Dev nD) (t : Fin (cfgM m hO).N) (ho : okW m c (t.val / 2) = 1#32) (hj : t.val % 2 = 0) (hz : t.val / 2 = 0) (hn : t.val / 2 + 1 < 57 ∧ okW m c (t.val / 2 + 1) = 1#32) :
    bodyPre m hO c t ⊢ wp frame (wpE (defs₀ (F := F)) Variants.none c none) Set.univ (bodyAt0 (adm m hO) t) (fun _ => bodyPost m hO c t) := by
  have hN : t.val < 114 := lt_of_lt_of_eq t.isLt (show (cfgM m hO).N = 114 from N_0)
  have hw : t.val / 2 < 57 := by omega
  have ev := twd_eq c tbM0_4 (tbl m 4) _ hw _ (off1 t) (k0_off1_inb (grid0.coords t))
  have elo := twd_eq c tbM0_2 (tbl m 2) _ hw _ (off8 t) (k0_off8_inb (grid0.coords t))
  have ehi := twd_eq c tbM0_3 (tbl m 3) _ hw _ (off8 t) (k0_off8_inb (grid0.coords t))
  unfold bodyPre bodyPost bodyAt0
  simp only [before0_0, before0_1, before0_2]
  rw [show (dats m hO 0 c).Φ t.succ = PhiE m c (t.val + 1) from rfl, show (dats m hO 0 c).Φ t.castSucc = PhiE m c t.val from rfl, after0_0, after0_1, after0_2]
  unfold Dat.owesAt Pipeline.owesWithin PhiE
  rw [show (dats m hO 0 c).owed t.castSucc = 0 from rfl, show (dats m hO 0 c).owed t.succ = 0 from rfl, PhiT0_eq]
  have hv : okW m c (t.val / 2) = 1#32 := ho
  have h1 : k0_cond1 (grid0.coords t) (okW m c (t.val / 2)) = 1#1 := (cond1 t _).mpr ⟨ho, hj⟩
  have h4 : ¬ k0_cond4 (grid0.coords t) (okW m c (t.val / 2)) = 1#1 := fun h => ((cond4 t _).mp h).1 ho
  have h5 : k0_cond5 (okW m c (t.val / 2)) = 1#1 := (cond5 _).mpr ho
  have h6 : k0_cond6 (grid0.coords t) = 1#1 := (cond6 t).mpr hj
  have h7 : ¬ k0_cond7 (grid0.coords t) = 1#1 := fun h => by have := (cond7 t).mp h; omega
  have hm : min (t.val / 2 + 1) 56 < 57 := by omega
  have evn := twd_eq c tbM0_4 (tbl m 4) _ hm _ (off5 t) (k0_off5_inb (grid0.coords t))
  have es := twd_eq c tbM0_1 (tbl m 1) _ hw _ (off3 t) (k0_off3_inb (grid0.coords t))
  have hst : InRows (stW m c (t.val / 2)) := hT.inRows c _ hw ho
  have c2 : k0_chk2 (grid0.coords t) (okW m c (t.val / 2)) (stW m c (t.val / 2)) := ⟨fun _ => hT.mult c _ hw ho, fun _ => hst⟩
  have ho3 : outV m hO c t = k0_pay4 (k0_pay1 (rows c (V m c main_arg0) (stW m c (t.val / 2)) hst)) (iblk m hO c 0 t) (iblk m hO c 1 t) (loW m c (t.val / 2)) (hiW m c (t.val / 2)) (iblk m hO c 2 t) := by
    unfold outV half; rw [if_pos ho, if_pos hj, rowsW_eq]
  rw [xb_out m c t.val (by omega), xb_in m c (t.val + 1) (t.val / 2) (by omega) (by omega) ho, ← rowsW_eq m c (t.val / 2) hst]
  have ez : t.val = 0 := by omega
  have h2 : k0_cond2 (grid0.coords t) = 1#1 := (cond2 t).mpr hz
  have es0 := twd_eq c tbM0_1 (tbl m 1) 0 (by omega) ![0] rfl inb_S57_S1_0
  rw [copy_rest m c t.val (by omega)]
  have hs0 : InRows (stW m c 0) := hT.inRows c 0 (by omega) (by rw [← hz]; exact ho)
  have e0 : stW m c (t.val / 2) = stW m c 0 := by rw [hz]
  have c1 : k0_chk1 (grid0.coords t) (okW m c (t.val / 2)) (stW m c 0) := ⟨fun _ _ => hT.mult c 0 (by omega) (by rw [← hz]; exact ho), fun _ _ => hs0⟩
  have er : rows c (V m c main_arg0) (stW m c (t.val / 2)) hst = rows c (V m c main_arg0) (stW m c 0) hs0 := (rowsW_eq m c _ hst).trans (by rw [hz]; exact (rowsW_eq m c 0 hs0).symm)
  rw [er]; rw [er] at ho3
  have hn1 : t.val / 2 + 1 < 57 := hn.1
  have emin : min (t.val / 2 + 1) 56 = t.val / 2 + 1 := by omega
  have h3 : k0_cond3 (grid0.coords t) (okW m c (min (t.val / 2 + 1) 56)) = 1#1 := by rw [emin]; exact (cond3 t _).mpr hn
  have esn := twd_eq c tbM0_1 (tbl m 1) (t.val / 2 + 1) hn1 _ ((off6 t).trans (by rw [emin])) (k0_off6_inb (grid0.coords t))
  have hsn : InRows (stW m c (t.val / 2 + 1)) := hT.inRows c _ hn1 hn.2
  have c3 : k0_chk3 (grid0.coords t) (okW m c (t.val / 2)) (okW m c (min (t.val / 2 + 1) 56)) (stW m c (t.val / 2 + 1)) := ⟨fun _ _ => hT.mult c _ hn1 hn.2, fun _ _ => hsn⟩
  rw [copy_fly m c (t.val + 1) (t.val / 2 + 1) (by omega) (by omega) hn1 hn.2 hsn]
  iintro ⟨⟨HC, HX, Hg, ⟨HT0, HT1, HT2, HT3, HT4⟩⟩, ⟨%W, -, HW⟩, ⟨%d0, H0⟩, ⟨%d1, H1⟩, ⟨%d2, H2⟩, ⟨%d3, H3⟩⟩
  iapply (runFN c (grid0.coords t) _ (hs0_0 m hO t) _ (hs0_1 m hO t) _ (hs0_2 m hO t) _ (hs0_3 m hO t) (iblk m hO c 0 t) (iblk m hO c 1 t) (iblk m hO c 2 t) (tbl m 0) (tbl m 1) (tbl m 2) (tbl m 3) (tbl m 4) (V m c main_arg0) (okW m c (t.val / 2)) (loW m c (t.val / 2)) (hiW m c (t.val / 2)) (okW m c (min (t.val / 2 + 1) 56)) (stW m c (t.val / 2)) (stW m c (t.val / 2 + 1)) (stW m c 0) ev elo ehi evn es esn es0 h1 h2 h3 h4 h5 h6 h7 hs0 c1 c2 hsn c3 W _)
  isplitl [H0]; · iexact H0
  isplitl [H1]; · iexact H1
  isplitl [H2]; · iexact H2
  isplitl [H3]; · iexists _; iexact H3
  isplitl [HC]; · iexact HC
  isplitl [HX]; · iexact HX
  isplitl [HT0]; · iexact HT0
  isplitl [HT1]; · iexact HT1
  isplitl [HT2]; · iexact HT2
  isplitl [HT3]; · iexact HT3
  isplitl [HT4]; · iexact HT4
  isplitl [HW]; · iexact HW
  iintro ⟨H0, H1, H2, H3, HC, HX, HT0, HT1, HT2, HT3, HT4, ⟨%W', HW'⟩⟩
  isplitl [HC HX Hg HT0 HT1 HT2 HT3 HT4]
  · isplitl [HC]; · iexact HC
    isplitl [HX]; · iexact HX
    isplitl [Hg]; · iexact Hg
    isplitl [HT0]; · iexact HT0
    isplitl [HT1]; · iexact HT1
    isplitl [HT2]; · iexact HT2
    isplitl [HT3]; · iexact HT3
    iexact HT4
  isplitl [HW']
  · iexists W'; isplitr; · ipureintro; exact fun _ _ => Or.inl trivial
    iexact HW'
  isplitl [H0]; · iexact H0
  isplitl [H1]; · iexact H1
  isplitl [H2]; · iexact H2
  iapply (leaves3 m hO c t)
  rw [ho3]
  iexact H3

set_option maxHeartbeats 2000000 in
/-- The first half of the first item, the next item not there. -/
theorem body_FX (hO : Ok m) (hT : Tabs m) (c : Dev nD) (t : Fin (cfgM m hO).N) (ho : okW m c (t.val / 2) = 1#32) (hj : t.val % 2 = 0) (hz : t.val / 2 = 0) (hn : ¬ (t.val / 2 + 1 < 57 ∧ okW m c (t.val / 2 + 1) = 1#32)) :
    bodyPre m hO c t ⊢ wp frame (wpE (defs₀ (F := F)) Variants.none c none) Set.univ (bodyAt0 (adm m hO) t) (fun _ => bodyPost m hO c t) := by
  have hN : t.val < 114 := lt_of_lt_of_eq t.isLt (show (cfgM m hO).N = 114 from N_0)
  have hw : t.val / 2 < 57 := by omega
  have ev := twd_eq c tbM0_4 (tbl m 4) _ hw _ (off1 t) (k0_off1_inb (grid0.coords t))
  have elo := twd_eq c tbM0_2 (tbl m 2) _ hw _ (off8 t) (k0_off8_inb (grid0.coords t))
  have ehi := twd_eq c tbM0_3 (tbl m 3) _ hw _ (off8 t) (k0_off8_inb (grid0.coords t))
  unfold bodyPre bodyPost bodyAt0
  simp only [before0_0, before0_1, before0_2]
  rw [show (dats m hO 0 c).Φ t.succ = PhiE m c (t.val + 1) from rfl, show (dats m hO 0 c).Φ t.castSucc = PhiE m c t.val from rfl, after0_0, after0_1, after0_2]
  unfold Dat.owesAt Pipeline.owesWithin PhiE
  rw [show (dats m hO 0 c).owed t.castSucc = 0 from rfl, show (dats m hO 0 c).owed t.succ = 0 from rfl, PhiT0_eq]
  have hv : okW m c (t.val / 2) = 1#32 := ho
  have h1 : k0_cond1 (grid0.coords t) (okW m c (t.val / 2)) = 1#1 := (cond1 t _).mpr ⟨ho, hj⟩
  have h4 : ¬ k0_cond4 (grid0.coords t) (okW m c (t.val / 2)) = 1#1 := fun h => ((cond4 t _).mp h).1 ho
  have h5 : k0_cond5 (okW m c (t.val / 2)) = 1#1 := (cond5 _).mpr ho
  have h6 : k0_cond6 (grid0.coords t) = 1#1 := (cond6 t).mpr hj
  have h7 : ¬ k0_cond7 (grid0.coords t) = 1#1 := fun h => by have := (cond7 t).mp h; omega
  have hm : min (t.val / 2 + 1) 56 < 57 := by omega
  have evn := twd_eq c tbM0_4 (tbl m 4) _ hm _ (off5 t) (k0_off5_inb (grid0.coords t))
  have es := twd_eq c tbM0_1 (tbl m 1) _ hw _ (off3 t) (k0_off3_inb (grid0.coords t))
  have hst : InRows (stW m c (t.val / 2)) := hT.inRows c _ hw ho
  have c2 : k0_chk2 (grid0.coords t) (okW m c (t.val / 2)) (stW m c (t.val / 2)) := ⟨fun _ => hT.mult c _ hw ho, fun _ => hst⟩
  have ho3 : outV m hO c t = k0_pay4 (k0_pay1 (rows c (V m c main_arg0) (stW m c (t.val / 2)) hst)) (iblk m hO c 0 t) (iblk m hO c 1 t) (loW m c (t.val / 2)) (hiW m c (t.val / 2)) (iblk m hO c 2 t) := by
    unfold outV half; rw [if_pos ho, if_pos hj, rowsW_eq]
  rw [xb_out m c t.val (by omega), xb_in m c (t.val + 1) (t.val / 2) (by omega) (by omega) ho, ← rowsW_eq m c (t.val / 2) hst]
  have ez : t.val = 0 := by omega
  have h2 : k0_cond2 (grid0.coords t) = 1#1 := (cond2 t).mpr hz
  have es0 := twd_eq c tbM0_1 (tbl m 1) 0 (by omega) ![0] rfl inb_S57_S1_0
  rw [copy_rest m c t.val (by omega)]
  have hs0 : InRows (stW m c 0) := hT.inRows c 0 (by omega) (by rw [← hz]; exact ho)
  have e0 : stW m c (t.val / 2) = stW m c 0 := by rw [hz]
  have c1 : k0_chk1 (grid0.coords t) (okW m c (t.val / 2)) (stW m c 0) := ⟨fun _ _ => hT.mult c 0 (by omega) (by rw [← hz]; exact ho), fun _ _ => hs0⟩
  have er : rows c (V m c main_arg0) (stW m c (t.val / 2)) hst = rows c (V m c main_arg0) (stW m c 0) hs0 := (rowsW_eq m c _ hst).trans (by rw [hz]; exact (rowsW_eq m c 0 hs0).symm)
  rw [er]; rw [er] at ho3
  have h3 : ¬ k0_cond3 (grid0.coords t) (okW m c (min (t.val / 2 + 1) 56)) = 1#1 := fun h => hn (by
    have h' := (cond3 t _).mp h
    rw [show min (t.val / 2 + 1) 56 = t.val / 2 + 1 by omega] at h'; exact h')
  rw [copy_rest m c (t.val + 1) (by
    rw [show (t.val + 1 + 1) / 2 = t.val / 2 + 1 by omega]; exact fun h => hn ⟨h.2.1, h.2.2⟩)]
  iintro ⟨⟨HC, HX, Hg, ⟨HT0, HT1, HT2, HT3, HT4⟩⟩, ⟨%W, -, HW⟩, ⟨%d0, H0⟩, ⟨%d1, H1⟩, ⟨%d2, H2⟩, ⟨%d3, H3⟩⟩
  iapply (runFX c (grid0.coords t) _ (hs0_0 m hO t) _ (hs0_1 m hO t) _ (hs0_2 m hO t) _ (hs0_3 m hO t) (iblk m hO c 0 t) (iblk m hO c 1 t) (iblk m hO c 2 t) (tbl m 0) (tbl m 1) (tbl m 2) (tbl m 3) (tbl m 4) (V m c main_arg0) (okW m c (t.val / 2)) (loW m c (t.val / 2)) (hiW m c (t.val / 2)) (okW m c (min (t.val / 2 + 1) 56)) (stW m c (t.val / 2)) (stW m c 0) ev elo ehi evn es es0 h1 h2 h3 h4 h5 h6 h7 hs0 c1 c2 W _)
  isplitl [H0]; · iexact H0
  isplitl [H1]; · iexact H1
  isplitl [H2]; · iexact H2
  isplitl [H3]; · iexists _; iexact H3
  isplitl [HC]; · iexact HC
  isplitl [HX]; · iexact HX
  isplitl [HT0]; · iexact HT0
  isplitl [HT1]; · iexact HT1
  isplitl [HT2]; · iexact HT2
  isplitl [HT3]; · iexact HT3
  isplitl [HT4]; · iexact HT4
  isplitl [HW]; · iexact HW
  iintro ⟨H0, H1, H2, H3, HC, HX, HT0, HT1, HT2, HT3, HT4, ⟨%W', HW'⟩⟩
  isplitl [HC HX Hg HT0 HT1 HT2 HT3 HT4]
  · isplitl [HC]; · iexact HC
    isplitl [HX]; · iexact HX
    isplitl [Hg]; · iexact Hg
    isplitl [HT0]; · iexact HT0
    isplitl [HT1]; · iexact HT1
    isplitl [HT2]; · iexact HT2
    isplitl [HT3]; · iexact HT3
    iexact HT4
  isplitl [HW']
  · iexists W'; isplitr; · ipureintro; exact fun _ _ => Or.inl trivial
    iexact HW'
  isplitl [H0]; · iexact H0
  isplitl [H1]; · iexact H1
  isplitl [H2]; · iexact H2
  iapply (leaves3 m hO c t)
  rw [ho3]
  iexact H3

set_option maxHeartbeats 2000000 in
/-- The first half of a later item, the next item there. -/
theorem body_GN (hO : Ok m) (hT : Tabs m) (c : Dev nD) (t : Fin (cfgM m hO).N) (ho : okW m c (t.val / 2) = 1#32) (hj : t.val % 2 = 0) (hz : ¬ t.val / 2 = 0) (hn : t.val / 2 + 1 < 57 ∧ okW m c (t.val / 2 + 1) = 1#32) :
    bodyPre m hO c t ⊢ wp frame (wpE (defs₀ (F := F)) Variants.none c none) Set.univ (bodyAt0 (adm m hO) t) (fun _ => bodyPost m hO c t) := by
  have hN : t.val < 114 := lt_of_lt_of_eq t.isLt (show (cfgM m hO).N = 114 from N_0)
  have hw : t.val / 2 < 57 := by omega
  have ev := twd_eq c tbM0_4 (tbl m 4) _ hw _ (off1 t) (k0_off1_inb (grid0.coords t))
  have elo := twd_eq c tbM0_2 (tbl m 2) _ hw _ (off8 t) (k0_off8_inb (grid0.coords t))
  have ehi := twd_eq c tbM0_3 (tbl m 3) _ hw _ (off8 t) (k0_off8_inb (grid0.coords t))
  unfold bodyPre bodyPost bodyAt0
  simp only [before0_0, before0_1, before0_2]
  rw [show (dats m hO 0 c).Φ t.succ = PhiE m c (t.val + 1) from rfl, show (dats m hO 0 c).Φ t.castSucc = PhiE m c t.val from rfl, after0_0, after0_1, after0_2]
  unfold Dat.owesAt Pipeline.owesWithin PhiE
  rw [show (dats m hO 0 c).owed t.castSucc = 0 from rfl, show (dats m hO 0 c).owed t.succ = 0 from rfl, PhiT0_eq]
  have hv : okW m c (t.val / 2) = 1#32 := ho
  have h1 : k0_cond1 (grid0.coords t) (okW m c (t.val / 2)) = 1#1 := (cond1 t _).mpr ⟨ho, hj⟩
  have h4 : ¬ k0_cond4 (grid0.coords t) (okW m c (t.val / 2)) = 1#1 := fun h => ((cond4 t _).mp h).1 ho
  have h5 : k0_cond5 (okW m c (t.val / 2)) = 1#1 := (cond5 _).mpr ho
  have h6 : k0_cond6 (grid0.coords t) = 1#1 := (cond6 t).mpr hj
  have h7 : ¬ k0_cond7 (grid0.coords t) = 1#1 := fun h => by have := (cond7 t).mp h; omega
  have hm : min (t.val / 2 + 1) 56 < 57 := by omega
  have evn := twd_eq c tbM0_4 (tbl m 4) _ hm _ (off5 t) (k0_off5_inb (grid0.coords t))
  have es := twd_eq c tbM0_1 (tbl m 1) _ hw _ (off3 t) (k0_off3_inb (grid0.coords t))
  have hst : InRows (stW m c (t.val / 2)) := hT.inRows c _ hw ho
  have c2 : k0_chk2 (grid0.coords t) (okW m c (t.val / 2)) (stW m c (t.val / 2)) := ⟨fun _ => hT.mult c _ hw ho, fun _ => hst⟩
  have ho3 : outV m hO c t = k0_pay4 (k0_pay1 (rows c (V m c main_arg0) (stW m c (t.val / 2)) hst)) (iblk m hO c 0 t) (iblk m hO c 1 t) (loW m c (t.val / 2)) (hiW m c (t.val / 2)) (iblk m hO c 2 t) := by
    unfold outV half; rw [if_pos ho, if_pos hj, rowsW_eq]
  rw [xb_out m c t.val (by omega), xb_in m c (t.val + 1) (t.val / 2) (by omega) (by omega) ho, ← rowsW_eq m c (t.val / 2) hst]
  have h2 : ¬ k0_cond2 (grid0.coords t) = 1#1 := fun h => hz ((cond2 t).mp h)
  rw [copy_fly m c t.val (t.val / 2) (by omega) (by omega) hw ho hst]
  have hn1 : t.val / 2 + 1 < 57 := hn.1
  have emin : min (t.val / 2 + 1) 56 = t.val / 2 + 1 := by omega
  have h3 : k0_cond3 (grid0.coords t) (okW m c (min (t.val / 2 + 1) 56)) = 1#1 := by rw [emin]; exact (cond3 t _).mpr hn
  have esn := twd_eq c tbM0_1 (tbl m 1) (t.val / 2 + 1) hn1 _ ((off6 t).trans (by rw [emin])) (k0_off6_inb (grid0.coords t))
  have hsn : InRows (stW m c (t.val / 2 + 1)) := hT.inRows c _ hn1 hn.2
  have c3 : k0_chk3 (grid0.coords t) (okW m c (t.val / 2)) (okW m c (min (t.val / 2 + 1) 56)) (stW m c (t.val / 2 + 1)) := ⟨fun _ _ => hT.mult c _ hn1 hn.2, fun _ _ => hsn⟩
  rw [copy_fly m c (t.val + 1) (t.val / 2 + 1) (by omega) (by omega) hn1 hn.2 hsn]
  iintro ⟨⟨HC, HX, Hg, ⟨HT0, HT1, HT2, HT3, HT4⟩⟩, ⟨%W, -, HW⟩, ⟨%d0, H0⟩, ⟨%d1, H1⟩, ⟨%d2, H2⟩, ⟨%d3, H3⟩⟩
  iapply (runGN c (grid0.coords t) _ (hs0_0 m hO t) _ (hs0_1 m hO t) _ (hs0_2 m hO t) _ (hs0_3 m hO t) (iblk m hO c 0 t) (iblk m hO c 1 t) (iblk m hO c 2 t) (tbl m 0) (tbl m 1) (tbl m 2) (tbl m 3) (tbl m 4) (V m c main_arg0) (okW m c (t.val / 2)) (loW m c (t.val / 2)) (hiW m c (t.val / 2)) (okW m c (min (t.val / 2 + 1) 56)) (stW m c (t.val / 2)) (stW m c (t.val / 2 + 1)) ev elo ehi evn es esn h1 h2 h3 h4 h5 h6 h7 (stW m c (t.val / 2)) hst c2 hsn c3 W _)
  isplitl [H0]; · iexact H0
  isplitl [H1]; · iexact H1
  isplitl [H2]; · iexact H2
  isplitl [H3]; · iexists _; iexact H3
  isplitl [HC]; · iexact HC
  isplitl [HX]; · iexact HX
  isplitl [HT0]; · iexact HT0
  isplitl [HT1]; · iexact HT1
  isplitl [HT2]; · iexact HT2
  isplitl [HT3]; · iexact HT3
  isplitl [HT4]; · iexact HT4
  isplitl [HW]; · iexact HW
  iintro ⟨H0, H1, H2, H3, HC, HX, HT0, HT1, HT2, HT3, HT4, ⟨%W', HW'⟩⟩
  isplitl [HC HX Hg HT0 HT1 HT2 HT3 HT4]
  · isplitl [HC]; · iexact HC
    isplitl [HX]; · iexact HX
    isplitl [Hg]; · iexact Hg
    isplitl [HT0]; · iexact HT0
    isplitl [HT1]; · iexact HT1
    isplitl [HT2]; · iexact HT2
    isplitl [HT3]; · iexact HT3
    iexact HT4
  isplitl [HW']
  · iexists W'; isplitr; · ipureintro; exact fun _ _ => Or.inl trivial
    iexact HW'
  isplitl [H0]; · iexact H0
  isplitl [H1]; · iexact H1
  isplitl [H2]; · iexact H2
  iapply (leaves3 m hO c t)
  rw [ho3]
  iexact H3

set_option maxHeartbeats 2000000 in
/-- The first half of a later item, the next item not there. -/
theorem body_GX (hO : Ok m) (hT : Tabs m) (c : Dev nD) (t : Fin (cfgM m hO).N) (ho : okW m c (t.val / 2) = 1#32) (hj : t.val % 2 = 0) (hz : ¬ t.val / 2 = 0) (hn : ¬ (t.val / 2 + 1 < 57 ∧ okW m c (t.val / 2 + 1) = 1#32)) :
    bodyPre m hO c t ⊢ wp frame (wpE (defs₀ (F := F)) Variants.none c none) Set.univ (bodyAt0 (adm m hO) t) (fun _ => bodyPost m hO c t) := by
  have hN : t.val < 114 := lt_of_lt_of_eq t.isLt (show (cfgM m hO).N = 114 from N_0)
  have hw : t.val / 2 < 57 := by omega
  have ev := twd_eq c tbM0_4 (tbl m 4) _ hw _ (off1 t) (k0_off1_inb (grid0.coords t))
  have elo := twd_eq c tbM0_2 (tbl m 2) _ hw _ (off8 t) (k0_off8_inb (grid0.coords t))
  have ehi := twd_eq c tbM0_3 (tbl m 3) _ hw _ (off8 t) (k0_off8_inb (grid0.coords t))
  unfold bodyPre bodyPost bodyAt0
  simp only [before0_0, before0_1, before0_2]
  rw [show (dats m hO 0 c).Φ t.succ = PhiE m c (t.val + 1) from rfl, show (dats m hO 0 c).Φ t.castSucc = PhiE m c t.val from rfl, after0_0, after0_1, after0_2]
  unfold Dat.owesAt Pipeline.owesWithin PhiE
  rw [show (dats m hO 0 c).owed t.castSucc = 0 from rfl, show (dats m hO 0 c).owed t.succ = 0 from rfl, PhiT0_eq]
  have hv : okW m c (t.val / 2) = 1#32 := ho
  have h1 : k0_cond1 (grid0.coords t) (okW m c (t.val / 2)) = 1#1 := (cond1 t _).mpr ⟨ho, hj⟩
  have h4 : ¬ k0_cond4 (grid0.coords t) (okW m c (t.val / 2)) = 1#1 := fun h => ((cond4 t _).mp h).1 ho
  have h5 : k0_cond5 (okW m c (t.val / 2)) = 1#1 := (cond5 _).mpr ho
  have h6 : k0_cond6 (grid0.coords t) = 1#1 := (cond6 t).mpr hj
  have h7 : ¬ k0_cond7 (grid0.coords t) = 1#1 := fun h => by have := (cond7 t).mp h; omega
  have hm : min (t.val / 2 + 1) 56 < 57 := by omega
  have evn := twd_eq c tbM0_4 (tbl m 4) _ hm _ (off5 t) (k0_off5_inb (grid0.coords t))
  have es := twd_eq c tbM0_1 (tbl m 1) _ hw _ (off3 t) (k0_off3_inb (grid0.coords t))
  have hst : InRows (stW m c (t.val / 2)) := hT.inRows c _ hw ho
  have c2 : k0_chk2 (grid0.coords t) (okW m c (t.val / 2)) (stW m c (t.val / 2)) := ⟨fun _ => hT.mult c _ hw ho, fun _ => hst⟩
  have ho3 : outV m hO c t = k0_pay4 (k0_pay1 (rows c (V m c main_arg0) (stW m c (t.val / 2)) hst)) (iblk m hO c 0 t) (iblk m hO c 1 t) (loW m c (t.val / 2)) (hiW m c (t.val / 2)) (iblk m hO c 2 t) := by
    unfold outV half; rw [if_pos ho, if_pos hj, rowsW_eq]
  rw [xb_out m c t.val (by omega), xb_in m c (t.val + 1) (t.val / 2) (by omega) (by omega) ho, ← rowsW_eq m c (t.val / 2) hst]
  have h2 : ¬ k0_cond2 (grid0.coords t) = 1#1 := fun h => hz ((cond2 t).mp h)
  rw [copy_fly m c t.val (t.val / 2) (by omega) (by omega) hw ho hst]
  have h3 : ¬ k0_cond3 (grid0.coords t) (okW m c (min (t.val / 2 + 1) 56)) = 1#1 := fun h => hn (by
    have h' := (cond3 t _).mp h
    rw [show min (t.val / 2 + 1) 56 = t.val / 2 + 1 by omega] at h'; exact h')
  rw [copy_rest m c (t.val + 1) (by
    rw [show (t.val + 1 + 1) / 2 = t.val / 2 + 1 by omega]; exact fun h => hn ⟨h.2.1, h.2.2⟩)]
  iintro ⟨⟨HC, HX, Hg, ⟨HT0, HT1, HT2, HT3, HT4⟩⟩, ⟨%W, -, HW⟩, ⟨%d0, H0⟩, ⟨%d1, H1⟩, ⟨%d2, H2⟩, ⟨%d3, H3⟩⟩
  iapply (runGX c (grid0.coords t) _ (hs0_0 m hO t) _ (hs0_1 m hO t) _ (hs0_2 m hO t) _ (hs0_3 m hO t) (iblk m hO c 0 t) (iblk m hO c 1 t) (iblk m hO c 2 t) (tbl m 0) (tbl m 1) (tbl m 2) (tbl m 3) (tbl m 4) (V m c main_arg0) (okW m c (t.val / 2)) (loW m c (t.val / 2)) (hiW m c (t.val / 2)) (okW m c (min (t.val / 2 + 1) 56)) (stW m c (t.val / 2)) ev elo ehi evn es h1 h2 h3 h4 h5 h6 h7 (stW m c (t.val / 2)) hst c2 W _)
  isplitl [H0]; · iexact H0
  isplitl [H1]; · iexact H1
  isplitl [H2]; · iexact H2
  isplitl [H3]; · iexists _; iexact H3
  isplitl [HC]; · iexact HC
  isplitl [HX]; · iexact HX
  isplitl [HT0]; · iexact HT0
  isplitl [HT1]; · iexact HT1
  isplitl [HT2]; · iexact HT2
  isplitl [HT3]; · iexact HT3
  isplitl [HT4]; · iexact HT4
  isplitl [HW]; · iexact HW
  iintro ⟨H0, H1, H2, H3, HC, HX, HT0, HT1, HT2, HT3, HT4, ⟨%W', HW'⟩⟩
  isplitl [HC HX Hg HT0 HT1 HT2 HT3 HT4]
  · isplitl [HC]; · iexact HC
    isplitl [HX]; · iexact HX
    isplitl [Hg]; · iexact Hg
    isplitl [HT0]; · iexact HT0
    isplitl [HT1]; · iexact HT1
    isplitl [HT2]; · iexact HT2
    isplitl [HT3]; · iexact HT3
    iexact HT4
  isplitl [HW']
  · iexists W'; isplitr; · ipureintro; exact fun _ _ => Or.inl trivial
    iexact HW'
  isplitl [H0]; · iexact H0
  isplitl [H1]; · iexact H1
  isplitl [H2]; · iexact H2
  iapply (leaves3 m hO c t)
  rw [ho3]
  iexact H3

set_option maxHeartbeats 2000000 in
/-- The second half of an item that is there. -/
theorem body_B (hO : Ok m) (hT : Tabs m) (c : Dev nD) (t : Fin (cfgM m hO).N) (ho : okW m c (t.val / 2) = 1#32) (hj : t.val % 2 = 1) :
    bodyPre m hO c t ⊢ wp frame (wpE (defs₀ (F := F)) Variants.none c none) Set.univ (bodyAt0 (adm m hO) t) (fun _ => bodyPost m hO c t) := by
  have hN : t.val < 114 := lt_of_lt_of_eq t.isLt (show (cfgM m hO).N = 114 from N_0)
  have hw : t.val / 2 < 57 := by omega
  have ev := twd_eq c tbM0_4 (tbl m 4) _ hw _ (off1 t) (k0_off1_inb (grid0.coords t))
  have elo := twd_eq c tbM0_2 (tbl m 2) _ hw _ (off8 t) (k0_off8_inb (grid0.coords t))
  have ehi := twd_eq c tbM0_3 (tbl m 3) _ hw _ (off8 t) (k0_off8_inb (grid0.coords t))
  unfold bodyPre bodyPost bodyAt0
  simp only [before0_0, before0_1, before0_2]
  rw [show (dats m hO 0 c).Φ t.succ = PhiE m c (t.val + 1) from rfl, show (dats m hO 0 c).Φ t.castSucc = PhiE m c t.val from rfl, after0_0, after0_1, after0_2]
  unfold Dat.owesAt Pipeline.owesWithin PhiE
  rw [show (dats m hO 0 c).owed t.castSucc = 0 from rfl, show (dats m hO 0 c).owed t.succ = 0 from rfl, PhiT0_eq]
  have h1 : ¬ k0_cond1 (grid0.coords t) (okW m c (t.val / 2)) = 1#1 := fun h => by have := ((cond1 t _).mp h).2; omega
  have h4 : ¬ k0_cond4 (grid0.coords t) (okW m c (t.val / 2)) = 1#1 := fun h => ((cond4 t _).mp h).1 ho
  have h5 : k0_cond5 (okW m c (t.val / 2)) = 1#1 := (cond5 _).mpr ho
  have h6 : ¬ k0_cond6 (grid0.coords t) = 1#1 := fun h => by have := (cond6 t).mp h; omega
  have h7 : k0_cond7 (grid0.coords t) = 1#1 := (cond7 t).mpr hj
  simp only [before0_3 m hO c t hj]
  have hp : outV m hO c ⟨t.val - 1, Nat.lt_of_le_of_lt (Nat.sub_le _ _) t.isLt⟩ = half m hO c ⟨t.val - 1, Nat.lt_of_le_of_lt (Nat.sub_le _ _) t.isLt⟩ := by
    have e : (t.val - 1) / 2 = t.val / 2 := by omega
    have e' : (t.val - 1) % 2 = 0 := by omega
    unfold outV; dsimp only; rw [e, if_pos ho, if_pos e']
  have ho3 : outV m hO c t = k0_pay3 (k0_pay4 (k0_pay1 (rowsW m c (t.val / 2))) (iblk m hO c 0 t) (iblk m hO c 1 t) (loW m c (t.val / 2)) (hiW m c (t.val / 2)) (iblk m hO c 2 t)) (outV m hO c ⟨t.val - 1, Nat.lt_of_le_of_lt (Nat.sub_le _ _) t.isLt⟩) := by
    rw [hp]; conv_lhs => unfold outV
    rw [if_pos ho, if_neg (by omega)]; conv_lhs => arg 1; unfold half
  rw [xb_in m c t.val (t.val / 2) rfl hj ho, xb_out m c (t.val + 1) (by omega), copy_odd m c t.val hj]
  iintro ⟨⟨HC, HX, Hg, ⟨HT0, HT1, HT2, HT3, HT4⟩⟩, ⟨%W, -, HW⟩, ⟨%d0, H0⟩, ⟨%d1, H1⟩, ⟨%d2, H2⟩, ⟨%d3, H3⟩⟩
  iapply (runB c (grid0.coords t) _ (hs0_0 m hO t) _ (hs0_1 m hO t) _ (hs0_2 m hO t) _ (hs0_3 m hO t) (iblk m hO c 0 t) (iblk m hO c 1 t) (iblk m hO c 2 t) (tbl m 0) (tbl m 1) (tbl m 2) (tbl m 3) (tbl m 4) (k0_pay1 (rowsW m c (t.val / 2))) (outV m hO c ⟨t.val - 1, Nat.lt_of_le_of_lt (Nat.sub_le _ _) t.isLt⟩) (okW m c (t.val / 2)) (loW m c (t.val / 2)) (hiW m c (t.val / 2)) ev elo ehi h1 h4 h5 h6 h7 W _)
  isplitl [H0]; · iexact H0
  isplitl [H1]; · iexact H1
  isplitl [H2]; · iexact H2
  isplitl [H3]; · iexact H3
  isplitl [HX]; · iexact HX
  isplitl [HT0]; · iexact HT0
  isplitl [HT1]; · iexact HT1
  isplitl [HT2]; · iexact HT2
  isplitl [HT3]; · iexact HT3
  isplitl [HT4]; · iexact HT4
  isplitl [HW]; · iexact HW
  iintro ⟨H0, H1, H2, H3, HX, HT0, HT1, HT2, HT3, HT4, ⟨%W', HW'⟩⟩
  isplitl [HC HX Hg HT0 HT1 HT2 HT3 HT4]
  · isplitl [HC]; · iexact HC
    isplitl [HX]; · iexists _; iexact HX
    isplitl [Hg]; · iexact Hg
    isplitl [HT0]; · iexact HT0
    isplitl [HT1]; · iexact HT1
    isplitl [HT2]; · iexact HT2
    isplitl [HT3]; · iexact HT3
    iexact HT4
  isplitl [HW']
  · iexists W'; isplitr; · ipureintro; exact fun _ _ => Or.inl trivial
    iexact HW'
  isplitl [H0]; · iexact H0
  isplitl [H1]; · iexact H1
  isplitl [H2]; · iexact H2
  iapply (leaves3 m hO c t)
  rw [ho3]
  iexact H3

set_option maxHeartbeats 2000000 in
/-- The first half of an item that is not there. -/
theorem body_ZA (hO : Ok m) (hT : Tabs m) (c : Dev nD) (t : Fin (cfgM m hO).N) (ho : ¬ okW m c (t.val / 2) = 1#32) (hj : t.val % 2 = 0) :
    bodyPre m hO c t ⊢ wp frame (wpE (defs₀ (F := F)) Variants.none c none) Set.univ (bodyAt0 (adm m hO) t) (fun _ => bodyPost m hO c t) := by
  have hN : t.val < 114 := lt_of_lt_of_eq t.isLt (show (cfgM m hO).N = 114 from N_0)
  have hw : t.val / 2 < 57 := by omega
  have ev := twd_eq c tbM0_4 (tbl m 4) _ hw _ (off1 t) (k0_off1_inb (grid0.coords t))
  have elo := twd_eq c tbM0_2 (tbl m 2) _ hw _ (off8 t) (k0_off8_inb (grid0.coords t))
  have ehi := twd_eq c tbM0_3 (tbl m 3) _ hw _ (off8 t) (k0_off8_inb (grid0.coords t))
  unfold bodyPre bodyPost bodyAt0
  simp only [before0_0, before0_1, before0_2]
  rw [show (dats m hO 0 c).Φ t.succ = PhiE m c (t.val + 1) from rfl, show (dats m hO 0 c).Φ t.castSucc = PhiE m c t.val from rfl, after0_0, after0_1, after0_2]
  unfold Dat.owesAt Pipeline.owesWithin PhiE
  rw [show (dats m hO 0 c).owed t.castSucc = 0 from rfl, show (dats m hO 0 c).owed t.succ = 0 from rfl, PhiT0_eq]
  have h1 : ¬ k0_cond1 (grid0.coords t) (okW m c (t.val / 2)) = 1#1 := fun h => ho ((cond1 t _).mp h).1
  have h4 : k0_cond4 (grid0.coords t) (okW m c (t.val / 2)) = 1#1 := (cond4 t _).mpr ⟨ho, hj⟩
  have h5 : ¬ k0_cond5 (okW m c (t.val / 2)) = 1#1 := fun h => ho ((cond5 _).mp h)
  have ho3 : outV m hO c t = k0_pay2 := by unfold outV; rw [if_neg ho]
  rw [xb_out m c t.val (by omega), xb_out m c (t.val + 1) (by rw [show (t.val + 1) / 2 = t.val / 2 by omega]; exact fun h => ho h.2),
    copy_rest m c t.val (by rw [show (t.val + 1) / 2 = t.val / 2 by omega]; exact fun h => ho h.2.2),
    copy_rest m c (t.val + 1) (by rw [show (t.val + 1 + 1) / 2 = t.val / 2 + 1 by omega]; exact fun h => ho (hT.first c _ h.2.1 h.2.2))]
  iintro ⟨⟨HC, HX, Hg, ⟨HT0, HT1, HT2, HT3, HT4⟩⟩, ⟨%W, -, HW⟩, ⟨%d0, H0⟩, ⟨%d1, H1⟩, ⟨%d2, H2⟩, ⟨%d3, H3⟩⟩
  iapply (runZA c (grid0.coords t) _ (hs0_0 m hO t) _ (hs0_1 m hO t) _ (hs0_2 m hO t) _ (hs0_3 m hO t) (iblk m hO c 0 t) (iblk m hO c 1 t) (iblk m hO c 2 t) (tbl m 0) (tbl m 1) (tbl m 2) (tbl m 3) (tbl m 4) (okW m c (t.val / 2)) ev h1 h4 h5 W _)
  isplitl [H3]; · iexists _; iexact H3
  isplitl [HT0]; · iexact HT0
  isplitl [HT1]; · iexact HT1
  isplitl [HT2]; · iexact HT2
  isplitl [HT3]; · iexact HT3
  isplitl [HT4]; · iexact HT4
  isplitl [HW]; · iexact HW
  iintro ⟨H3, HT0, HT1, HT2, HT3, HT4, ⟨%W', HW'⟩⟩
  isplitl [HC HX Hg HT0 HT1 HT2 HT3 HT4]
  · isplitl [HC]; · iexact HC
    isplitl [HX]; · iexact HX
    isplitl [Hg]; · iexact Hg
    isplitl [HT0]; · iexact HT0
    isplitl [HT1]; · iexact HT1
    isplitl [HT2]; · iexact HT2
    isplitl [HT3]; · iexact HT3
    iexact HT4
  isplitl [HW']
  · iexists W'; isplitr; · ipureintro; exact fun _ _ => Or.inl trivial
    iexact HW'
  isplitl [H0]; · iexact H0
  isplitl [H1]; · iexact H1
  isplitl [H2]; · iexact H2
  iapply (leaves3 m hO c t)
  rw [ho3]
  iexact H3

set_option maxHeartbeats 2000000 in
/-- The second half of an item that is not there. -/
theorem body_ZB (hO : Ok m) (hT : Tabs m) (c : Dev nD) (t : Fin (cfgM m hO).N) (ho : ¬ okW m c (t.val / 2) = 1#32) (hj : t.val % 2 = 1) :
    bodyPre m hO c t ⊢ wp frame (wpE (defs₀ (F := F)) Variants.none c none) Set.univ (bodyAt0 (adm m hO) t) (fun _ => bodyPost m hO c t) := by
  have hN : t.val < 114 := lt_of_lt_of_eq t.isLt (show (cfgM m hO).N = 114 from N_0)
  have hw : t.val / 2 < 57 := by omega
  have ev := twd_eq c tbM0_4 (tbl m 4) _ hw _ (off1 t) (k0_off1_inb (grid0.coords t))
  have elo := twd_eq c tbM0_2 (tbl m 2) _ hw _ (off8 t) (k0_off8_inb (grid0.coords t))
  have ehi := twd_eq c tbM0_3 (tbl m 3) _ hw _ (off8 t) (k0_off8_inb (grid0.coords t))
  unfold bodyPre bodyPost bodyAt0
  simp only [before0_0, before0_1, before0_2]
  rw [show (dats m hO 0 c).Φ t.succ = PhiE m c (t.val + 1) from rfl, show (dats m hO 0 c).Φ t.castSucc = PhiE m c t.val from rfl, after0_0, after0_1, after0_2]
  unfold Dat.owesAt Pipeline.owesWithin PhiE
  rw [show (dats m hO 0 c).owed t.castSucc = 0 from rfl, show (dats m hO 0 c).owed t.succ = 0 from rfl, PhiT0_eq]
  have h1 : ¬ k0_cond1 (grid0.coords t) (okW m c (t.val / 2)) = 1#1 := fun h => ho ((cond1 t _).mp h).1
  have h4 : ¬ k0_cond4 (grid0.coords t) (okW m c (t.val / 2)) = 1#1 := fun h => by have := ((cond4 t _).mp h).2; omega
  have h5 : ¬ k0_cond5 (okW m c (t.val / 2)) = 1#1 := fun h => ho ((cond5 _).mp h)
  simp only [before0_3 m hO c t hj]
  have ho3 : outV m hO c t = outV m hO c ⟨t.val - 1, Nat.lt_of_le_of_lt (Nat.sub_le _ _) t.isLt⟩ := by
    have e : (t.val - 1) / 2 = t.val / 2 := by omega
    unfold outV; dsimp only; rw [e, if_neg ho, if_neg ho]
  rw [xb_out m c t.val (fun h => ho h.2), xb_out m c (t.val + 1) (by omega), copy_odd m c t.val hj]
  iintro ⟨⟨HC, HX, Hg, ⟨HT0, HT1, HT2, HT3, HT4⟩⟩, ⟨%W, -, HW⟩, ⟨%d0, H0⟩, ⟨%d1, H1⟩, ⟨%d2, H2⟩, ⟨%d3, H3⟩⟩
  iapply (runZB c (grid0.coords t) _ (hs0_0 m hO t) _ (hs0_1 m hO t) _ (hs0_2 m hO t) _ (hs0_3 m hO t) (iblk m hO c 0 t) (iblk m hO c 1 t) (iblk m hO c 2 t) (tbl m 0) (tbl m 1) (tbl m 2) (tbl m 3) (tbl m 4) (okW m c (t.val / 2)) ev h1 h4 h5 W _)
  isplitl [HT0]; · iexact HT0
  isplitl [HT1]; · iexact HT1
  isplitl [HT2]; · iexact HT2
  isplitl [HT3]; · iexact HT3
  isplitl [HT4]; · iexact HT4
  isplitl [HW]; · iexact HW
  iintro ⟨HT0, HT1, HT2, HT3, HT4, ⟨%W', HW'⟩⟩
  isplitl [HC HX Hg HT0 HT1 HT2 HT3 HT4]
  · isplitl [HC]; · iexact HC
    isplitl [HX]; · iexact HX
    isplitl [Hg]; · iexact Hg
    isplitl [HT0]; · iexact HT0
    isplitl [HT1]; · iexact HT1
    isplitl [HT2]; · iexact HT2
    isplitl [HT3]; · iexact HT3
    iexact HT4
  isplitl [HW']
  · iexists W'; isplitr; · ipureintro; exact fun _ _ => Or.inl trivial
    iexact HW'
  isplitl [H0]; · iexact H0
  isplitl [H1]; · iexact H1
  isplitl [H2]; · iexact H2
  iapply (leaves3 m hO c t)
  rw [ho3]
  iexact H3

/-- The body at any point. -/
theorem sound_body (hO : Ok m) (hT : Tabs m) (c : Dev nD) (t : Fin (cfgM m hO).N) :
    bodyPre m hO c t ⊢ wp frame (wpE (defs₀ (F := F)) Variants.none c none) Set.univ (bodyAt0 (adm m hO) t) (fun _ => bodyPost m hO c t) := by
  by_cases ho : okW m c (t.val / 2) = 1#32
  · rcases Nat.mod_two_eq_zero_or_one t.val with hj | hj
    · by_cases hz : t.val / 2 = 0 <;> by_cases hn : t.val / 2 + 1 < 57 ∧ okW m c (t.val / 2 + 1) = 1#32
      · exact body_FN m hO hT c t ho hj hz hn
      · exact body_FX m hO hT c t ho hj hz hn
      · exact body_GN m hO hT c t ho hj hz hn
      · exact body_GX m hO hT c t ho hj hz hn
    · exact body_B m hO hT c t ho hj
  · rcases Nat.mod_two_eq_zero_or_one t.val with hj | hj
    · exact body_ZA m hO hT c t ho hj
    · exact body_ZB m hO hT c t ho hj

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hT : Tabs m) (c : Dev nD) : BodyObligation (dats (F := F) m hO 0 c) (defs₀ (F := F)) Variants.none () Set.univ := fun t => by
  rw [bigSep_W0, bigSep_W0, defs₀_row m hO]
  exact triple_restated (sound_body m hO hT c t) rfl .rfl fun _ => .rfl

theorem hin (hO : Ok m) (c : Dev nD) : iprop(Pipeline.ΦD osem0 spec0 H0 (V m) c ∗ Pipeline.ΦT pre0 (tbl m) c) ⊢ (dats m hO 0 c).Φ 0 := by
  rw [show (dats m hO 0 c).Φ 0 = PhiE m c 0 from rfl]
  unfold PhiE
  rw [copy_rest m c 0 (by omega), xb_out m c 0 (by omega), PhiD0_eq]
  iintro ⟨⟨⟨HS0, HS1⟩, Hg, Hq0, Hh0⟩, HT⟩
  isplitl [HS0 Hq0 Hh0]
  · isplitl [HS0]; · iexact HS0
    isplitl [Hq0]; · iexact Hq0
    iexact Hh0
  isplitl [HS1]; · iexact HS1
  isplitl [Hg]; · iexact Hg
  iexact HT

theorem hout (hO : Ok m) (c : Dev nD) : (dats m hO 0 c).Φ (Fin.last (cfgM m hO).N) ⊢ Pipeline.ΦD osem0 spec0 H0 (V m) c := by
  rw [show (dats m hO 0 c).Φ (Fin.last (cfgM m hO).N) = PhiE m c 114 from rfl]
  unfold PhiE
  rw [copy_rest m c 114 (by omega), xb_out m c 114 (by omega), PhiD0_eq]
  iintro ⟨⟨HS0, Hq0, Hh0⟩, HS1, Hg, -⟩
  isplitl [HS0 HS1]
  · isplitl [HS0]; · iexact HS0
    iexact HS1
  isplitl [Hg]; · iexact Hg
  isplitl [Hq0]; · iexact Hq0
  iexact Hh0

/-! ## The run and the frame -/

set_option backward.isDefEq.respectTransparency.types false in
theorem run_main_quiescent (hO : Ok m) (hT : Tabs m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_dma (Q' := _) pcfgs (fun _ => adm m hO) (dats m hO) (0 : Fin 1) launch0 osem0 defs₀ Variants.none ownSemFacts0 H0 H0_sub m ρ main
    (hbody := fun c => (body_obligation m hO hT c).loose) (hshare := fun c => (dats m hO 0 c).share_full fun _ => rfl)
    (howed := fun _ _ => rfl) (V := V m) (hmain := hmain m Variants.none) (hA := A_eq m hO) (hpf := V_pre m)
    (hin := hin m hO) (hout := hout m hO)

theorem run_main (hO : Ok m) (hT : Tabs m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hT)

/-- The argument arrays end unchanged. -/
theorem unchanged (hO : Ok m) (hT : Tabs m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (dats m hO) (A_eq m hO) (run_main m ρ hO hT)

/-- The frame. -/
theorem frame (hO : Ok m) (hT : Tabs m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO hT) ((θ_run defs _ _).mono (fun _ h => h.2) (run_main_quiescent m ρ hO hT))

end Cert.Kernel3Ideal.Exp

end

end
-- ==== Proof.Exp.Tables.lean ====
module

public import proofs.«01_k».proof.Proof.Gen.Pre_tables
public import Idealize.ShloMosaic.Lib.Pointwise
public import Idealize.ShloMosaic.Lib.StableHlo.Predicate

@[expose] public section

noncomputable section

namespace Cert.Exp

open Idealize.ShloMosaic Cert.Pre_tables Cert.Pre_tables.Gen

variable {F : FTy → Type} [FloatOps F]

/-- The index of word `k`. -/
abbrev i57 (k : ℕ) (h : k < 57) : S57.Idx := fun a => ⟨k, by fin_cases a; exact h⟩

theorem andBit (p q : Bool) : IntOp.andi (BitVec.ofBool p) (BitVec.ofBool q) = BitVec.ofBool (p && q) := by
  cases p <;> cases q <;> decide
theorem bitOne (p : Bool) : (BitVec.ofBool p = 1#1) ↔ p = true := by cases p <;> decide

theorem key (ie st ok nx : BitVec 32)
    (e : IntOp.andi (IntOp.andi (IntOp.andi (IntOp.andi (IntOp.andi (IntOp.andi (IntOp.andi (IntOp.cmpi .sge ie 0#32) (IntOp.cmpi .slt ie 32#32)) (IntOp.cmpi .sge st 0#32)) (IntOp.cmpi .sle st 15744#32)) (IntOp.cmpi .eq (IntOp.andi st 7#32) 0#32)) (IntOp.cmpi .sge ok nx)) (IntOp.cmpi .sge ok 0#32)) (IntOp.cmpi .sle ok 1#32) = 1#1) :
    ie.toNat < 32 ∧ st.toNat ≤ 15744 ∧ 8 ∣ st.toNat ∧ (ok = 0#32 ∨ ok = 1#32) ∧ (nx = 1#32 → ok = 1#32) := by
  simp only [IntOp.cmpi, andBit, bitOne, Bool.and_eq_true, BitVec.sle_eq_decide, BitVec.slt_eq_decide,
      decide_eq_true_eq, beq_iff_eq] at e
  obtain ⟨⟨⟨⟨⟨⟨⟨h1, h2⟩, h3⟩, h4⟩, h5⟩, h6⟩, h7⟩, h8⟩ := e
  have h5' : st &&& 7#32 = 0#32 := h5
  have h5n : st.toNat &&& (2 ^ 3 - 1) = 0 := by have := congrArg BitVec.toNat h5'; simpa using this
  rw [Nat.and_two_pow_sub_one_eq_mod] at h5n
  have hok : ok = 0#32 ∨ ok = 1#32 := by
    simp only [BitVec.toInt_eq_toNat_cond, BitVec.toNat_ofNat, Nat.reducePow, Nat.reduceMod] at h7 h8
    rcases (by omega : ok.toNat = 0 ∨ ok.toNat = 1) with h | h
    · left; exact BitVec.eq_of_toNat_eq h
    · right; exact BitVec.eq_of_toNat_eq h
  refine ⟨?_, ?_, by omega, hok, ?_⟩
  · simp only [BitVec.toInt_eq_toNat_cond, BitVec.toNat_ofNat, Nat.reducePow, Nat.reduceMod] at h1 h2; omega
  · simp only [BitVec.toInt_eq_toNat_cond, BitVec.toNat_ofNat, Nat.reducePow, Nat.reduceMod] at h3 h4; omega
  · intro hn
    rcases hok with h | h
    · rw [h, hn] at h6; exact absurd h6 (by decide)
    · exact h

theorem tables_at (a0 : FVec F S16384x2048 .f32) (a1 : FVec F S32x2048x1024 .f32) (a2 : FVec F S32x2048x1024 .f32) (a3 : FVec F S32x1024x2048 .f32)
    (ie st lo hi ok : IVec S57 32) (h : fn (F := F) a0 a1 a2 a3 ie st lo hi ok = fun _ => 1#1) (k : ℕ) (hk : k < 57) :
    (ie (i57 k hk)).toNat < 32 ∧ (st (i57 k hk)).toNat ≤ 15744 ∧ 8 ∣ (st (i57 k hk)).toNat ∧ (ok (i57 k hk) = 0#32 ∨ ok (i57 k hk) = 1#32)
      ∧ (∀ h' : k + 1 < 57, ok (i57 (k + 1) h') = 1#32 → ok (i57 k hk) = 1#32) := by
  have e := congrFun h (i57 k hk)
  simp only [fn, fn_part1, andi, cmpi, broadcastInDim, constantI] at e
  have k' := key _ _ _ _ e
  refine ⟨k'.1, k'.2.1, k'.2.2.1, k'.2.2.2.1, fun h' hn => k'.2.2.2.2 (Eq.trans ?_ hn)⟩
  refine (concatenate_pair_apply_left (s₁ := S56) (s₂ := S1) 0 _ _ _ (i57 k hk) rfl (fun b => ⟨k, by fin_cases b; exact (by omega : k < 56)⟩) (fun b => by fin_cases b; rfl)).trans ?_
  refine congrArg ok (funext fun a => Fin.ext ?_)
  match a with
  | ⟨0, _⟩ => exact (by omega : 1 + k = k + 1)

end Cert.Exp

end

end
-- ==== Proof.Exp.Pre.lean ====
module

public import proofs.«01_k».proof.Proof.Exp.Frame
public import proofs.«01_k».proof.Proof.Exp.Tables
public import proofs.«01_k».proof.Defs

@[expose] public section

set_option maxRecDepth 16384

noncomputable section

namespace Cert.Kernel3Ideal.Exp

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Word `k` of the tables of the experts, of the first rows, and of what is there. -/
def ieP (pf : pre0.Contents (Elt F)) (k : ℕ) (h : k < 57) : BitVec 32 := pf 0 (Cert.Exp.i57 k h)
def stP (pf : pre0.Contents (Elt F)) (k : ℕ) (h : k < 57) : BitVec 32 := pf 1 (Cert.Exp.i57 k h)
def okP (pf : pre0.Contents (Elt F)) (k : ℕ) (h : k < 57) : BitVec 32 := pf 4 (Cert.Exp.i57 k h)

/-- A word of a table, read where it lies. -/
theorem okW_at (c : Dev nD) (k : ℕ) (hk : k < 57) : okW m c k = okP (tbl m) k hk := by
  unfold okW wd; rw [dif_pos hk]
  refine congrArg (tbl m 4) (funext fun a => Fin.ext ?_)
  match a with
  | ⟨0, _⟩ => rfl
theorem stW_at (c : Dev nD) (k : ℕ) (hk : k < 57) : stW m c k = stP (tbl m) k hk := by
  unfold stW wd; rw [dif_pos hk]
  refine congrArg (tbl m 1) (funext fun a => Fin.ext ?_)
  match a with
  | ⟨0, _⟩ => rfl

theorem i0_lt (i : grid0.Coords) : (i 0).val < 57 := (i 0).isLt

/-- A word of a table as an index map reads it. -/
theorem at0 (pf : pre0.Contents (Elt F)) (i : grid0.Coords) (h) :
    pf.at 0 (Rect.unit (s := S57) ![(Scalar.indexCast (BitVec.ofNat 32 (i 0).val)).toNat] S1.size h) numel1_S1 = ieP pf (i 0).val (i0_lt i) := by
  have hi := i0_lt i
  refine congrArg (pf 0) (funext fun a => Fin.ext ?_)
  match a with
  | ⟨0, _⟩ =>
    show (BitVec.ofNat 32 (i 0).val).toNat + 1 * 0 = (i 0).val
    rw [BitVec.toNat_ofNat]; omega
theorem at4 (pf : pre0.Contents (Elt F)) (i : grid0.Coords) (h) :
    pf.at 4 (Rect.unit (s := S57) ![(Scalar.indexCast (BitVec.ofNat 32 (i 0).val)).toNat] S1.size h) numel1_S1 = okP pf (i 0).val (i0_lt i) := by
  have hi := i0_lt i
  refine congrArg (pf 4) (funext fun a => Fin.ext ?_)
  match a with
  | ⟨0, _⟩ =>
    show (BitVec.ofNat 32 (i 0).val).toNat + 1 * 0 = (i 0).val
    rw [BitVec.toNat_ofNat]; omega

/-- The half of the hidden columns an item reads: its own when it is there, the second otherwise. -/
theorem halfIx (j : Fin 2) (v : BitVec 32) (hv : v = 0#32 ∨ v = 1#32) :
    (Scalar.addi (Scalar.muli (BitVec.ofNat 32 j.val) v) (Scalar.muli 1#32 (Scalar.subi 1#32 v))).toNat = if v = 1#32 then j.val else 1 := by
  rcases hv with rfl | rfl <;> revert j <;> decide

theorem tr1 (pf : pre0.Contents (Elt F)) (i : grid0.Coords) (hv : okP pf (i 0).val (i0_lt i) = 0#32 ∨ okP pf (i 0).val (i0_lt i) = 1#32) :
    cc0_transform_1 k0_off1_inb numel1_S1 pf i = ![(ieP pf (i 0).val (i0_lt i)).toNat, 0, if okP pf (i 0).val (i0_lt i) = 1#32 then (i 1).val else 1] := by
  have key : ∀ x y z : BitVec 32, x = ieP pf (i 0).val (i0_lt i) → y = okP pf (i 0).val (i0_lt i) → z = okP pf (i 0).val (i0_lt i) →
      ![x.toNat, (0#32).toNat, (Scalar.addi (Scalar.muli (BitVec.ofNat 32 (i 1).val) y) (Scalar.muli 1#32 (Scalar.subi 1#32 z))).toNat] = ![(ieP pf (i 0).val (i0_lt i)).toNat, 0, if okP pf (i 0).val (i0_lt i) = 1#32 then (i 1).val else 1] := by
    rintro x y z rfl rfl rfl
    rw [halfIx (i 1) _ hv]; rfl
  exact key _ _ _ (at0 pf i (k0_off1_inb i)) (at4 pf i (k0_off1_inb i)) (at4 pf i (k0_off1_inb i))
theorem tr2 (pf : pre0.Contents (Elt F)) (i : grid0.Coords) (hv : okP pf (i 0).val (i0_lt i) = 0#32 ∨ okP pf (i 0).val (i0_lt i) = 1#32) :
    cc0_transform_2 k0_off1_inb numel1_S1 pf i = ![(ieP pf (i 0).val (i0_lt i)).toNat, 0, if okP pf (i 0).val (i0_lt i) = 1#32 then (i 1).val else 1] := by
  have key : ∀ x y z : BitVec 32, x = ieP pf (i 0).val (i0_lt i) → y = okP pf (i 0).val (i0_lt i) → z = okP pf (i 0).val (i0_lt i) →
      ![x.toNat, (0#32).toNat, (Scalar.addi (Scalar.muli (BitVec.ofNat 32 (i 1).val) y) (Scalar.muli 1#32 (Scalar.subi 1#32 z))).toNat] = ![(ieP pf (i 0).val (i0_lt i)).toNat, 0, if okP pf (i 0).val (i0_lt i) = 1#32 then (i 1).val else 1] := by
    rintro x y z rfl rfl rfl
    rw [halfIx (i 1) _ hv]; rfl
  exact key _ _ _ (at0 pf i (k0_off1_inb i)) (at4 pf i (k0_off1_inb i)) (at4 pf i (k0_off1_inb i))
theorem tr3 (pf : pre0.Contents (Elt F)) (i : grid0.Coords) (hv : okP pf (i 0).val (i0_lt i) = 0#32 ∨ okP pf (i 0).val (i0_lt i) = 1#32) :
    cc0_transform_3 k0_off1_inb numel1_S1 pf i = ![(ieP pf (i 0).val (i0_lt i)).toNat, if okP pf (i 0).val (i0_lt i) = 1#32 then (i 1).val else 1, 0] := by
  have key : ∀ x y z : BitVec 32, x = ieP pf (i 0).val (i0_lt i) → y = okP pf (i 0).val (i0_lt i) → z = okP pf (i 0).val (i0_lt i) →
      ![x.toNat, (Scalar.addi (Scalar.muli (BitVec.ofNat 32 (i 1).val) y) (Scalar.muli 1#32 (Scalar.subi 1#32 z))).toNat, (0#32).toNat] = ![(ieP pf (i 0).val (i0_lt i)).toNat, if okP pf (i 0).val (i0_lt i) = 1#32 then (i 1).val else 1, 0] := by
    rintro x y z rfl rfl rfl
    rw [halfIx (i 1) _ hv]; rfl
  exact key _ _ _ (at0 pf i (k0_off1_inb i)) (at4 pf i (k0_off1_inb i)) (at4 pf i (k0_off1_inb i))

/-- The precondition of the tables. -/
abbrev PreT : Prop := Cert.Pre_tables.fn (F := F) (V m 0 main_arg0) (V m 0 main_arg1) (V m 0 main_arg2) (V m 0 main_arg3) (tbl m 0) (tbl m 1) (tbl m 2) (tbl m 3) (tbl m 4) = fun _ => 1#1

variable {m}

theorem PreT.words (h : PreT m) (k : ℕ) (hk : k < 57) :
    (ieP (tbl m) k hk).toNat < 32 ∧ (stP (tbl m) k hk).toNat ≤ 15744 ∧ 8 ∣ (stP (tbl m) k hk).toNat
      ∧ (okP (tbl m) k hk = 0#32 ∨ okP (tbl m) k hk = 1#32)
      ∧ (∀ h' : k + 1 < 57, okP (tbl m) (k + 1) h' = 1#32 → okP (tbl m) k hk = 1#32) :=
  Cert.Exp.tables_at _ _ _ _ _ _ _ _ _ h k hk

theorem PreT.tabs (h : PreT m) : Tabs m where
  first c k hk ho := by
    rw [okW_at m c k (by omega)]; rw [okW_at m c (k + 1) hk] at ho
    exact (h.words k (by omega)).2.2.2.2 hk ho
  mult c k hk _ := by rw [stW_at m c k hk]; exact (h.words k hk).2.2.1
  inside c k hk _ := by rw [stW_at m c k hk]; have := (h.words k hk).2.1; omega

theorem PreT.ok (h : PreT m) : Ok m := by
  refine ⟨fun i => ?_, fun i => ?_, fun i => ?_⟩
  · have hw := h.words (i 0).val (i0_lt i)
    have hi1 : (i 1).val < 2 := (i 1).isLt
    refine ⟨fun a => ?_, .inl rfl⟩
    rw [tr1 _ i hw.2.2.2.1]
    match a with
    | ⟨0, _⟩ => exact (by have := hw.1; omega : ((ieP (tbl m) (i 0).val (i0_lt i)).toNat + 1) * 1 ≤ 32)
    | ⟨1, _⟩ => exact (by decide : (0 + 1) * 2048 ≤ 2048)
    | ⟨2, _⟩ => exact (by split <;> omega : ((if okP (tbl m) (i 0).val (i0_lt i) = 1#32 then (i 1).val else 1) + 1) * 512 ≤ 1024)
  · have hw := h.words (i 0).val (i0_lt i)
    have hi1 : (i 1).val < 2 := (i 1).isLt
    refine ⟨fun a => ?_, .inl rfl⟩
    rw [tr2 _ i hw.2.2.2.1]
    match a with
    | ⟨0, _⟩ => exact (by have := hw.1; omega : ((ieP (tbl m) (i 0).val (i0_lt i)).toNat + 1) * 1 ≤ 32)
    | ⟨1, _⟩ => exact (by decide : (0 + 1) * 2048 ≤ 2048)
    | ⟨2, _⟩ => exact (by split <;> omega : ((if okP (tbl m) (i 0).val (i0_lt i) = 1#32 then (i 1).val else 1) + 1) * 512 ≤ 1024)
  · have hw := h.words (i 0).val (i0_lt i)
    have hi1 : (i 1).val < 2 := (i 1).isLt
    refine ⟨fun a => ?_, .inl rfl⟩
    rw [tr3 _ i hw.2.2.2.1]
    match a with
    | ⟨0, _⟩ => exact (by have := hw.1; omega : ((ieP (tbl m) (i 0).val (i0_lt i)).toNat + 1) * 1 ≤ 32)
    | ⟨1, _⟩ => exact (by split <;> omega : ((if okP (tbl m) (i 0).val (i0_lt i) = 1#32 then (i 1).val else 1) + 1) * 512 ≤ 1024)
    | ⟨2, _⟩ => exact (by decide : (0 + 1) * 2048 ≤ 2048)

end Cert.Kernel3Ideal.Exp

end

end
-- ==== Proof.Exp.Maths.lean ====
module

public import Idealize.ShloMosaic.Lib.Pointwise
public import Idealize.ShloMosaic.Lib.IdealHost

@[expose] public section

noncomputable section

namespace Cert.Exp

open Idealize.ShloMosaic

/-- An index of rank 3 is given by its coordinates. -/
theorem ix3_ext {n0 n1 n2 : Nat} {x y : (⟨3, ![n0, n1, n2]⟩ : Shape).Idx} (h0 : (x 0).val = (y 0).val) (h1 : (x 1).val = (y 1).val)
    (h2 : (x 2).val = (y 2).val) : x = y := by
  funext a; apply Fin.ext
  match a with
  | ⟨0, _⟩ => exact h0
  | ⟨1, _⟩ => exact h1
  | ⟨2, _⟩ => exact h2

/-- An index of rank 2 is given by its coordinates. -/
theorem ix2_ext {n0 n1 : Nat} {x y : (⟨2, ![n0, n1]⟩ : Shape).Idx} (h0 : (x 0).val = (y 0).val) (h1 : (x 1).val = (y 1).val) : x = y := by
  funext a; apply Fin.ext
  match a with
  | ⟨0, _⟩ => exact h0
  | ⟨1, _⟩ => exact h1

/-- The gate's value times its logistic function, times the other branch's value. -/
def act (g u : EReal) : EReal := g * Ideal.div 1 (1 + Ideal.exp (-g)) * u

/-- Hidden column `f` of row `s` under expert `e`. -/
def hid (X : (⟨2, ![16384, 2048]⟩ : Shape).Idx → EReal) (G U : (⟨3, ![32, 2048, 1024]⟩ : Shape).Idx → EReal) (e : Fin 32) (s : Fin 16384) (f : Fin 1024) : EReal :=
  act (∑ k : Fin 2048, X (ix2 s k) * G (ix3 e k f)) (∑ k : Fin 2048, X (ix2 s k) * U (ix3 e k f))

/-- Whether row `r` of an item is between the first and the last of its rows. -/
def keep (lo hi : BitVec 32) (r : ℕ) : BitVec 1 := IntOp.andi (IntOp.cmpi .sge (BitVec.ofNat 32 r) lo) (IntOp.cmpi .slt (BitVec.ofNat 32 r) hi)

/-- Row `r` of an item which starts at `st`, among the rows of the tokens. -/
def rowOf (st : BitVec 32) (r : ℕ) : Fin 16384 := ⟨min (st.toNat + r) 16383, by omega⟩

/-- The expert of an item. -/
def expOf (ie : BitVec 32) : Fin 32 := ⟨min ie.toNat 31, by omega⟩

/-- Row `r`, channel `d` of an item. -/
def item (X : (⟨2, ![16384, 2048]⟩ : Shape).Idx → EReal) (G U : (⟨3, ![32, 2048, 1024]⟩ : Shape).Idx → EReal) (D : (⟨3, ![32, 1024, 2048]⟩ : Shape).Idx → EReal)
    (ie st lo hi ok : BitVec 32) (r : ℕ) (d : Fin 2048) : EReal :=
  if ok = 1#32 ∧ keep lo hi r = 1#1 then ∑ f : Fin 1024, hid X G U (expOf ie) (rowOf st r) f * D (ix3 (expOf ie) f d) else 0

/-- A word not negative is left as it is by the wrapping of negative indices. -/
theorem wrap (v z : BitVec 32) (h : v.toNat < 2 ^ 31) : Scalar.select (IntOp.cmpi .slt v 0#32) z v = v := by
  have : IntOp.cmpi .slt v 0#32 = 0#1 := by
    show BitVec.ofBool (v.slt 0#32) = 0#1
    rw [BitVec.slt_eq_decide, decide_eq_false]
    · rfl
    · simp only [BitVec.toInt_eq_toNat_cond, BitVec.toNat_ofNat, Nat.reducePow, Nat.reduceMod]; omega
  rw [this]; rfl

theorem toInt_toNat (v : BitVec 32) (h : v.toNat < 2 ^ 31) : v.toInt.toNat = v.toNat := by
  simp only [BitVec.toInt_eq_toNat_cond, Nat.reducePow]; omega

end Cert.Exp

end

end
-- ==== Proof.Exp.Blocks.lean ====
module

public import proofs.«01_k».proof.Proof.Exp.Pre
public import proofs.«01_k».proof.Proof.Exp.Maths
public import Idealize.ShloMosaic.Lib.Pointwise

public import proofs.«01_k».proof.Proof.Exp.Tables

@[expose] public section

set_option maxRecDepth 16384

noncomputable section

namespace Cert.Kernel3Ideal.Exp

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- Word `k` of the tables of the first and of the last rows kept. -/
def loP (k : ℕ) (h : k < 57) : BitVec 32 := tbl m 2 (Cert.Exp.i57 k h)
def hiP (k : ℕ) (h : k < 57) : BitVec 32 := tbl m 3 (Cert.Exp.i57 k h)

theorem loW_at (c : Dev nD) (k : ℕ) (hk : k < 57) : loW m c k = loP m k hk := by
  unfold loW wd; rw [dif_pos hk]
  refine congrArg (tbl m 2) (funext fun a => Fin.ext ?_)
  match a with
  | ⟨0, _⟩ => rfl
theorem hiW_at (c : Dev nD) (k : ℕ) (hk : k < 57) : hiW m c k = hiP m k hk := by
  unfold hiW wd; rw [dif_pos hk]
  refine congrArg (tbl m 3) (funext fun a => Fin.ext ?_)
  match a with
  | ⟨0, _⟩ => rfl

/-- The four arrays of the arguments. -/
abbrev argX (c : Dev nD) : Vec Ideal S16384x2048 .f32 := m ((c : Thread nD τ).loc main_arg0)
abbrev argG (c : Dev nD) : Vec Ideal S32x2048x1024 .f32 := m ((c : Thread nD τ).loc main_arg1)
abbrev argU (c : Dev nD) : Vec Ideal S32x2048x1024 .f32 := m ((c : Thread nD τ).loc main_arg2)
abbrev argD (c : Dev nD) : Vec Ideal S32x1024x2048 .f32 := m ((c : Thread nD τ).loc main_arg3)

theorem t_lt (t : Fin grid0.N) : t.val / 2 < 57 := by have : t.val < 114 := Nat.lt_of_lt_of_eq t.isLt N_0; omega

/-- The hidden column of column `f` of the half at point `t`. -/
def col (t : Fin grid0.N) (f : Fin 512) : Fin 1024 := ⟨512 * (t.val % 2) + f.val, by omega⟩

theorem P_congr (P : (k : ℕ) → k < 57 → BitVec 32) {k k' : ℕ} (e : k = k') (h : k < 57) (h' : k' < 57) : P k h = P k' h' := by subst e; rfl

variable {m}

/-- The rows of item `k`, which lie in the array. -/
theorem rows_at (h : PreT m) (c : Dev nD) (k : ℕ) (hk : k < 57) (r : Fin 640) (x : Fin 2048) :
    rowsW m c k (ix2 r x) = argX m c (ix2 (Cert.Exp.rowOf (stP (tbl m) k hk) r.val) x) := by
  have hs := (h.words k hk).2.1
  have hin : InRows (stW m c k) := by
    rw [stW_at m c k hk]
    intro a
    match a with
    | ⟨0, _⟩ => show (stP (tbl m) k hk).toNat + 640 ≤ 16384; omega
    | ⟨1, _⟩ => show 0 + 2048 ≤ 2048; omega
  rw [← rowsW_eq m c k hin]
  have hr := r.isLt
  refine congrArg (argX m c) (Cert.Exp.ix2_ext ?_ ?_)
  · show (stW m c k).toNat + 1 * r.val = min ((stP (tbl m) k hk).toNat + r.val) 16383
    rw [stW_at m c k hk]; omega
  · show 0 + 1 * x.val = x.val
    omega

section blocks
variable (h : PreT m) (hO : Ok m) (c : Dev nD) (t : Fin grid0.N) (hok : okP (tbl m) (t.val / 2) (t_lt t) = 1#32)
include h hok

theorem okc : okP (tbl m) ((grid0.coords t) 0).val (i0_lt _) = 1#32 :=
  (P_congr (okP (tbl m)) (co0 t) _ (t_lt t)).trans hok

theorem index1 : cc0_transform_1 k0_off1_inb numel1_S1 (tbl m) (grid0.coords t) = ![(Cert.Exp.expOf (ieP (tbl m) (t.val / 2) (t_lt t))).val, 0, t.val % 2] := by
  have ho := okc h t hok
  have hi := (h.words (t.val / 2) (t_lt t)).1
  have e := P_congr (ieP (tbl m)) (co0 t) (i0_lt _) (t_lt t)
  rw [tr1 _ _ (Or.inr ho), if_pos ho, e, co1 t]
  have : (ieP (tbl m) (t.val / 2) (t_lt t)).toNat = (Cert.Exp.expOf (ieP (tbl m) (t.val / 2) (t_lt t))).val := by
    show _ = min _ 31; omega
  rw [← this]
theorem index2 : cc0_transform_2 k0_off1_inb numel1_S1 (tbl m) (grid0.coords t) = ![(Cert.Exp.expOf (ieP (tbl m) (t.val / 2) (t_lt t))).val, 0, t.val % 2] := by
  have ho := okc h t hok
  have hi := (h.words (t.val / 2) (t_lt t)).1
  have e := P_congr (ieP (tbl m)) (co0 t) (i0_lt _) (t_lt t)
  rw [tr2 _ _ (Or.inr ho), if_pos ho, e, co1 t]
  have : (ieP (tbl m) (t.val / 2) (t_lt t)).toNat = (Cert.Exp.expOf (ieP (tbl m) (t.val / 2) (t_lt t))).val := by
    show _ = min _ 31; omega
  rw [← this]
theorem index3 : cc0_transform_3 k0_off1_inb numel1_S1 (tbl m) (grid0.coords t) = ![(Cert.Exp.expOf (ieP (tbl m) (t.val / 2) (t_lt t))).val, t.val % 2, 0] := by
  have ho := okc h t hok
  have hi := (h.words (t.val / 2) (t_lt t)).1
  have e := P_congr (ieP (tbl m)) (co0 t) (i0_lt _) (t_lt t)
  rw [tr3 _ _ (Or.inr ho), if_pos ho, e, co1 t]
  have : (ieP (tbl m) (t.val / 2) (t_lt t)).toNat = (Cert.Exp.expOf (ieP (tbl m) (t.val / 2) (t_lt t))).val := by
    show _ = min _ 31; omega
  rw [← this]

theorem blk0 (k : Fin 2048) (f : Fin 512) : iblk m hO c 0 t (ix3 (0 : Fin 1) k f : S1x2048x512.Idx)
    = argG m c (ix3 (Cert.Exp.expOf (ieP (tbl m) (t.val / 2) (t_lt t))) k (col t f)) := by
  have hi := index1 h t hok
  refine congrArg (argG m c) (funext fun a => Fin.ext ?_)
  refine (Pipeline.Window.rect_emb_val ((cfgM m hO).win 0) t (ix3 (0 : Fin 1) k f : S1x2048x512.Idx) a).trans ?_
  match a with
  | ⟨0, _⟩ => exact (congrArg (· * 1 + 0) (congrFun hi 0)).trans (by show _ * 1 + 0 = _; rw [Nat.mul_one, Nat.add_zero])
  | ⟨1, _⟩ => exact (congrArg (· * 2048 + k.val) (congrFun hi 1)).trans (by show 0 * 2048 + k.val = k.val; omega)
  | ⟨2, _⟩ => exact (congrArg (· * 512 + f.val) (congrFun hi 2)).trans (by show (t.val % 2) * 512 + f.val = 512 * (t.val % 2) + f.val; omega)
theorem blk1 (k : Fin 2048) (f : Fin 512) : iblk m hO c 1 t (ix3 (0 : Fin 1) k f : S1x2048x512.Idx)
    = argU m c (ix3 (Cert.Exp.expOf (ieP (tbl m) (t.val / 2) (t_lt t))) k (col t f)) := by
  have hi := index2 h t hok
  refine congrArg (argU m c) (funext fun a => Fin.ext ?_)
  refine (Pipeline.Window.rect_emb_val ((cfgM m hO).win 1) t (ix3 (0 : Fin 1) k f : S1x2048x512.Idx) a).trans ?_
  match a with
  | ⟨0, _⟩ => exact (congrArg (· * 1 + 0) (congrFun hi 0)).trans (by show _ * 1 + 0 = _; rw [Nat.mul_one, Nat.add_zero])
  | ⟨1, _⟩ => exact (congrArg (· * 2048 + k.val) (congrFun hi 1)).trans (by show 0 * 2048 + k.val = k.val; omega)
  | ⟨2, _⟩ => exact (congrArg (· * 512 + f.val) (congrFun hi 2)).trans (by show (t.val % 2) * 512 + f.val = 512 * (t.val % 2) + f.val; omega)
theorem blk2 (f : Fin 512) (d : Fin 2048) : iblk m hO c 2 t (ix3 (0 : Fin 1) f d : S1x512x2048.Idx)
    = argD m c (ix3 (Cert.Exp.expOf (ieP (tbl m) (t.val / 2) (t_lt t))) (col t f) d) := by
  have hi := index3 h t hok
  refine congrArg (argD m c) (funext fun a => Fin.ext ?_)
  refine (Pipeline.Window.rect_emb_val ((cfgM m hO).win 2) t (ix3 (0 : Fin 1) f d : S1x512x2048.Idx) a).trans ?_
  match a with
  | ⟨0, _⟩ => exact (congrArg (· * 1 + 0) (congrFun hi 0)).trans (by show _ * 1 + 0 = _; rw [Nat.mul_one, Nat.add_zero])
  | ⟨1, _⟩ => exact (congrArg (· * 512 + f.val) (congrFun hi 1)).trans (by show (t.val % 2) * 512 + f.val = 512 * (t.val % 2) + f.val; omega)
  | ⟨2, _⟩ => exact (congrArg (· * 2048 + d.val) (congrFun hi 2)).trans (by show 0 * 2048 + d.val = d.val; omega)
end blocks

/-- The half's product at a row and a channel, from its operands. -/
theorem pay4_at (x : Vec Ideal S640x2048 .f32) (g u : Vec Ideal S1x2048x512 .f32) (lo hi : BitVec 32) (dn : Vec Ideal S1x512x2048 .f32) (r : Fin 640) (d : Fin 2048) :
    k0_pay4 (F := Ideal) (k0_pay1 x) g u lo hi dn (ix2 r d)
      = ∑ f : Fin 512, (if Cert.Exp.keep lo hi r.val = 1#1 then
          Cert.Exp.act (∑ k : Fin 2048, x (ix2 r k) * g (ix3 (0 : Fin 1) k f)) (∑ k : Fin 2048, x (ix2 r k) * u (ix3 (0 : Fin 1) k f)) else 0) * dn (ix3 (0 : Fin 1) f d) := by
  pointwise [k0_pay4, k0_pay1]
  refine Finset.sum_congr rfl fun f _ => ?_
  unfold Cert.Exp.keep Cert.Exp.act
  by_cases hk : IntOp.andi (IntOp.cmpi .sge (BitVec.ofNat 32 r.val) lo) (IntOp.cmpi .slt (BitVec.ofNat 32 r.val) hi) = 1#1
  · rw [if_pos hk, hk, zero_sub]; rfl
  · rw [if_neg hk, (BitVec.eq_zero_or_eq_one _).resolve_right hk, zero_mul]; rfl

/-- The two halves of the hidden columns together. -/
theorem split_sum (F : Fin 1024 → EReal) :
    (∑ f : Fin 512, F ⟨f.val, by omega⟩) + ∑ f : Fin 512, F ⟨512 + f.val, by omega⟩ = ∑ f : Fin 1024, F f :=
  (Fin.sum_univ_add (a := 512) (b := 512) F).symm

section halves
variable (h : PreT m) (hO : Ok m) (c : Dev nD) (t : Fin grid0.N) (hok : okP (tbl m) (t.val / 2) (t_lt t) = 1#32)
include h hok

/-- The half at point `t`, at a row and a channel. -/
theorem half_at (r : Fin 640) (d : Fin 2048) : half m hO c t (ix2 r d)
    = ∑ f : Fin 512, (if Cert.Exp.keep (loP m (t.val / 2) (t_lt t)) (hiP m (t.val / 2) (t_lt t)) r.val = 1#1 then
        Cert.Exp.hid (argX m c) (argG m c) (argU m c) (Cert.Exp.expOf (ieP (tbl m) (t.val / 2) (t_lt t))) (Cert.Exp.rowOf (stP (tbl m) (t.val / 2) (t_lt t)) r.val) (col t f) else 0)
      * argD m c (ix3 (Cert.Exp.expOf (ieP (tbl m) (t.val / 2) (t_lt t))) (col t f) d) := by
  unfold half
  refine (pay4_at _ _ _ _ _ _ r d).trans ?_
  refine Finset.sum_congr rfl fun f _ => ?_
  rw [blk2 h hO c t hok f d, loW_at m c _ (t_lt t), hiW_at m c _ (t_lt t)]
  unfold Cert.Exp.hid
  have eg : ∀ k : Fin 2048, @HMul.hMul EReal EReal EReal _ (rowsW m c (t.val / 2) (ix2 r k)) (iblk m hO c 0 t (ix3 (0 : Fin 1) k f : S1x2048x512.Idx))
      = argX m c (ix2 (Cert.Exp.rowOf (stP (tbl m) (t.val / 2) (t_lt t)) r.val) k) * argG m c (ix3 (Cert.Exp.expOf (ieP (tbl m) (t.val / 2) (t_lt t))) k (col t f)) := fun k => by
    rw [rows_at h c _ (t_lt t), blk0 h hO c t hok k f]
  have eu : ∀ k : Fin 2048, @HMul.hMul EReal EReal EReal _ (rowsW m c (t.val / 2) (ix2 r k)) (iblk m hO c 1 t (ix3 (0 : Fin 1) k f : S1x2048x512.Idx))
      = argX m c (ix2 (Cert.Exp.rowOf (stP (tbl m) (t.val / 2) (t_lt t)) r.val) k) * argU m c (ix3 (Cert.Exp.expOf (ieP (tbl m) (t.val / 2) (t_lt t))) k (col t f)) := fun k => by
    rw [rows_at h c _ (t_lt t), blk1 h hO c t hok k f]
  exact congrArg (· * _) (if_congr Iff.rfl (congrArg₂ Cert.Exp.act (Finset.sum_congr rfl fun k _ => eg k) (Finset.sum_congr rfl fun k _ => eu k)) rfl)
end halves

theorem pay3_at (a b : Vec Ideal S640x2048 .f32) (y : S640x2048.Idx) : k0_pay3 (F := Ideal) a b y = b y + a y := by
  pointwise [k0_pay3]
theorem pay2_at (y : S640x2048.Idx) : k0_pay2 (F := Ideal) y = 0 := by
  pointwise [k0_pay2]

/-- Row `r`, channel `d` of item `w`. -/
abbrev itemW (m : (ℓ : Loc nD τ sig) → Buf (Elt Ideal) ℓ) (c : Dev nD) (w : ℕ) (hw : w < 57) (r : ℕ) (d : Fin 2048) : EReal :=
  Cert.Exp.item (argX m c) (argG m c) (argU m c) (argD m c) (ieP (tbl m) w hw) (stP (tbl m) w hw) (loP m w hw) (hiP m w hw) (okP (tbl m) w hw) r d

/-- What the output's staging buffer holds after the second half of an item. -/
theorem outV_at (h : PreT m) (hO : Ok m) (c : Dev nD) (t : Fin grid0.N) (ht : t.val % 2 = 1) (r : Fin 640) (d : Fin 2048) :
    outV m hO c t (ix2 r d) = itemW m c (t.val / 2) (t_lt t) r.val d := by
  unfold outV itemW Cert.Exp.item
  rw [okW_at m c _ (t_lt t)]
  by_cases hok : okP (tbl m) (t.val / 2) (t_lt t) = 1#32
  · rw [if_pos hok, if_neg (by omega)]
    have lt : t.val - 1 < grid0.N := Nat.lt_of_le_of_lt (Nat.sub_le _ _) t.isLt
    have e2 : (t.val - 1) / 2 = t.val / 2 := by omega
    have hok' : okP (tbl m) ((⟨t.val - 1, lt⟩ : Fin grid0.N).val / 2) (t_lt ⟨t.val - 1, lt⟩) = 1#32 := (P_congr (okP (tbl m)) e2 _ _).trans hok
    refine (pay3_at _ _ _).trans ?_
    refine (congrArg₂ (· + ·) (half_at h hO c ⟨t.val - 1, lt⟩ hok' r d) (half_at h hO c t hok r d)).trans ?_
    have ei : ieP (tbl m) ((⟨t.val - 1, lt⟩ : Fin grid0.N).val / 2) (t_lt ⟨t.val - 1, lt⟩) = ieP (tbl m) (t.val / 2) (t_lt t) := P_congr (ieP (tbl m)) e2 _ _
    have es : stP (tbl m) ((⟨t.val - 1, lt⟩ : Fin grid0.N).val / 2) (t_lt ⟨t.val - 1, lt⟩) = stP (tbl m) (t.val / 2) (t_lt t) := P_congr (stP (tbl m)) e2 _ _
    have el : loP m ((⟨t.val - 1, lt⟩ : Fin grid0.N).val / 2) (t_lt ⟨t.val - 1, lt⟩) = loP m (t.val / 2) (t_lt t) := P_congr (loP m) e2 _ _
    have eh : hiP m ((⟨t.val - 1, lt⟩ : Fin grid0.N).val / 2) (t_lt ⟨t.val - 1, lt⟩) = hiP m (t.val / 2) (t_lt t) := P_congr (hiP m) e2 _ _
    rw [ei, es, el, eh]
    have c0 : ∀ f : Fin 512, col ⟨t.val - 1, lt⟩ f = ⟨f.val, by omega⟩ := fun f => Fin.ext (by show 512 * ((t.val - 1) % 2) + f.val = f.val; omega)
    have c1 : ∀ f : Fin 512, col t f = ⟨512 + f.val, by omega⟩ := fun f => Fin.ext (by show 512 * (t.val % 2) + f.val = 512 + f.val; omega)
    simp only [c0, c1]
    by_cases hk : Cert.Exp.keep (loP m (t.val / 2) (t_lt t)) (hiP m (t.val / 2) (t_lt t)) r.val = 1#1
    · simp only [if_pos hk, if_pos (And.intro hok hk)]
      exact split_sum (fun f => Cert.Exp.hid (argX m c) (argG m c) (argU m c) (Cert.Exp.expOf (ieP (tbl m) (t.val / 2) (t_lt t))) (Cert.Exp.rowOf (stP (tbl m) (t.val / 2) (t_lt t)) r.val) f
        * argD m c (ix3 (Cert.Exp.expOf (ieP (tbl m) (t.val / 2) (t_lt t))) f d))
    · simp only [if_neg hk, if_neg (fun e : _ ∧ _ => hk e.2), zero_mul, Finset.sum_const_zero, add_zero]
  · rw [if_neg hok, if_neg (fun e => hok e.1)]
    exact pay2_at _

/-! ## The array after the run -/

/-- The output's array: row `r` of item `w` at row `640 w + r`. -/
def arrE (m : (ℓ : Loc nD τ sig) → Buf (Elt Ideal) ℓ) (c : Dev nD) : Vec Ideal S36480x2048 .f32 := fun y =>
  itemW m c ((y 0).val / 640) (by have : (y 0).val < 36480 := (y 0).isLt; omega) ((y 0).val % 640) (y 1)

/-- The array's row of row `r` of a block of point `t`. -/
def row (t : Fin grid0.N) (r : Fin 640) : Fin 36480 := ⟨640 * (t.val / 2) + r.val, by have := t_lt t; omega⟩

theorem index4 (t : Fin grid0.N) : cc0_transform_4 (grid0.coords t) = ![t.val / 2, 0] := by
  have hi := i0_lt (grid0.coords t)
  have e : (BitVec.ofNat 32 (grid0.coords t 0).val).toNat = t.val / 2 := by
    rw [BitVec.toNat_ofNat, ← co0 t]; omega
  show ![(BitVec.ofNat 32 (grid0.coords t 0).val).toNat, _] = _
  rw [e]; rfl

theorem emb3 (hO : Ok m) (t : Fin grid0.N) (r : Fin 640) (d : Fin 2048) :
    (((cfgM m hO).win 3).blk t).view.emb (ix2 r d : S640x2048.Idx) = (ix2 (row t r) d : S36480x2048.Idx) := by
  refine funext fun a => Fin.ext ?_
  refine (Pipeline.Window.rect_emb_val ((cfgM m hO).win 3) t (ix2 r d : S640x2048.Idx) a).trans ?_
  have hi := index4 t
  match a with
  | ⟨0, _⟩ => exact (congrArg (· * 640 + r.val) (congrFun hi 0)).trans (by show t.val / 2 * 640 + r.val = 640 * (t.val / 2) + r.val; omega)
  | ⟨1, _⟩ => exact (congrArg (· * 2048 + d.val) (congrFun hi 1)).trans (by show 0 * 2048 + d.val = d.val; omega)

theorem ix2_eta {n0 n1 : Nat} (y : (⟨2, ![n0, n1]⟩ : Shape).Idx) : ix2 (y 0) (y 1) = y := Cert.Exp.ix2_ext rfl rfl

theorem arr3 (h : PreT m) (hO : Ok m) (c : Dev nD) : (dats m hO 0 c).arrAt 3 (cfgM m hO).N = arrE m c := by
  refine Pipeline.Dat.arrAt_eq_of_cover (dats m hO 0 c) 3 (arrE m c) (fun t hf => ?_) (fun (y : S36480x2048.Idx) => ?_)
  · have ht := (flush3 (adm m hO) t).mp hf
    show ((cfgM m hO).win 3).cut (grid0.coords t) (outV m hO c t) = _
    refine funext fun (y : S640x2048.Idx) => ?_
    obtain ⟨r, d, rfl⟩ : ∃ (r : Fin 640) (d : Fin 2048), y = (ix2 r d : S640x2048.Idx) := ⟨y 0, y 1, (ix2_eta y).symm⟩
    refine (outV_at h hO c t ht r d).trans ?_
    refine Eq.trans ?_ (congrArg (arrE m c) (emb3 hO t r d)).symm
    have hr := r.isLt
    have e1 : (640 * (t.val / 2) + r.val) / 640 = t.val / 2 := by omega
    have e2 : (640 * (t.val / 2) + r.val) % 640 = r.val := by omega
    show itemW m c (t.val / 2) (t_lt t) r.val d = itemW m c ((640 * (t.val / 2) + r.val) / 640) _ ((640 * (t.val / 2) + r.val) % 640) d
    simp only [e1, e2]
  · obtain ⟨i, j, rfl⟩ : ∃ (i : Fin 36480) (j : Fin 2048), y = (ix2 i j : S36480x2048.Idx) := ⟨y 0, y 1, (ix2_eta y).symm⟩
    have hi := i.isLt
    have ht : 2 * (i.val / 640) + 1 < grid0.N := by rw [N_0]; omega
    refine ⟨⟨2 * (i.val / 640) + 1, ht⟩, (flush3 (adm m hO) _).mpr (by show (2 * (i.val / 640) + 1) % 2 = 1; omega), ?_⟩
    have e := emb3 hO ⟨2 * (i.val / 640) + 1, ht⟩ ⟨i.val % 640, by omega⟩ j
    have e1 : row ⟨2 * (i.val / 640) + 1, ht⟩ ⟨i.val % 640, by omega⟩ = i := Fin.ext (by
      show 640 * ((2 * (i.val / 640) + 1) / 2) + i.val % 640 = i.val; omega)
    rw [e1] at e
    rw [← e]
    exact View.emb_mem_set _ _

/-- The run leaves the items' rows in the output's array, and the arguments as they were. -/
theorem run_value (ρ : Dev nD → PrngReg) (h : PreT m) : θ_run defs (onTc (τ := τ) (main (F := Ideal))) ⟨m, fun _ => 0, ρ⟩ (fun r => ∀ c : Dev nD,
    r.2.mem ((c.tc : Thread nD τ).loc main_v0) = arrE m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ H c => ⟨((H c).1 3).trans (arr3 h (PreT.ok h) c),
      ((H c).2 main_arg0 (by decide : main_arg0 ∈ Pipeline.restRefs sig spec0)).trans (V_main_arg0 m c),
      ((H c).1 0).trans (((dats m (PreT.ok h) 0 c).arrAt_in 0 rfl _).trans (V_main_arg1 m c)),
      ((H c).1 1).trans (((dats m (PreT.ok h) 0 c).arrAt_in 1 rfl _).trans (V_main_arg2 m c)),
      ((H c).1 2).trans (((dats m (PreT.ok h) 0 c).arrAt_in 2 rfl _).trans (V_main_arg3 m c)),
      ((H c).2 main_arg4 (by decide : main_arg4 ∈ Pipeline.restRefs sig spec0)).trans (V_main_arg4 m c),
      ((H c).2 main_arg5 (by decide : main_arg5 ∈ Pipeline.restRefs sig spec0)).trans (V_main_arg5 m c),
      ((H c).2 main_arg6 (by decide : main_arg6 ∈ Pipeline.restRefs sig spec0)).trans (V_main_arg6 m c),
      ((H c).2 main_arg7 (by decide : main_arg7 ∈ Pipeline.restRefs sig spec0)).trans (V_main_arg7 m c),
      ((H c).2 main_arg8 (by decide : main_arg8 ∈ Pipeline.restRefs sig spec0)).trans (V_main_arg8 m c)⟩)
    (run_main m ρ (PreT.ok h) (PreT.tabs h))

end Cert.Kernel3Ideal.Exp

end

end
-- ==== Proof.Exp.RefSide.lean ====
module

public import proofs.«01_k».proof.Proof.Gen.Reference3Ideal.Read
public import proofs.«01_k».proof.Proof.Exp.Maths
public import proofs.«01_k».proof.Proof.Exp.Tables

@[expose] public section

set_option maxRecDepth 16384

noncomputable section

namespace Cert.Exp.Ref

open Idealize.ShloMosaic Cert.Exp Cert.Reference3Ideal Cert.Reference3Ideal.Gen Cert.Reference3Ideal.Read

/-- The rows the first gather takes. -/
theorem gatherX (x : FVec Ideal S16384x2048 .f32) (idx : IVec S57x640x1 32) (w : Fin 57) (r : Fin 640) (k : Fin 2048) :
    Host.gather gather_S16384x2048_S57x640x1_S57x640x2048_2_0_n_n_0_2_12048 x idx (ix3 w r k)
      = x (ix2 ⟨min (idx (ix3 w r (0 : Fin 1))).toInt.toNat 16383, by omega⟩ k) := by
  unfold Host.gather
  refine congrArg x (funext fun a => Fin.ext ?_)
  match a with
  | ⟨0, _⟩ =>
    show GatherDims.start _ (ix3 w r k) idx 0 + GatherDims.batchCoord _ (ix3 w r k) 0 + GatherDims.offCoord _ (ix3 w r k) 0 = _
    rw [GatherDims.batchCoord_eq_zero _ _ _ (by decide), GatherDims.offCoord_eq_zero _ _ _ (by decide)]
    simp only [Nat.add_zero]
    unfold GatherDims.start
    rw [dif_pos (by decide)]
    have hsi : ∀ q, gather_S16384x2048_S57x640x1_S57x640x2048_2_0_n_n_0_2_12048.siIdx (ix3 w r k) ⟨0, q⟩ = ix3 w r (0 : Fin 1) := fun q => ix3_ext rfl rfl rfl
    exact congrArg (fun i => min (idx i).toInt.toNat 16383) (hsi _)
  | ⟨1, _⟩ =>
    show GatherDims.start _ (ix3 w r k) idx 1 + GatherDims.batchCoord _ (ix3 w r k) 1 + GatherDims.offCoord _ (ix3 w r k) 1 = k.val
    rw [GatherDims.batchCoord_eq_zero _ _ _ (by decide)]
    unfold GatherDims.start GatherDims.offCoord
    rw [dif_neg (by decide), dif_pos (by decide)]
    exact (Nat.zero_add _).trans (by rfl)

/-- The weights the second and the third gather take. -/
theorem gatherG (x : FVec Ideal S32x2048x1024 .f32) (idx : IVec S57x1 32) (w : Fin 57) (k : Fin 2048) (f : Fin 1024) :
    Host.gather gather_S32x2048x1024_S57x1_S57x2048x1024_12_0_n_n_0_1_120481024 x idx (ix3 w k f)
      = x (ix3 ⟨min (idx (ix2 w (0 : Fin 1))).toInt.toNat 31, by omega⟩ k f) := by
  unfold Host.gather
  refine congrArg x (funext fun a => Fin.ext ?_)
  match a with
  | ⟨0, _⟩ =>
    show GatherDims.start _ (ix3 w k f) idx 0 + GatherDims.batchCoord _ (ix3 w k f) 0 + GatherDims.offCoord _ (ix3 w k f) 0 = _
    rw [GatherDims.batchCoord_eq_zero _ _ _ (by decide), GatherDims.offCoord_eq_zero _ _ _ (by decide)]
    simp only [Nat.add_zero]
    unfold GatherDims.start
    rw [dif_pos (by decide)]
    have hsi : ∀ q, gather_S32x2048x1024_S57x1_S57x2048x1024_12_0_n_n_0_1_120481024.siIdx (ix3 w k f) ⟨0, q⟩ = ix2 w (0 : Fin 1) := fun q => ix2_ext rfl rfl
    exact congrArg (fun i => min (idx i).toInt.toNat 31) (hsi _)
  | ⟨1, _⟩ =>
    show GatherDims.start _ (ix3 w k f) idx 1 + GatherDims.batchCoord _ (ix3 w k f) 1 + GatherDims.offCoord _ (ix3 w k f) 1 = k.val
    rw [GatherDims.batchCoord_eq_zero _ _ _ (by decide)]
    unfold GatherDims.start GatherDims.offCoord
    rw [dif_neg (by decide), dif_pos (by decide)]
    exact (Nat.zero_add _).trans (by rfl)
  | ⟨2, _⟩ =>
    show GatherDims.start _ (ix3 w k f) idx 2 + GatherDims.batchCoord _ (ix3 w k f) 2 + GatherDims.offCoord _ (ix3 w k f) 2 = f.val
    rw [GatherDims.batchCoord_eq_zero _ _ _ (by decide)]
    unfold GatherDims.start GatherDims.offCoord
    rw [dif_neg (by decide), dif_pos (by decide)]
    exact (Nat.zero_add _).trans (by rfl)

/-- The weights the fourth gather takes. -/
theorem gatherD (x : FVec Ideal S32x1024x2048 .f32) (idx : IVec S57x1 32) (w : Fin 57) (f : Fin 1024) (d : Fin 2048) :
    Host.gather gather_S32x1024x2048_S57x1_S57x1024x2048_12_0_n_n_0_1_110242048 x idx (ix3 w f d)
      = x (ix3 ⟨min (idx (ix2 w (0 : Fin 1))).toInt.toNat 31, by omega⟩ f d) := by
  unfold Host.gather
  refine congrArg x (funext fun a => Fin.ext ?_)
  match a with
  | ⟨0, _⟩ =>
    show GatherDims.start _ (ix3 w f d) idx 0 + GatherDims.batchCoord _ (ix3 w f d) 0 + GatherDims.offCoord _ (ix3 w f d) 0 = _
    rw [GatherDims.batchCoord_eq_zero _ _ _ (by decide), GatherDims.offCoord_eq_zero _ _ _ (by decide)]
    simp only [Nat.add_zero]
    unfold GatherDims.start
    rw [dif_pos (by decide)]
    have hsi : ∀ q, gather_S32x1024x2048_S57x1_S57x1024x2048_12_0_n_n_0_1_110242048.siIdx (ix3 w f d) ⟨0, q⟩ = ix2 w (0 : Fin 1) := fun q => ix2_ext rfl rfl
    exact congrArg (fun i => min (idx i).toInt.toNat 31) (hsi _)
  | ⟨1, _⟩ =>
    show GatherDims.start _ (ix3 w f d) idx 1 + GatherDims.batchCoord _ (ix3 w f d) 1 + GatherDims.offCoord _ (ix3 w f d) 1 = f.val
    rw [GatherDims.batchCoord_eq_zero _ _ _ (by decide)]
    unfold GatherDims.start GatherDims.offCoord
    rw [dif_neg (by decide), dif_pos (by decide)]
    exact (Nat.zero_add _).trans (by rfl)
  | ⟨2, _⟩ =>
    show GatherDims.start _ (ix3 w f d) idx 2 + GatherDims.batchCoord _ (ix3 w f d) 2 + GatherDims.offCoord _ (ix3 w f d) 2 = d.val
    rw [GatherDims.batchCoord_eq_zero _ _ _ (by decide)]
    unfold GatherDims.start GatherDims.offCoord
    rw [dif_neg (by decide), dif_pos (by decide)]
    exact (Nat.zero_add _).trans (by rfl)

variable (x0 : FVec Ideal S16384x2048 .f32) (x1 x2 : FVec Ideal S32x2048x1024 .f32) (x3 : FVec Ideal S32x1024x2048 .f32)
  (x4 x5 x6 x7 x8 : IVec S57 32)

/-- The index of item `w` in the tables. -/
abbrev iw (w : Fin 57) : S57.Idx := i57 w.val w.isLt

theorem iw_ext (w : Fin 57) (y : S57.Idx) (h : (y 0).val = w.val) : y = iw w := by
  funext a; apply Fin.ext
  match a with
  | ⟨0, _⟩ => exact h

theorem v12_at (w : Fin 57) (r : Fin 640) (k : Fin 2048) (hs : (x5 (iw w)).toNat ≤ 15744) :
    val_main_v12 (F := Ideal) x0 x5 (ix3 w r k) = x0 (ix2 (rowOf (x5 (iw w)) r.val) k) := by
  unfold val_main_v12
  rw [gatherX]
  have e5 : val_main_v5 (F := Ideal) x5 (ix2 w r) = x5 (iw w) + BitVec.ofNat 32 r.val := by
    rw [val_main_v5_apply, val_main_v3_apply, val_main_v2_apply, val_main_v4_apply, val_main_v1_apply, val_main_v0_apply]
    exact congrArg₂ (fun a b => x5 a + BitVec.ofNat 32 b) (iw_ext w _ rfl) rfl
  have hr := r.isLt
  have en : (x5 (iw w) + BitVec.ofNat 32 r.val).toNat = (x5 (iw w)).toNat + r.val := by
    rw [BitVec.toNat_add, BitVec.toNat_ofNat]; omega
  have e11 : val_main_v11 (F := Ideal) x5 (ix3 w r (0 : Fin 1)) = x5 (iw w) + BitVec.ofNat 32 r.val := by
    rw [val_main_v11_apply]
    have ei : idx_main_v11 (ix3 w r (0 : Fin 1)) = ix2 w r := ix2_ext rfl rfl
    rw [ei, val_main_v10_apply, val_main_v7_apply, val_main_v6_apply, val_main_c_apply, e5]
    exact wrap _ _ (by omega)
  refine congrArg x0 (ix2_ext ?_ rfl)
  show min (val_main_v11 (F := Ideal) x5 (ix3 w r (0 : Fin 1))).toInt.toNat 16383 = min ((x5 (iw w)).toNat + r.val) 16383
  rw [e11, toInt_toNat _ (by omega), en]

theorem wrapE (w : Fin 57) (z : BitVec 32) (he : (x4 (iw w)).toNat < 32) :
    min (Scalar.select (IntOp.cmpi .slt (x4 (iw w)) 0#32) z (x4 (iw w))).toInt.toNat 31 = min (x4 (iw w)).toNat 31 := by
  rw [wrap _ _ (by omega), toInt_toNat _ (by omega)]

theorem v19_at (w : Fin 57) (k : Fin 2048) (f : Fin 1024) (he : (x4 (iw w)).toNat < 32) :
    val_main_v19 (F := Ideal) x1 x4 (ix3 w k f) = x1 (ix3 (expOf (x4 (iw w))) k f) := by
  unfold val_main_v19
  rw [gatherG]
  refine congrArg x1 (ix3_ext ?_ rfl rfl)
  show min (val_main_v18 (F := Ideal) x4 (ix2 w (0 : Fin 1))).toInt.toNat 31 = _
  have ei : idx_main_v18 (ix2 w (0 : Fin 1)) = iw w := iw_ext w _ rfl
  rw [val_main_v18_apply, ei, val_main_v17_apply, val_main_v14_apply, val_main_v13_apply, val_main_c_1_apply]
  exact wrapE x4 w _ he

theorem v27_at (w : Fin 57) (k : Fin 2048) (f : Fin 1024) (he : (x4 (iw w)).toNat < 32) :
    val_main_v27 (F := Ideal) x2 x4 (ix3 w k f) = x2 (ix3 (expOf (x4 (iw w))) k f) := by
  unfold val_main_v27
  rw [gatherG]
  refine congrArg x2 (ix3_ext ?_ rfl rfl)
  show min (val_main_v26 (F := Ideal) x4 (ix2 w (0 : Fin 1))).toInt.toNat 31 = _
  have ei : idx_main_v26 (ix2 w (0 : Fin 1)) = iw w := iw_ext w _ rfl
  rw [val_main_v26_apply, ei, val_main_v25_apply, val_main_v22_apply, val_main_v21_apply, val_main_c_3_apply]
  exact wrapE x4 w _ he

theorem v37_at (w : Fin 57) (f : Fin 1024) (d : Fin 2048) (he : (x4 (iw w)).toNat < 32) :
    val_main_v37 (F := Ideal) x3 x4 (ix3 w f d) = x3 (ix3 (expOf (x4 (iw w))) f d) := by
  unfold val_main_v37
  rw [gatherD]
  refine congrArg x3 (ix3_ext ?_ rfl rfl)
  show min (val_main_v36 (F := Ideal) x4 (ix2 w (0 : Fin 1))).toInt.toNat 31 = _
  have ei : idx_main_v36 (ix2 w (0 : Fin 1)) = iw w := iw_ext w _ rfl
  rw [val_main_v36_apply, ei, val_main_v35_apply, val_main_v32_apply, val_main_v31_apply, val_main_c_5_apply]
  exact wrapE x4 w _ he

theorem v20_at (w : Fin 57) (r : Fin 640) (f : Fin 1024) (he : (x4 (iw w)).toNat < 32) (hs : (x5 (iw w)).toNat ≤ 15744) :
    val_main_v20 (F := Ideal) x0 x1 x4 x5 (ix3 w r f) = ∑ k : Fin 2048, x0 (ix2 (rowOf (x5 (iw w)) r.val) k) * x1 (ix3 (expOf (x4 (iw w))) k f) := by
  rw [val_main_v20_apply]
  refine Finset.sum_congr rfl fun k _ => ?_
  have el : lidx_main_v20 (ix3 w r f) k = ix3 w r k := ix3_ext rfl rfl rfl
  have er : ridx_main_v20 (ix3 w r f) k = ix3 w k f := ix3_ext rfl rfl rfl
  rw [el, er, v12_at x0 x5 w r k hs, v19_at x1 x4 w k f he]

theorem v28_at (w : Fin 57) (r : Fin 640) (f : Fin 1024) (he : (x4 (iw w)).toNat < 32) (hs : (x5 (iw w)).toNat ≤ 15744) :
    val_main_v28 (F := Ideal) x0 x2 x4 x5 (ix3 w r f) = ∑ k : Fin 2048, x0 (ix2 (rowOf (x5 (iw w)) r.val) k) * x2 (ix3 (expOf (x4 (iw w))) k f) := by
  rw [val_main_v28_apply]
  refine Finset.sum_congr rfl fun k _ => ?_
  have el : lidx_main_v28 (ix3 w r f) k = ix3 w r k := ix3_ext rfl rfl rfl
  have er : ridx_main_v28 (ix3 w r f) k = ix3 w k f := ix3_ext rfl rfl rfl
  rw [el, er, v12_at x0 x5 w r k hs, v27_at x2 x4 w k f he]

theorem v30_at (w : Fin 57) (r : Fin 640) (f : Fin 1024) (he : (x4 (iw w)).toNat < 32) (hs : (x5 (iw w)).toNat ≤ 15744) :
    val_main_v30 (F := Ideal) x0 x1 x2 x4 x5 (ix3 w r f) = hid x0 x1 x2 (expOf (x4 (iw w))) (rowOf (x5 (iw w)) r.val) f := by
  rw [val_main_v30_apply, val_main_v29_apply, val_main_call0_v5_apply, val_main_call0_v4_apply, val_main_call0_v3_apply, val_main_call0_v2_apply,
    val_main_call0_v1_apply, val_main_call0_v0_apply, val_main_call0_cst_apply, val_main_call0_cst_0_apply,
    v20_at x0 x1 x4 x5 w r f he hs, v28_at x0 x2 x4 x5 w r f he hs]
  have e1 : (FloatOps.ofBits (F := Ideal) .f32 0x3F800000#32) = (1 : EReal) := Ideal.ofBits_one_f32
  rw [e1]
  rfl

theorem v38_at (w : Fin 57) (r : Fin 640) (d : Fin 2048) (he : (x4 (iw w)).toNat < 32) (hs : (x5 (iw w)).toNat ≤ 15744) :
    val_main_v38 (F := Ideal) x0 x1 x2 x3 x4 x5 (ix3 w r d)
      = ∑ f : Fin 1024, hid x0 x1 x2 (expOf (x4 (iw w))) (rowOf (x5 (iw w)) r.val) f * x3 (ix3 (expOf (x4 (iw w))) f d) := by
  rw [val_main_v38_apply]
  refine Finset.sum_congr rfl fun f _ => ?_
  have el : lidx_main_v38 (ix3 w r d) f = ix3 w r f := ix3_ext rfl rfl rfl
  have er : ridx_main_v38 (ix3 w r d) f = ix3 w f d := ix3_ext rfl rfl rfl
  rw [el, er, v30_at x0 x1 x2 x4 x5 w r f he hs, v37_at x3 x4 w f d he]

theorem andi3 (a b c : BitVec 1) : IntOp.andi (IntOp.andi a b) c = 1#1 ↔ a = 1#1 ∧ IntOp.andi b c = 1#1 := by
  revert a b c; decide

theorem v54_at (w : Fin 57) (r : Fin 640) (d : Fin 2048) (he : (x4 (iw w)).toNat < 32) (hs : (x5 (iw w)).toNat ≤ 15744) :
    val_main_v54 (F := Ideal) x0 x1 x2 x3 x4 x5 x6 x7 x8 (ix3 w r d)
      = item x0 x1 x2 x3 (x4 (iw w)) (x5 (iw w)) (x6 (iw w)) (x7 (iw w)) (x8 (iw w)) r.val d := by
  rw [val_main_v54_apply, v38_at x0 x1 x2 x3 x4 x5 w r d he hs, val_main_call1_v2_apply, val_main_call1_v0_apply, val_main_cst_apply,
    val_main_call1_v1_apply, val_main_v53_apply]
  have ei : idx_main_v53 (idx_main_call1_v1 (ix3 w r d)) = ix2 w r := ix2_ext rfl rfl
  have e0 : (FloatOps.ofBits (F := Ideal) .f32 0#32) = (0 : EReal) := Ideal.ofBits_zero_f32
  rw [ei, e0]
  have ek : val_main_v52 (F := Ideal) x6 x7 x8 (ix2 w r)
      = IntOp.andi (IntOp.andi (IntOp.cmpi .eq (x8 (iw w)) 1#32) (IntOp.cmpi .sge (BitVec.ofNat 32 r.val) (x6 (iw w)))) (IntOp.cmpi .slt (BitVec.ofNat 32 r.val) (x7 (iw w))) := by
    rw [val_main_v52_apply, val_main_v47_apply, val_main_v46_apply, val_main_v41_apply, val_main_v39_apply, val_main_v40_apply, val_main_c_7_apply,
      val_main_v45_apply, val_main_v43_apply, val_main_v44_apply, val_main_v42_apply, val_main_v51_apply, val_main_v49_apply, val_main_v50_apply, val_main_v48_apply,
      val_main_v1_apply, val_main_v0_apply]
    have h8 : idx_main_v39 (idx_main_v46 (ix2 w r)) = iw w := iw_ext w _ rfl
    have h6 : idx_main_v42 (idx_main_v44 (ix2 w r)) = iw w := iw_ext w _ rfl
    have h7 : idx_main_v48 (idx_main_v50 (ix2 w r)) = iw w := iw_ext w _ rfl
    rw [h8, h6, h7]
    rfl
  rw [ek]
  have hb : IntOp.cmpi .eq (x8 (iw w)) 1#32 = 1#1 ↔ x8 (iw w) = 1#32 := by
    show BitVec.ofBool (x8 (iw w) == 1#32) = 1#1 ↔ _
    rw [bitOne]; exact beq_iff_eq
  unfold item
  by_cases hk : x8 (iw w) = 1#32 ∧ keep (x6 (iw w)) (x7 (iw w)) r.val = 1#1
  · rw [if_pos hk, (andi3 _ _ _).mpr ⟨hb.mpr hk.1, hk.2⟩]
    rfl
  · rw [if_neg hk, (BitVec.eq_zero_or_eq_one _).resolve_right (fun h => hk ⟨hb.mp ((andi3 _ _ _).mp h).1, ((andi3 _ _ _).mp h).2⟩)]
    rfl

/-- The reference's result: row `r` of item `w` is at row `640 w + r`. -/
theorem v55_at (w : Fin 57) (r : Fin 640) (d : Fin 2048) (he : (x4 (iw w)).toNat < 32) (hs : (x5 (iw w)).toNat ≤ 15744) (s : Fin 36480) (hw : s.val = 640 * w.val + r.val) :
    val_main_v55 (F := Ideal) x0 x1 x2 x3 x4 x5 x6 x7 x8 (ix2 s d)
      = item x0 x1 x2 x3 (x4 (iw w)) (x5 (iw w)) (x6 (iw w)) (x7 (iw w)) (x8 (iw w)) r.val d := by
  rw [val_main_v55_apply]
  have hr := r.isLt; have hd := d.isLt
  have ei : idx_main_v55 (ix2 s d) = ix3 w r d := ix3_ext
    (by show (s.val * 2048 + d.val) / 1310720 = w.val; omega)
    (by show (s.val * 2048 + d.val) / 2048 % 640 = r.val; omega)
    (by show (s.val * 2048 + d.val) % 2048 = d.val; omega)
  rw [ei]
  exact v54_at x0 x1 x2 x3 x4 x5 x6 x7 x8 w r d he hs

end Cert.Exp.Ref

end

end
-- ==== Proof.Rope.Stores.lean ====
module

public import proofs.«01_k».proof.Proof.Gen.Kernel4Ideal.Value
public import Idealize.ShloMosaic.Lib.Pointwise
public import Idealize.ShloMosaic.Lib.VecWindow

@[expose] public section
set_option maxRecDepth 16384
noncomputable section

namespace Cert.Rope
open Idealize.ShloMosaic Idealize.ShloMosaic.TcCoe Idealize.ShloMosaic.Tactic Cert.Kernel4Ideal Cert.Kernel4Ideal.Gen

variable {F : FTy → Type} [FloatOps F]

/-! ## The scratch of a block's four groups of lanes, and the stores made from it -/

/-- A block of columns as its four groups of 128 lanes. -/
def zc (z : FVec F S1024x512 .f32) : Vec F S4x1024x128 .f32 := fun y =>
  z (ix2 (y 1) ⟨128 * (y 0).val + (y 2).val, by have h0 : (y 0).val < 4 := (y 0).isLt; have h2 : (y 2).val < 128 := (y 2).isLt; omega⟩)

/-- A block's rows in their order. -/
def g7 (z : FVec F S1024x512 .f32) : Vec F S1024x512 .bf16 := truncf .bf16 z bitsLt_bf16_f32

/-- A block's rows by their remainder at 4. -/
def g8 (z : FVec F S1024x512 .f32) : Vec F S4x256x512 .bf16 := fun y =>
  g7 z (ix2 ⟨4 * (y 1).val + (y 0).val, by have h0 : (y 0).val < 4 := (y 0).isLt; have h2 : (y 1).val < 256 := (y 1).isLt; omega⟩ (y 2))

/-- A block's rows by their remainder at 16. -/
def g9 (z : FVec F S1024x512 .f32) : Vec F S16x64x512 .bf16 := fun y =>
  g7 z (ix2 ⟨16 * (y 1).val + (y 0).val, by have h0 : (y 0).val < 16 := (y 0).isLt; have h2 : (y 1).val < 64 := (y 1).isLt; omega⟩ (y 2))

/-- A group of lanes stored in the scratch. -/
theorem z_piece (z : FVec F S1024x512 .f32) (a o : Nat) (ho : o = 128 * a) (hs : S1024x512.Slices ![0, o] S1024x128) (hc : S1024x128.ShapeCasts S1x1024x128)
    (hp : ∀ i, (![a, 0, 0] : Fin 3 → Nat) i + (![1, 1024, 128] : Fin 3 → Nat) i ≤ S4x1024x128.size i)
    (x : (Rect.unit (s := S4x1024x128) ![a, 0, 0] ![1, 1024, 128] hp).shape.Idx) :
    (shapeCast S1x1024x128 (extractStridedSlice S1024x128 ![0, o] z hs) hc : Vec F S1x1024x128 .f32) x
      = zc z ((Rect.unit (s := S4x1024x128) ![a, 0, 0] ![1, 1024, 128] hp).emb x) := by
  subst ho
  have e0 : (x 0).val < 1 := (x 0).isLt
  refine (shapeCast_addUnit_apply ![1024, 128] _ hc x).trans ?_
  unfold zc
  refine congrArg z (funext fun i => Fin.ext ?_)
  match i with
  | ⟨0, _⟩ => show 0 + (x 1).val = 0 + 1 * (x 1).val; omega
  | ⟨1, _⟩ => show 128 * a + (x 2).val = 128 * (a + 1 * (x 0).val) + (0 + 1 * (x 2).val); omega

section
variable {sig' : RefSig} {κ : Kind} {sp : Space} (V : View sig' κ sp S4x1024x128 .f32) (L : List (View.Piece (Elt F) S4x1024x128 .f32)) (z : FVec F S1024x512 .f32)

/-- A load of the scratch after the four stores of it. -/
theorem z_load (hL : ∀ p ∈ L, ∀ x : p.1.shape.Idx, p.2 x = zc z (p.1.emb x)) (hc : ∀ y : S4x1024x128.Idx, ∃ p ∈ L, y ∈ p.1.set) (B : LoadRect S4x1024x128) :
    V.readCov L B = fun j => zc z (B.idx j) := by
  rw [View.readCov_eq_canon V L B (fun j => hc _)]
  exact funext fun j => View.canon_apply_of_pieces (zc z) L hL _ (hc _)

variable (hz : ∀ B : LoadRect S4x1024x128, V.readCov L B = fun j => zc z (B.idx j))
include hz

/-- A store of the rows in their order. -/
theorem st7 (o : Nat) (ho : o = 128 * (o / 128)) (hB hS)
    (hp : ∀ i, (![0, o] : Fin 2 → Nat) i + (![1024, 128] : Fin 2 → Nat) i ≤ S1024x512.size i)
    (x : (Rect.unit (s := S1024x512) ![0, o] ![1024, 128] hp).shape.Idx) :
    (truncf .bf16 (shapeCast S1024x128 (V.readCov L (Rect.unit (s := S4x1024x128) ![o / 128, 0, 0] ![1, 1024, 128] hB).toLoadRect : Vec F S1x1024x128 .f32) hS : Vec F S1024x128 .f32)
        bitsLt_bf16_f32 : Vec F S1024x128 .bf16) x
      = g7 z ((Rect.unit (s := S1024x512) ![0, o] ![1024, 128] hp).emb x) := by
  have e := shapeCast_dropUnit_apply ![1024, 128] (V.readCov L (Rect.unit (s := S4x1024x128) ![o / 128, 0, 0] ![1, 1024, 128] hB).toLoadRect : Vec F S1x1024x128 .f32) hS x
  rw [hz] at e
  unfold g7
  rw [hz]
  refine congrArg (FloatOps.truncf (F := F) (φ := .f32) .bf16 bitsLt_bf16_f32) (e.trans ?_)
  unfold zc
  refine congrArg z (funext fun i => Fin.ext ?_)
  match i with
  | ⟨0, _⟩ => show 0 + 1 * (x 0).val = 0 + 1 * (x 0).val; omega
  | ⟨1, _⟩ => show 128 * (o / 128 + 1 * 0) + (0 + 1 * (x 1).val) = o + 1 * (x 1).val; omega

/-- A store of the rows of a remainder at 4. -/
theorem st8 (r o : Nat) (ho : o = 128 * (o / 128)) (hB hS hC)
    (hp : ∀ i, (![r, 0, o] : Fin 3 → Nat) i + (![1, 256, 128] : Fin 3 → Nat) i ≤ S4x256x512.size i)
    (x : (Rect.unit (s := S4x256x512) ![r, 0, o] ![1, 256, 128] hp).shape.Idx) :
    (shapeCast S1x256x128 (truncf .bf16 (shapeCast S256x128 (V.readCov L (⟨![o / 128, r, 0], ![1, 256, 128], ![1, 4, 1], hB⟩ : LoadRect S4x1024x128) : Vec F S1x256x128 .f32) hS : Vec F S256x128 .f32)
        bitsLt_bf16_f32 : Vec F S256x128 .bf16) hC : Vec F S1x256x128 .bf16) x
      = g8 z ((Rect.unit (s := S4x256x512) ![r, 0, o] ![1, 256, 128] hp).emb x) := by
  have e0 : (x 0).val < 1 := (x 0).isLt
  have e := shapeCast_dropUnit_apply ![256, 128] (V.readCov L (⟨![o / 128, r, 0], ![1, 256, 128], ![1, 4, 1], hB⟩ : LoadRect S4x1024x128) : Vec F S1x256x128 .f32) hS (fun a => x a.succ)
  rw [hz] at e
  refine (shapeCast_addUnit_apply ![256, 128] _ hC x).trans ?_
  rw [hz]
  unfold g8 g7
  refine congrArg (FloatOps.truncf (F := F) (φ := .f32) .bf16 bitsLt_bf16_f32) (e.trans ?_)
  unfold zc
  refine congrArg z (funext fun i => Fin.ext ?_)
  match i with
  | ⟨0, _⟩ => show r + 4 * (x 1).val = 4 * (0 + 1 * (x 1).val) + (r + 1 * (x 0).val); omega
  | ⟨1, _⟩ => show 128 * (o / 128 + 1 * 0) + (0 + 1 * (x 2).val) = o + 1 * (x 2).val; omega

/-- A store of the rows of a remainder at 16. -/
theorem st9 (r o : Nat) (ho : o = 128 * (o / 128)) (hB hS hC)
    (hp : ∀ i, (![r, 0, o] : Fin 3 → Nat) i + (![1, 64, 128] : Fin 3 → Nat) i ≤ S16x64x512.size i)
    (x : (Rect.unit (s := S16x64x512) ![r, 0, o] ![1, 64, 128] hp).shape.Idx) :
    (shapeCast S1x64x128 (truncf .bf16 (shapeCast S64x128 (V.readCov L (⟨![o / 128, r, 0], ![1, 64, 128], ![1, 16, 1], hB⟩ : LoadRect S4x1024x128) : Vec F S1x64x128 .f32) hS : Vec F S64x128 .f32)
        bitsLt_bf16_f32 : Vec F S64x128 .bf16) hC : Vec F S1x64x128 .bf16) x
      = g9 z ((Rect.unit (s := S16x64x512) ![r, 0, o] ![1, 64, 128] hp).emb x) := by
  have e0 : (x 0).val < 1 := (x 0).isLt
  have e := shapeCast_dropUnit_apply ![64, 128] (V.readCov L (⟨![o / 128, r, 0], ![1, 64, 128], ![1, 16, 1], hB⟩ : LoadRect S4x1024x128) : Vec F S1x64x128 .f32) hS (fun a => x a.succ)
  rw [hz] at e
  refine (shapeCast_addUnit_apply ![64, 128] _ hC x).trans ?_
  rw [hz]
  unfold g9 g7
  refine congrArg (FloatOps.truncf (F := F) (φ := .f32) .bf16 bitsLt_bf16_f32) (e.trans ?_)
  unfold zc
  refine congrArg z (funext fun i => Fin.ext ?_)
  match i with
  | ⟨0, _⟩ => show r + 16 * (x 1).val = 16 * (0 + 1 * (x 1).val) + (r + 1 * (x 0).val); omega
  | ⟨1, _⟩ => show 128 * (o / 128 + 1 * 0) + (0 + 1 * (x 2).val) = o + 1 * (x 2).val; omega
end

end Cert.Rope
end
-- ==== Proof.Rope.PiecesA.lean ====
module

public import proofs.«01_k».proof.Proof.Rope.Stores

@[expose] public section
set_option maxRecDepth 16384
set_option maxHeartbeats 4000000
noncomputable section

namespace Cert.Rope
open Idealize.ShloMosaic Idealize.ShloMosaic.TcCoe Idealize.ShloMosaic.Tactic Cert.Kernel4Ideal Cert.Kernel4Ideal.Gen

variable {F : FTy → Type} [FloatOps F]
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x512 .bf16) (harg8 : arg8.IsWhole) (arg9 : Memref sig .tc .vmem S1024x512 .bf16) (harg9 : arg9.IsWhole) (arg10 : Memref sig .tc .vmem S4x256x512 .bf16) (harg10 : arg10.IsWhole) (arg11 : Memref sig .tc .vmem S16x64x512 .bf16) (harg11 : arg11.IsWhole) (arg12 : Memref sig .tc .vmem S1024x2048 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S4x1024x128 .f32) (harg16 : arg16.IsWhole)
    (x0 : Vec F S1024x2048 .f32) (x1 : Vec F S1x2048 .f32) (x2 : Vec F S1024x1 .f32) (x3 : Vec F S1x128 .f32) (x4 : Vec F S1x128 .f32) (x5 : Vec F S1x128 .f32) (x6 : Vec F S2048x512 .bf16)

/-! ## What a grid point leaves in its buffers, case A -/

/-- The four stores of the scratch. -/
theorem zpieces_A (hc0 : cond0_0 i) (hc1 : cond0_1 i) (hc2 : ¬cond0_2 i) :
    ∀ p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6).2.2.2.2.2.2.2.1, ∀ x, p.2 x = zc (k0_pay11 (k0_pay4 x0 x1) x6 (k0_pay7 x2 x3) (k0_pay8 x2 x3 x4) (k0_pay9 (k0_pay6 x2 x3) x5)) (p.1.emb x) := by
  unfold kernelRun0_A
  dsimp only
  unfold kernelRun0_A.sl.HS4_4
  repeat' (refine List.forall_mem_cons.2 ⟨?_, ?_⟩)
  all_goals first
    | exact List.forall_mem_nil _
    | (intro x
       dsimp only at x
       refine Eq.trans ?_ (z_piece (k0_pay11 (k0_pay4 x0 x1) x6 (k0_pay7 x2 x3) (k0_pay8 x2 x3 x4) (k0_pay9 (k0_pay6 x2 x3) x5)) _ _ rfl (by decide) shapeCasts_S1024x128_S1x1024x128 (by decide) x)
       refine congrFun ?_ x
       dsimp only
       sl_unfold_words
       rw [View.readCov_full arg12.view, View.readCov_full arg13.view, View.readCov_full arg14.view, View.readCov_full arg15.view]
       rw [View.readAt_full arg2.view, View.readAt_full arg3.view, View.readAt_full arg4.view, View.readAt_full arg5.view, View.readAt_full arg6.view, View.readAt_full arg7.view, View.readAt_full arg8.view, harg2.read_unread, harg3.read_unread, harg4.read_unread, harg5.read_unread, harg6.read_unread, harg7.read_unread, harg8.read_unread]
       rfl)

/-- They cover it. -/
theorem zcover_A (hc0 : cond0_0 i) (hc1 : cond0_1 i) (hc2 : ¬cond0_2 i) : ∀ y : S4x1024x128.Idx, ∃ p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6).2.2.2.2.2.2.2.1, y ∈ p.1.set := by
  unfold kernelRun0_A
  dsimp only
  unfold kernelRun0_A.sl.HS4_4
  exact View.cover_of_tiledL _ S1x1024x128.size (by sl_kernel_rfl)

/-- A load of the scratch. -/
theorem zload_A (hc0 : cond0_0 i) (hc1 : cond0_1 i) (hc2 : ¬cond0_2 i) (B : LoadRect S4x1024x128) :
    arg16.view.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6).2.2.2.2.2.2.2.1 B = fun j => zc (k0_pay11 (k0_pay4 x0 x1) x6 (k0_pay7 x2 x3) (k0_pay8 x2 x3 x4) (k0_pay9 (k0_pay6 x2 x3) x5)) (B.idx j) :=
  z_load arg16.view _ _ (zpieces_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2) (zcover_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2) B

/-- The stores of output 1. -/
theorem stores7_A (hc0 : cond0_0 i) (hc1 : cond0_1 i) (hc2 : ¬cond0_2 i) :
    ∀ p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6).1, ∀ x, p.2 x = g7 (k0_pay11 (k0_pay4 x0 x1) x6 (k0_pay7 x2 x3) (k0_pay8 x2 x3 x4) (k0_pay9 (k0_pay6 x2 x3) x5)) (p.1.emb x) := by
  have hz := zload_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2
  unfold kernelRun0_A at hz ⊢
  dsimp only at hz ⊢
  repeat' (refine List.forall_mem_cons.2 ⟨?_, ?_⟩)
  all_goals first
    | exact List.forall_mem_nil _
    | (intro x
       dsimp only at x
       refine Eq.trans ?_ (st7 arg16.view _ _ hz _ rfl (by decide) shapeCasts_S1x1024x128_S1024x128 (by decide) x)
       refine congrFun ?_ x
       dsimp only
       sl_unfold_words
       rfl)

/-- Output 1's block. -/
theorem out7_A (hc0 : cond0_0 i) (hc1 : cond0_1 i) (hc2 : ¬cond0_2 i) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 = g7 (k0_pay11 (k0_pay4 x0 x1) x6 (k0_pay7 x2 x3) (k0_pay8 x2 x3 x4) (k0_pay9 (k0_pay6 x2 x3) x5)) :=
  funext fun y => View.read_writes_apply_of_pieces VO0_7 _ _ _ (stores7_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2) y (cover0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 y)

/-- The stores of output 2. -/
theorem stores8_A (hc0 : cond0_0 i) (hc1 : cond0_1 i) (hc2 : ¬cond0_2 i) :
    ∀ p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6).2.1, ∀ x, p.2 x = g8 (k0_pay11 (k0_pay4 x0 x1) x6 (k0_pay7 x2 x3) (k0_pay8 x2 x3 x4) (k0_pay9 (k0_pay6 x2 x3) x5)) (p.1.emb x) := by
  have hz := zload_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2
  unfold kernelRun0_A at hz ⊢
  dsimp only at hz ⊢
  repeat' (refine List.forall_mem_cons.2 ⟨?_, ?_⟩)
  all_goals first
    | exact List.forall_mem_nil _
    | (intro x
       dsimp only at x
       refine Eq.trans ?_ (st8 arg16.view _ _ hz _ _ rfl (by decide) shapeCasts_S1x256x128_S256x128 shapeCasts_S256x128_S1x256x128 (by decide) x)
       refine congrFun ?_ x
       dsimp only
       sl_unfold_words
       rfl)

/-- Output 2's block. -/
theorem out8_A (hc0 : cond0_0 i) (hc1 : cond0_1 i) (hc2 : ¬cond0_2 i) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 = g8 (k0_pay11 (k0_pay4 x0 x1) x6 (k0_pay7 x2 x3) (k0_pay8 x2 x3 x4) (k0_pay9 (k0_pay6 x2 x3) x5)) :=
  funext fun y => View.read_writes_apply_of_pieces VO0_8 _ _ _ (stores8_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2) y (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 y)

/-- The stores of output 3. -/
theorem stores9_A (hc0 : cond0_0 i) (hc1 : cond0_1 i) (hc2 : ¬cond0_2 i) :
    ∀ p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6).2.2.1, ∀ x, p.2 x = g9 (k0_pay11 (k0_pay4 x0 x1) x6 (k0_pay7 x2 x3) (k0_pay8 x2 x3 x4) (k0_pay9 (k0_pay6 x2 x3) x5)) (p.1.emb x) := by
  have hz := zload_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2
  unfold kernelRun0_A at hz ⊢
  dsimp only at hz ⊢
  repeat' (refine List.forall_mem_cons.2 ⟨?_, ?_⟩)
  all_goals first
    | exact List.forall_mem_nil _
    | (intro x
       dsimp only at x
       refine Eq.trans ?_ (st9 arg16.view _ _ hz _ _ rfl (by decide) shapeCasts_S1x64x128_S64x128 shapeCasts_S64x128_S1x64x128 (by decide) x)
       refine congrFun ?_ x
       dsimp only
       sl_unfold_words
       rfl)

/-- Output 3's block. -/
theorem out9_A (hc0 : cond0_0 i) (hc1 : cond0_1 i) (hc2 : ¬cond0_2 i) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 = g9 (k0_pay11 (k0_pay4 x0 x1) x6 (k0_pay7 x2 x3) (k0_pay8 x2 x3 x4) (k0_pay9 (k0_pay6 x2 x3) x5)) :=
  funext fun y => View.read_writes_apply_of_pieces VO0_9 _ _ _ (stores9_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2) y (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 y)

/-- What the first point of a row block leaves in scratch 0. -/
theorem scr0_A (hc0 : cond0_0 i) (hc1 : cond0_1 i) (hc2 : ¬cond0_2 i) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 = k0_pay4 x0 x1 := by
  unfold sout0_A_0 kernelRun0_A
  refine (View.read_writes_full _ _ _ _ _).trans ?_
  sl_unfold_words
  rw [View.readAt_full arg2.view, View.readAt_full arg3.view, harg2.read_unread, harg3.read_unread]

/-- What the first point of a row block leaves in scratch 1. -/
theorem scr1_A (hc0 : cond0_0 i) (hc1 : cond0_1 i) (hc2 : ¬cond0_2 i) : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 = k0_pay7 x2 x3 := by
  unfold sout0_A_1 kernelRun0_A
  refine (View.read_writes_full _ _ _ _ _).trans ?_
  sl_unfold_words
  rw [View.readAt_full arg4.view, View.readAt_full arg5.view, harg4.read_unread, harg5.read_unread]

/-- What the first point of a row block leaves in scratch 2. -/
theorem scr2_A (hc0 : cond0_0 i) (hc1 : cond0_1 i) (hc2 : ¬cond0_2 i) : sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 = k0_pay8 x2 x3 x4 := by
  unfold sout0_A_2 kernelRun0_A
  refine (View.read_writes_full _ _ _ _ _).trans ?_
  sl_unfold_words
  rw [View.readAt_full arg4.view, View.readAt_full arg5.view, View.readAt_full arg6.view, harg4.read_unread, harg5.read_unread, harg6.read_unread]

/-- What the first point of a row block leaves in scratch 3. -/
theorem scr3_A (hc0 : cond0_0 i) (hc1 : cond0_1 i) (hc2 : ¬cond0_2 i) : sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 = k0_pay9 (k0_pay6 x2 x3) x5 := by
  unfold sout0_A_3 kernelRun0_A
  refine (View.read_writes_full _ _ _ _ _).trans ?_
  sl_unfold_words
  rw [View.readAt_full arg4.view, View.readAt_full arg5.view, View.readAt_full arg7.view, harg4.read_unread, harg5.read_unread, harg7.read_unread]

end Cert.Rope
end
-- ==== Proof.Rope.PiecesB.lean ====
module

public import proofs.«01_k».proof.Proof.Rope.Stores

@[expose] public section
set_option maxRecDepth 16384
set_option maxHeartbeats 4000000
noncomputable section

namespace Cert.Rope
open Idealize.ShloMosaic Idealize.ShloMosaic.TcCoe Idealize.ShloMosaic.Tactic Cert.Kernel4Ideal Cert.Kernel4Ideal.Gen

variable {F : FTy → Type} [FloatOps F]
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x512 .bf16) (harg8 : arg8.IsWhole) (arg9 : Memref sig .tc .vmem S1024x512 .bf16) (harg9 : arg9.IsWhole) (arg10 : Memref sig .tc .vmem S4x256x512 .bf16) (harg10 : arg10.IsWhole) (arg11 : Memref sig .tc .vmem S16x64x512 .bf16) (harg11 : arg11.IsWhole) (arg12 : Memref sig .tc .vmem S1024x2048 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S4x1024x128 .f32) (harg16 : arg16.IsWhole)
    (x0 : Vec F S1024x2048 .f32) (x1 : Vec F S1x2048 .f32) (x2 : Vec F S1024x1 .f32) (x3 : Vec F S1x128 .f32) (x4 : Vec F S1x128 .f32) (x5 : Vec F S1x128 .f32) (x6 : Vec F S2048x512 .bf16)

/-! ## What a grid point leaves in its buffers, case B -/

/-- The four stores of the scratch. -/
theorem zpieces_B (hc0 : ¬cond0_0 i) (hc1 : cond0_1 i) (hc2 : ¬cond0_2 i) (xs0 : Vec F S1024x2048 .bf16) (xs1 : Vec F S1024x128 .f32) (xs2 : Vec F S1024x128 .f32) (xs3 : Vec F S1024x128 .f32) :
    ∀ p ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3).2.2.2.2.2.2.2.1, ∀ x, p.2 x = zc (k0_pay11 xs0 x6 xs1 xs2 xs3) (p.1.emb x) := by
  unfold kernelRun0_B
  dsimp only
  unfold kernelRun0_B.sl.HS4_4
  repeat' (refine List.forall_mem_cons.2 ⟨?_, ?_⟩)
  all_goals first
    | exact List.forall_mem_nil _
    | (intro x
       dsimp only at x
       refine Eq.trans ?_ (z_piece (k0_pay11 xs0 x6 xs1 xs2 xs3) _ _ rfl (by decide) shapeCasts_S1024x128_S1x1024x128 (by decide) x)
       refine congrFun ?_ x
       dsimp only
       sl_unfold_words
       rw [View.readAt_full arg12.view, View.readAt_full arg13.view, View.readAt_full arg14.view, View.readAt_full arg15.view, View.readAt_full arg8.view, harg12.read_unread, harg13.read_unread, harg14.read_unread, harg15.read_unread, harg8.read_unread]
       rfl)

/-- They cover it. -/
theorem zcover_B (hc0 : ¬cond0_0 i) (hc1 : cond0_1 i) (hc2 : ¬cond0_2 i) (xs0 : Vec F S1024x2048 .bf16) (xs1 : Vec F S1024x128 .f32) (xs2 : Vec F S1024x128 .f32) (xs3 : Vec F S1024x128 .f32) : ∀ y : S4x1024x128.Idx, ∃ p ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3).2.2.2.2.2.2.2.1, y ∈ p.1.set := by
  unfold kernelRun0_B
  dsimp only
  unfold kernelRun0_B.sl.HS4_4
  exact View.cover_of_tiledL _ S1x1024x128.size (by sl_kernel_rfl)

/-- A load of the scratch. -/
theorem zload_B (hc0 : ¬cond0_0 i) (hc1 : cond0_1 i) (hc2 : ¬cond0_2 i) (xs0 : Vec F S1024x2048 .bf16) (xs1 : Vec F S1024x128 .f32) (xs2 : Vec F S1024x128 .f32) (xs3 : Vec F S1024x128 .f32) (B : LoadRect S4x1024x128) :
    arg16.view.readCov (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3).2.2.2.2.2.2.2.1 B = fun j => zc (k0_pay11 xs0 x6 xs1 xs2 xs3) (B.idx j) :=
  z_load arg16.view _ _ (zpieces_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2 xs0 xs1 xs2 xs3) (zcover_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2 xs0 xs1 xs2 xs3) B

/-- The stores of output 1. -/
theorem stores7_B (hc0 : ¬cond0_0 i) (hc1 : cond0_1 i) (hc2 : ¬cond0_2 i) (xs0 : Vec F S1024x2048 .bf16) (xs1 : Vec F S1024x128 .f32) (xs2 : Vec F S1024x128 .f32) (xs3 : Vec F S1024x128 .f32) :
    ∀ p ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3).1, ∀ x, p.2 x = g7 (k0_pay11 xs0 x6 xs1 xs2 xs3) (p.1.emb x) := by
  have hz := zload_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2 xs0 xs1 xs2 xs3
  unfold kernelRun0_B at hz ⊢
  dsimp only at hz ⊢
  repeat' (refine List.forall_mem_cons.2 ⟨?_, ?_⟩)
  all_goals first
    | exact List.forall_mem_nil _
    | (intro x
       dsimp only at x
       refine Eq.trans ?_ (st7 arg16.view _ _ hz _ rfl (by decide) shapeCasts_S1x1024x128_S1024x128 (by decide) x)
       refine congrFun ?_ x
       dsimp only
       sl_unfold_words
       rfl)

/-- Output 1's block. -/
theorem out7_B (hc0 : ¬cond0_0 i) (hc1 : cond0_1 i) (hc2 : ¬cond0_2 i) (xs0 : Vec F S1024x2048 .bf16) (xs1 : Vec F S1024x128 .f32) (xs2 : Vec F S1024x128 .f32) (xs3 : Vec F S1024x128 .f32) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3 = g7 (k0_pay11 xs0 x6 xs1 xs2 xs3) :=
  funext fun y => View.read_writes_apply_of_pieces VO0_7 _ _ _ (stores7_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2 xs0 xs1 xs2 xs3) y (cover0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3 y)

/-- The stores of output 2. -/
theorem stores8_B (hc0 : ¬cond0_0 i) (hc1 : cond0_1 i) (hc2 : ¬cond0_2 i) (xs0 : Vec F S1024x2048 .bf16) (xs1 : Vec F S1024x128 .f32) (xs2 : Vec F S1024x128 .f32) (xs3 : Vec F S1024x128 .f32) :
    ∀ p ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3).2.1, ∀ x, p.2 x = g8 (k0_pay11 xs0 x6 xs1 xs2 xs3) (p.1.emb x) := by
  have hz := zload_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2 xs0 xs1 xs2 xs3
  unfold kernelRun0_B at hz ⊢
  dsimp only at hz ⊢
  repeat' (refine List.forall_mem_cons.2 ⟨?_, ?_⟩)
  all_goals first
    | exact List.forall_mem_nil _
    | (intro x
       dsimp only at x
       refine Eq.trans ?_ (st8 arg16.view _ _ hz _ _ rfl (by decide) shapeCasts_S1x256x128_S256x128 shapeCasts_S256x128_S1x256x128 (by decide) x)
       refine congrFun ?_ x
       dsimp only
       sl_unfold_words
       rfl)

/-- Output 2's block. -/
theorem out8_B (hc0 : ¬cond0_0 i) (hc1 : cond0_1 i) (hc2 : ¬cond0_2 i) (xs0 : Vec F S1024x2048 .bf16) (xs1 : Vec F S1024x128 .f32) (xs2 : Vec F S1024x128 .f32) (xs3 : Vec F S1024x128 .f32) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3 = g8 (k0_pay11 xs0 x6 xs1 xs2 xs3) :=
  funext fun y => View.read_writes_apply_of_pieces VO0_8 _ _ _ (stores8_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2 xs0 xs1 xs2 xs3) y (cover0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3 y)

/-- The stores of output 3. -/
theorem stores9_B (hc0 : ¬cond0_0 i) (hc1 : cond0_1 i) (hc2 : ¬cond0_2 i) (xs0 : Vec F S1024x2048 .bf16) (xs1 : Vec F S1024x128 .f32) (xs2 : Vec F S1024x128 .f32) (xs3 : Vec F S1024x128 .f32) :
    ∀ p ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3).2.2.1, ∀ x, p.2 x = g9 (k0_pay11 xs0 x6 xs1 xs2 xs3) (p.1.emb x) := by
  have hz := zload_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2 xs0 xs1 xs2 xs3
  unfold kernelRun0_B at hz ⊢
  dsimp only at hz ⊢
  repeat' (refine List.forall_mem_cons.2 ⟨?_, ?_⟩)
  all_goals first
    | exact List.forall_mem_nil _
    | (intro x
       dsimp only at x
       refine Eq.trans ?_ (st9 arg16.view _ _ hz _ _ rfl (by decide) shapeCasts_S1x64x128_S64x128 shapeCasts_S64x128_S1x64x128 (by decide) x)
       refine congrFun ?_ x
       dsimp only
       sl_unfold_words
       rfl)

/-- Output 3's block. -/
theorem out9_B (hc0 : ¬cond0_0 i) (hc1 : cond0_1 i) (hc2 : ¬cond0_2 i) (xs0 : Vec F S1024x2048 .bf16) (xs1 : Vec F S1024x128 .f32) (xs2 : Vec F S1024x128 .f32) (xs3 : Vec F S1024x128 .f32) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3 = g9 (k0_pay11 xs0 x6 xs1 xs2 xs3) :=
  funext fun y => View.read_writes_apply_of_pieces VO0_9 _ _ _ (stores9_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2 xs0 xs1 xs2 xs3) y (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3 y)

end Cert.Rope
end
-- ==== Proof.Rope.PiecesC.lean ====
module

public import proofs.«01_k».proof.Proof.Rope.Stores

@[expose] public section
set_option maxRecDepth 16384
set_option maxHeartbeats 4000000
noncomputable section

namespace Cert.Rope
open Idealize.ShloMosaic Idealize.ShloMosaic.TcCoe Idealize.ShloMosaic.Tactic Cert.Kernel4Ideal Cert.Kernel4Ideal.Gen

variable {F : FTy → Type} [FloatOps F]
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x512 .bf16) (harg8 : arg8.IsWhole) (arg9 : Memref sig .tc .vmem S1024x512 .bf16) (harg9 : arg9.IsWhole) (arg10 : Memref sig .tc .vmem S4x256x512 .bf16) (harg10 : arg10.IsWhole) (arg11 : Memref sig .tc .vmem S16x64x512 .bf16) (harg11 : arg11.IsWhole) (arg12 : Memref sig .tc .vmem S1024x2048 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S4x1024x128 .f32) (harg16 : arg16.IsWhole)
    (x0 : Vec F S1024x2048 .f32) (x1 : Vec F S1x2048 .f32) (x2 : Vec F S1024x1 .f32) (x3 : Vec F S1x128 .f32) (x4 : Vec F S1x128 .f32) (x5 : Vec F S1x128 .f32) (x6 : Vec F S2048x512 .bf16)

/-! ## What a grid point leaves in its buffers, case C -/

/-- The four stores of the scratch. -/
theorem zpieces_C (hc0 : ¬cond0_0 i) (hc1 : ¬cond0_1 i) (hc2 : cond0_2 i) (xs0 : Vec F S1024x2048 .bf16) (xs1 : Vec F S1024x128 .f32) (xs2 : Vec F S1024x128 .f32) (xs3 : Vec F S1024x128 .f32) :
    ∀ p ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3).2.2.2.2.2.2.2.1, ∀ x, p.2 x = zc (k0_pay10 xs0 x6) (p.1.emb x) := by
  unfold kernelRun0_C
  dsimp only
  unfold kernelRun0_C.sl.HS4_4
  repeat' (refine List.forall_mem_cons.2 ⟨?_, ?_⟩)
  all_goals first
    | exact List.forall_mem_nil _
    | (intro x
       dsimp only at x
       refine Eq.trans ?_ (z_piece (k0_pay10 xs0 x6) _ _ rfl (by decide) shapeCasts_S1024x128_S1x1024x128 (by decide) x)
       refine congrFun ?_ x
       dsimp only
       sl_unfold_words
       rw [View.readAt_full arg12.view, View.readAt_full arg8.view, harg12.read_unread, harg8.read_unread]
       rfl)

/-- They cover it. -/
theorem zcover_C (hc0 : ¬cond0_0 i) (hc1 : ¬cond0_1 i) (hc2 : cond0_2 i) (xs0 : Vec F S1024x2048 .bf16) (xs1 : Vec F S1024x128 .f32) (xs2 : Vec F S1024x128 .f32) (xs3 : Vec F S1024x128 .f32) : ∀ y : S4x1024x128.Idx, ∃ p ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3).2.2.2.2.2.2.2.1, y ∈ p.1.set := by
  unfold kernelRun0_C
  dsimp only
  unfold kernelRun0_C.sl.HS4_4
  exact View.cover_of_tiledL _ S1x1024x128.size (by sl_kernel_rfl)

/-- A load of the scratch. -/
theorem zload_C (hc0 : ¬cond0_0 i) (hc1 : ¬cond0_1 i) (hc2 : cond0_2 i) (xs0 : Vec F S1024x2048 .bf16) (xs1 : Vec F S1024x128 .f32) (xs2 : Vec F S1024x128 .f32) (xs3 : Vec F S1024x128 .f32) (B : LoadRect S4x1024x128) :
    arg16.view.readCov (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3).2.2.2.2.2.2.2.1 B = fun j => zc (k0_pay10 xs0 x6) (B.idx j) :=
  z_load arg16.view _ _ (zpieces_C c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2 xs0 xs1 xs2 xs3) (zcover_C c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2 xs0 xs1 xs2 xs3) B

/-- The stores of output 1. -/
theorem stores7_C (hc0 : ¬cond0_0 i) (hc1 : ¬cond0_1 i) (hc2 : cond0_2 i) (xs0 : Vec F S1024x2048 .bf16) (xs1 : Vec F S1024x128 .f32) (xs2 : Vec F S1024x128 .f32) (xs3 : Vec F S1024x128 .f32) :
    ∀ p ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3).1, ∀ x, p.2 x = g7 (k0_pay10 xs0 x6) (p.1.emb x) := by
  have hz := zload_C c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2 xs0 xs1 xs2 xs3
  unfold kernelRun0_C at hz ⊢
  dsimp only at hz ⊢
  repeat' (refine List.forall_mem_cons.2 ⟨?_, ?_⟩)
  all_goals first
    | exact List.forall_mem_nil _
    | (intro x
       dsimp only at x
       refine Eq.trans ?_ (st7 arg16.view _ _ hz _ rfl (by decide) shapeCasts_S1x1024x128_S1024x128 (by decide) x)
       refine congrFun ?_ x
       dsimp only
       sl_unfold_words
       rfl)

/-- Output 1's block. -/
theorem out7_C (hc0 : ¬cond0_0 i) (hc1 : ¬cond0_1 i) (hc2 : cond0_2 i) (xs0 : Vec F S1024x2048 .bf16) (xs1 : Vec F S1024x128 .f32) (xs2 : Vec F S1024x128 .f32) (xs3 : Vec F S1024x128 .f32) :
    out0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3 = g7 (k0_pay10 xs0 x6) :=
  funext fun y => View.read_writes_apply_of_pieces VO0_7 _ _ _ (stores7_C c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2 xs0 xs1 xs2 xs3) y (cover0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3 y)

/-- The stores of output 2. -/
theorem stores8_C (hc0 : ¬cond0_0 i) (hc1 : ¬cond0_1 i) (hc2 : cond0_2 i) (xs0 : Vec F S1024x2048 .bf16) (xs1 : Vec F S1024x128 .f32) (xs2 : Vec F S1024x128 .f32) (xs3 : Vec F S1024x128 .f32) :
    ∀ p ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3).2.1, ∀ x, p.2 x = g8 (k0_pay10 xs0 x6) (p.1.emb x) := by
  have hz := zload_C c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2 xs0 xs1 xs2 xs3
  unfold kernelRun0_C at hz ⊢
  dsimp only at hz ⊢
  repeat' (refine List.forall_mem_cons.2 ⟨?_, ?_⟩)
  all_goals first
    | exact List.forall_mem_nil _
    | (intro x
       dsimp only at x
       refine Eq.trans ?_ (st8 arg16.view _ _ hz _ _ rfl (by decide) shapeCasts_S1x256x128_S256x128 shapeCasts_S256x128_S1x256x128 (by decide) x)
       refine congrFun ?_ x
       dsimp only
       sl_unfold_words
       rfl)

/-- Output 2's block. -/
theorem out8_C (hc0 : ¬cond0_0 i) (hc1 : ¬cond0_1 i) (hc2 : cond0_2 i) (xs0 : Vec F S1024x2048 .bf16) (xs1 : Vec F S1024x128 .f32) (xs2 : Vec F S1024x128 .f32) (xs3 : Vec F S1024x128 .f32) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3 = g8 (k0_pay10 xs0 x6) :=
  funext fun y => View.read_writes_apply_of_pieces VO0_8 _ _ _ (stores8_C c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2 xs0 xs1 xs2 xs3) y (cover0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3 y)

/-- The stores of output 3. -/
theorem stores9_C (hc0 : ¬cond0_0 i) (hc1 : ¬cond0_1 i) (hc2 : cond0_2 i) (xs0 : Vec F S1024x2048 .bf16) (xs1 : Vec F S1024x128 .f32) (xs2 : Vec F S1024x128 .f32) (xs3 : Vec F S1024x128 .f32) :
    ∀ p ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3).2.2.1, ∀ x, p.2 x = g9 (k0_pay10 xs0 x6) (p.1.emb x) := by
  have hz := zload_C c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2 xs0 xs1 xs2 xs3
  unfold kernelRun0_C at hz ⊢
  dsimp only at hz ⊢
  repeat' (refine List.forall_mem_cons.2 ⟨?_, ?_⟩)
  all_goals first
    | exact List.forall_mem_nil _
    | (intro x
       dsimp only at x
       refine Eq.trans ?_ (st9 arg16.view _ _ hz _ _ rfl (by decide) shapeCasts_S1x64x128_S64x128 shapeCasts_S64x128_S1x64x128 (by decide) x)
       refine congrFun ?_ x
       dsimp only
       sl_unfold_words
       rfl)

/-- Output 3's block. -/
theorem out9_C (hc0 : ¬cond0_0 i) (hc1 : ¬cond0_1 i) (hc2 : cond0_2 i) (xs0 : Vec F S1024x2048 .bf16) (xs1 : Vec F S1024x128 .f32) (xs2 : Vec F S1024x128 .f32) (xs3 : Vec F S1024x128 .f32) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3 = g9 (k0_pay10 xs0 x6) :=
  funext fun y => View.read_writes_apply_of_pieces VO0_9 _ _ _ (stores9_C c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1 hc2 xs0 xs1 xs2 xs3) y (cover0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 xs0 xs1 xs2 xs3 y)

end Cert.Rope
end
-- ==== Proof.Rope.Host.lean ====
module

public import proofs.«01_k».proof.Proof.Rope.Stores
public import Idealize.ShloMosaic.Lib.IdealHost

@[expose] public section
set_option maxRecDepth 16384
noncomputable section

namespace Cert.Rope
open Idealize.ShloMosaic Idealize.ShloMosaic.TcCoe Idealize.ShloMosaic.Tactic Cert.Kernel4Ideal Cert.Kernel4Ideal.Gen

/-! ## What the program computes before the call -/

variable (m : (ℓ : Loc nD τ sig) → Buf (Elt Ideal) ℓ) (c : Dev nD)

/-- The four arguments. -/
abbrev argX : Vec Ideal S8192x2048 .f32 := m ((c : Thread nD τ).loc main_arg0)
abbrev argG : Vec Ideal S1x2048 .f32 := m ((c : Thread nD τ).loc main_arg1)
abbrev argP : Vec Ideal S1x8192 .i32 := m ((c : Thread nD τ).loc main_arg2)
abbrev argW : Vec Ideal S2048x6560 .f32 := m ((c : Thread nD τ).loc main_arg3)

/-- The eight angular frequencies. -/
def fr8 : FVec Ideal S8 .f32 := Host.powf (broadcastInDim S8 ![] bcast_S_S8 (constant (F := Ideal) S_ .f32 0x48F42400#32))
  (Host.divf (mulf (Host.negf (sitofp .f32 (iotaInDim S8 32 0))) (broadcastInDim S8 ![] bcast_S_S8 (constant (F := Ideal) S_ .f32 0x40000000#32)))
    (broadcastInDim S8 ![] bcast_S_S8 (constant (F := Ideal) S_ .f32 0x41800000#32)))

theorem V_x : V m c main_arg0 = argX m c := by
  unfold_abbrev_sides
  after_results
theorem V_g : V m c main_arg1 = argG m c := by
  unfold_abbrev_sides
  after_results
theorem V_p : V m c main_v1 = (sitofp .f32 (shapeCast S8192x1 (argP m c) shapeCasts_S1x8192_S8192x1) : FVec Ideal S8192x1 .f32) := by
  unfold_abbrev_sides
  after_results
  rfl
theorem V_w : V m c main_v3 = (truncf .bf16 (extractStridedSlice S2048x3072 ![0, 3488] (argW m c) slices_S2048x6560_S2048x3072_0_3488) bitsLt_bf16_f32 : FVec Ideal S2048x3072 .bf16) := by
  unfold_abbrev_sides
  after_results
theorem V_f : V m c main_v17 = broadcastInDim S1x128 ![1] bcast_S128_S1x128_1 (shapeCast S128 (broadcastInDim S2x64 ![0, 1] bcast_S1x64_S2x64_0_1
    (shapeCast S1x64 (concatenate S64 0 [⟨S8, fr8⟩, ⟨S8, fr8⟩, ⟨S48, broadcastInDim S48 ![] bcast_S_S48 (constant (F := Ideal) S_ .f32 0x00000000#32)⟩] concatenates_S8_S8_S48_S64_d0 : FVec Ideal S64 .f32)
      shapeCasts_S64_S1x64)) shapeCasts_S2x64_S128) := by
  unfold_abbrev_sides
  after_results
  rfl
theorem V_s1 : V m c main_v18 = broadcastInDim S1x128 ![1] bcast_S128_S1x128_1 (fun i => FloatOps.ofBits (F := Ideal) .f32 (lit0 (S128.rowMajor i))) := by
  unfold_abbrev_sides
  after_results
  rfl
theorem V_s2 : V m c main_v19 = broadcastInDim S1x128 ![1] bcast_S128_S1x128_1 (fun i => FloatOps.ofBits (F := Ideal) .f32 (lit1 (S128.rowMajor i))) := by
  unfold_abbrev_sides
  after_results
  rfl

/-- The frequency of every lane. -/
theorem freq_at (l : Fin 128) : (V m c main_v17 (ix2 0 l) : EReal) = if h : l.val % 64 < 16 then fr8 (ix1 ⟨l.val % 64 % 8, by omega⟩) else 0 := by
  rw [V_f]
  generalize hf : fr8 = f
  pointwise []
  by_cases h1 : l.val % 64 < 8
  · rw [dif_pos h1, dif_pos (by omega)]
    exact congrArg (fun k => f (ix1 k)) (Fin.ext (by show l.val % 64 = l.val % 64 % 8; omega))
  · rw [dif_neg h1]
    by_cases h2 : l.val % 64 < 16
    · rw [dif_pos (show l.val % 64 - 8 < 8 by omega), dif_pos h2]
      exact congrArg (fun k => f (ix1 k)) (Fin.ext (by show l.val % 64 - 8 = l.val % 64 % 8; omega))
    · rw [dif_neg (show ¬l.val % 64 - 8 < 8 by omega), dif_neg h2]

/-- A row's position. -/
theorem pos_at (i : Fin 8192) : (V m c main_v1 (ix2 i 0) : EReal) = FloatOps.sitofp (F := Ideal) .f32 (argP m c (ix2 0 i)) := by
  rw [V_p]
  generalize argP m c = p
  pointwise []

theorem lit0_at : ∀ l : Fin 128, lit0 (S128.rowMajor (ix1 l)) = if l.val % 64 < 8 then 0xBF800000#32 else 0#32 := by decide +kernel
theorem lit1_at : ∀ l : Fin 128, lit1 (S128.rowMajor (ix1 l)) = if 8 ≤ l.val % 64 ∧ l.val % 64 < 16 then 0x3F800000#32 else 0#32 := by decide +kernel

theorem neg_one : Ideal.ofBits .f32 0xBF800000#32 = -1 := by
  rw [show (-1 : EReal) = ((-(1 : ℝ) : ℝ) : EReal) from by rw [EReal.coe_neg, EReal.coe_one]]
  simp [Ideal.ofBits, Ideal.ieee, -EReal.coe_mul, -EReal.coe_neg]; norm_num

/-- The signs of the two halves of a head's rotated lanes. -/
def sgA (l : Nat) : EReal := if l % 64 < 8 then -1 else 0
def sgB (l : Nat) : EReal := if 8 ≤ l % 64 ∧ l % 64 < 16 then 1 else 0

/-- The lower half's signs. -/
theorem s1_at (l : Fin 128) : V m c main_v18 (ix2 0 l) = sgA l.val := by
  rw [V_s1]
  pointwise []
  rw [lit0_at]
  unfold sgA
  split
  · exact neg_one
  · exact Ideal.ofBits_zero_f32

/-- The upper half's signs. -/
theorem s2_at (l : Fin 128) : V m c main_v19 (ix2 0 l) = sgB l.val := by
  rw [V_s2]
  pointwise []
  rw [lit1_at]
  unfold sgB
  split
  · exact Ideal.ofBits_one_f32
  · exact Ideal.ofBits_zero_f32

/-- The weight's columns of the call. -/
theorem w_at (k : Fin 2048) (j : Fin 3072) : V m c main_v3 (ix2 k j) = argW m c (ix2 k ⟨3488 + j.val, by omega⟩) := by
  rw [V_w]
  generalize argW m c = p
  pointwise []

end Cert.Rope
end
-- ==== Proof.Rope.Spec.lean ====
module

public import proofs.«01_k».proof.Proof.Rope.Host
public import proofs.«01_k».proof.Proof.Proj.Blocks

@[expose] public section
set_option maxRecDepth 16384
noncomputable section

namespace Cert.Rope
open Idealize.ShloMosaic Idealize.ShloMosaic.TcCoe Idealize.ShloMosaic.Tactic Cert.Kernel4Ideal Cert.Kernel4Ideal.Gen

/-! ## The rotated projections, element by element -/

section
variable (X : Vec Ideal S8192x2048 .f32) (G : Vec Ideal S1x2048 .f32) (P : Vec Ideal S1x8192 .i32) (W : Vec Ideal S2048x6560 .f32)

/-- The product of the normalized rows with the weight's columns from 3488 on. -/
def prod (i : Fin 8192) (j : Fin 3072) : EReal :=
  ∑ k : Fin 2048, Cert.Proj.normed (fun i k => X (ix2 i k)) (fun k => G (ix2 0 k)) i k * W (ix2 k ⟨3488 + j.val, by omega⟩)

/-- A row's angle for one of the eight frequencies. -/
def ang (i : Fin 8192) (d : Fin 8) : EReal := FloatOps.sitofp (F := Ideal) .f32 (P (ix2 0 i)) * fr8 (ix1 d)

/-- An element of the result. -/
def tok (i : Fin 8192) (j : Fin 3072) : EReal :=
  if h : j.val < 2048 then
    if h1 : j.val % 64 < 8 then
      prod X G W i j * Ideal.cos (ang P i ⟨j.val % 64, h1⟩) - prod X G W i ⟨j.val + 8, by omega⟩ * Ideal.sin (ang P i ⟨j.val % 64, h1⟩)
    else if h2 : j.val % 64 < 16 then
      prod X G W i j * Ideal.cos (ang P i ⟨j.val % 64 - 8, by omega⟩) + prod X G W i ⟨j.val - 8, by omega⟩ * Ideal.sin (ang P i ⟨j.val % 64 - 8, by omega⟩)
    else prod X G W i j
  else prod X G W i j

/-- The three results: the rows in their order, and by their remainder at 4 and at 16. -/
def arr7 : Vec Ideal S8192x3072 .bf16 := fun y => tok X G P W (y 0) (y 1)
def arr8 : Vec Ideal S4x2048x3072 .bf16 := fun y =>
  tok X G P W ⟨4 * (y 1).val + (y 0).val, by have h0 : (y 0).val < 4 := (y 0).isLt; have h1 : (y 1).val < 2048 := (y 1).isLt; omega⟩ (y 2)
def arr9 : Vec Ideal S16x512x3072 .bf16 := fun y =>
  tok X G P W ⟨16 * (y 1).val + (y 0).val, by have h0 : (y 0).val < 16 := (y 0).isLt; have h1 : (y 1).val < 512 := (y 1).isLt; omega⟩ (y 2)
end

theorem cos_zero : Ideal.cos (0 : EReal) = 1 := by
  show ((Real.cos 0 : ℝ) : EReal) = 1
  rw [Real.cos_zero]; rfl

/-- The rotation as the kernel writes it, over its three sums: lanes of the lower half, of the upper half, and the rest. -/
theorem rot_lo (z z' z'' c s : EReal) : z * c + z' * (s * -1) + z'' * (s * 0) = z * c - z' * s := by
  rw [mul_zero, mul_zero, add_zero, mul_neg, mul_one, mul_neg, sub_eq_add_neg]
theorem rot_hi (z z' z'' c s : EReal) : z * c + z' * (s * 0) + z'' * (s * 1) = z * c + z'' * s := by
  rw [mul_zero, mul_zero, add_zero, mul_one]
theorem rot_no (z z' z'' p s : EReal) : z * Ideal.cos (p * 0) + z' * (s * 0) + z'' * (s * 0) = z := by
  rw [mul_zero, mul_zero, mul_zero, mul_zero, add_zero, add_zero, cos_zero, mul_one]

end Cert.Rope
end
-- ==== Proof.Rope.Points.lean ====
module

public import proofs.«01_k».proof.Proof.Rope.PiecesA
public import proofs.«01_k».proof.Proof.Rope.PiecesB
public import proofs.«01_k».proof.Proof.Rope.PiecesC
public import proofs.«01_k».proof.Proof.Rope.Spec

@[expose] public section
set_option maxRecDepth 16384
noncomputable section

namespace Cert.Rope
open Idealize.ShloMosaic Idealize.ShloMosaic.TcCoe Idealize.ShloMosaic.Tactic Cert.Kernel4Ideal Cert.Kernel4Ideal.Gen
open Cert.Proj (ix2_eta)

/-! ## The buffers at every grid point -/

variable (m : (ℓ : Loc nD τ sig) → Buf (Elt Ideal) ℓ) (c : Dev nD)

theorem index0 : ∀ t : Fin grid0.N, win0_0.index t 0 = t.val / 6 ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val / 6 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = t.val % 6 := by decide +kernel
theorem index7 : ∀ t : Fin grid0.N, win0_7.index t 0 = t.val / 6 ∧ win0_7.index t 1 = t.val % 6 := by decide +kernel
theorem index8 : ∀ t : Fin grid0.N, win0_8.index t 0 = 0 ∧ win0_8.index t 1 = t.val / 6 ∧ win0_8.index t 2 = t.val % 6 := by decide +kernel
theorem index9 : ∀ t : Fin grid0.N, win0_9.index t 0 = 0 ∧ win0_9.index t 1 = t.val / 6 ∧ win0_9.index t 2 = t.val % 6 := by decide +kernel

/-- The array's row of row `i` of a block of point `t`. -/
def row (t : Fin grid0.N) (i : Fin 1024) : Fin 8192 := ⟨1024 * (t.val / 6) + i.val, by have : t.val < 48 := lt_of_lt_of_eq t.isLt N_0; omega⟩

/-- The array's column of column `j` of a block of point `t`. -/
def col (t : Fin grid0.N) (j : Fin 512) : Fin 3072 := ⟨512 * (t.val % 6) + j.val, by omega⟩

theorem blk0 (t : Fin grid0.N) (i : Fin 1024) (k : Fin 2048) : iblk m c 0 t (ix2 i k) = argX m c (ix2 (row t i) k) := by
  rw [← V_x]
  refine congrArg (V m c main_arg0) (funext fun a => Fin.ext ?_)
  refine (Pipeline.Window.rect_emb_val win0_0 t (ix2 i k) a).trans ?_
  obtain ⟨h0, h1⟩ := index0 t
  match a with
  | ⟨0, _⟩ => exact (congrArg (· * 1024 + i.val) h0).trans (by show _ = 1024 * (t.val / 6) + i.val; omega)
  | ⟨1, _⟩ => exact (congrArg (· * 2048 + k.val) h1).trans (by show _ = k.val; omega)

theorem blk1 (t : Fin grid0.N) (k : Fin 2048) : iblk m c 1 t (ix2 0 k) = argG m c (ix2 0 k) := by
  rw [← V_g]
  refine congrArg (V m c main_arg1) (funext fun a => Fin.ext ?_)
  refine (Pipeline.Window.rect_emb_val win0_1 t (ix2 0 k) a).trans ?_
  obtain ⟨h0, h1⟩ := index1 t
  match a with
  | ⟨0, _⟩ => exact (congrArg (· * 1 + 0) h0).trans rfl
  | ⟨1, _⟩ => exact (congrArg (· * 2048 + k.val) h1).trans (by show _ = k.val; omega)

theorem blk2 (t : Fin grid0.N) (i : Fin 1024) : iblk m c 2 t (ix2 i 0) = FloatOps.sitofp (F := Ideal) .f32 (argP m c (ix2 0 (row t i))) := by
  refine Eq.trans ?_ (pos_at m c (row t i))
  refine congrArg (V m c main_v1) (funext fun a => Fin.ext ?_)
  refine (Pipeline.Window.rect_emb_val win0_2 t (ix2 i 0) a).trans ?_
  obtain ⟨h0, h1⟩ := index2 t
  match a with
  | ⟨0, _⟩ => exact (congrArg (· * 1024 + i.val) h0).trans (by show _ = 1024 * (t.val / 6) + i.val; omega)
  | ⟨1, _⟩ => exact (congrArg (· * 1 + 0) h1).trans rfl

theorem blk3 (t : Fin grid0.N) (l : Fin 128) : iblk m c 3 t (ix2 0 l) = V m c main_v17 (ix2 0 l) := by
  refine congrArg (V m c main_v17) (funext fun a => Fin.ext ?_)
  refine (Pipeline.Window.rect_emb_val win0_3 t (ix2 0 l) a).trans ?_
  obtain ⟨h0, h1⟩ := index3 t
  match a with
  | ⟨0, _⟩ => exact (congrArg (· * 1 + 0) h0).trans rfl
  | ⟨1, _⟩ => exact (congrArg (· * 128 + l.val) h1).trans (by show _ = l.val; omega)

theorem blk4 (t : Fin grid0.N) (l : Fin 128) : iblk m c 4 t (ix2 0 l) = sgA l.val := by
  rw [← s1_at m c]
  refine congrArg (V m c main_v18) (funext fun a => Fin.ext ?_)
  refine (Pipeline.Window.rect_emb_val win0_4 t (ix2 0 l) a).trans ?_
  obtain ⟨h0, h1⟩ := index4 t
  match a with
  | ⟨0, _⟩ => exact (congrArg (· * 1 + 0) h0).trans rfl
  | ⟨1, _⟩ => exact (congrArg (· * 128 + l.val) h1).trans (by show _ = l.val; omega)

theorem blk5 (t : Fin grid0.N) (l : Fin 128) : iblk m c 5 t (ix2 0 l) = sgB l.val := by
  rw [← s2_at m c]
  refine congrArg (V m c main_v19) (funext fun a => Fin.ext ?_)
  refine (Pipeline.Window.rect_emb_val win0_5 t (ix2 0 l) a).trans ?_
  obtain ⟨h0, h1⟩ := index5 t
  match a with
  | ⟨0, _⟩ => exact (congrArg (· * 1 + 0) h0).trans rfl
  | ⟨1, _⟩ => exact (congrArg (· * 128 + l.val) h1).trans (by show _ = l.val; omega)

theorem blk6 (t : Fin grid0.N) (k : Fin 2048) (j : Fin 512) : iblk m c 6 t (ix2 k j) = argW m c (ix2 k ⟨3488 + (col t j).val, by have := (col t j).isLt; omega⟩) := by
  refine Eq.trans ?_ (w_at m c k (col t j))
  refine congrArg (V m c main_v3) (funext fun a => Fin.ext ?_)
  refine (Pipeline.Window.rect_emb_val win0_6 t (ix2 k j) a).trans ?_
  obtain ⟨h0, h1⟩ := index6 t
  match a with
  | ⟨0, _⟩ => exact (congrArg (· * 2048 + k.val) h0).trans (by show _ = k.val; omega)
  | ⟨1, _⟩ => exact (congrArg (· * 512 + j.val) h1).trans (by show _ = 512 * (t.val % 6) + j.val; omega)

/-- The normalized rows, the cosines and the two signed sines of a point's row block. -/
def rowsAt (t : Fin cfg0.N) : Vec Ideal S1024x2048 .bf16 := k0_pay4 (iblk m c 0 t) (iblk m c 1 t)
def cosAt (t : Fin cfg0.N) : Vec Ideal S1024x128 .f32 := k0_pay7 (iblk m c 2 t) (iblk m c 3 t)
def sinA (t : Fin cfg0.N) : Vec Ideal S1024x128 .f32 := k0_pay8 (iblk m c 2 t) (iblk m c 3 t) (iblk m c 4 t)
def sinB (t : Fin cfg0.N) : Vec Ideal S1024x128 .f32 := k0_pay9 (k0_pay6 (iblk m c 2 t) (iblk m c 3 t)) (iblk m c 5 t)

/-- They depend on the row block alone. -/
theorem same (t' t : Fin cfg0.N) (h : t'.val / 6 = t.val / 6) :
    (rowsAt m c t', cosAt m c t', sinA m c t', sinB m c t') = (rowsAt m c t, cosAt m c t, sinA m c t, sinB m c t) := by
  have er : ∀ i, row t' i = row t i := fun i => Fin.ext (by show 1024 * (t'.val / 6) + i.val = 1024 * (t.val / 6) + i.val; omega)
  have e0 : iblk m c 0 t' = iblk m c 0 t := funext fun y => by
    obtain ⟨i, k, rfl⟩ : ∃ (i : Fin 1024) (k : Fin 2048), y = ix2 i k := ⟨y 0, y 1, funext fun a => match a with | ⟨0, _⟩ => rfl | ⟨1, _⟩ => rfl⟩
    rw [blk0, blk0, er]
  have e1 : iblk m c 1 t' = iblk m c 1 t := funext fun y => by
    obtain ⟨k, rfl⟩ : ∃ (k : Fin 2048), y = ix2 0 k := ⟨y 1, funext fun a => match a with | ⟨0, _⟩ => Fin.ext (by have : (y 0).val < 1 := (y 0).isLt; show (y 0).val = 0; omega) | ⟨1, _⟩ => rfl⟩
    rw [blk1, blk1]
  have e2 : iblk m c 2 t' = iblk m c 2 t := funext fun y => by
    obtain ⟨i, rfl⟩ : ∃ (i : Fin 1024), y = ix2 i 0 := ⟨y 0, funext fun a => match a with | ⟨0, _⟩ => rfl | ⟨1, _⟩ => Fin.ext (by have : (y 1).val < 1 := (y 1).isLt; show (y 1).val = 0; omega)⟩
    rw [blk2, blk2, er]
  have e3 : iblk m c 3 t' = iblk m c 3 t := funext fun y => by
    obtain ⟨k, rfl⟩ : ∃ (k : Fin 128), y = ix2 0 k := ⟨y 1, funext fun a => match a with | ⟨0, _⟩ => Fin.ext (by have : (y 0).val < 1 := (y 0).isLt; show (y 0).val = 0; omega) | ⟨1, _⟩ => rfl⟩
    rw [blk3, blk3]
  have e4 : iblk m c 4 t' = iblk m c 4 t := funext fun y => by
    obtain ⟨k, rfl⟩ : ∃ (k : Fin 128), y = ix2 0 k := ⟨y 1, funext fun a => match a with | ⟨0, _⟩ => Fin.ext (by have : (y 0).val < 1 := (y 0).isLt; show (y 0).val = 0; omega) | ⟨1, _⟩ => rfl⟩
    rw [blk4, blk4]
  have e5 : iblk m c 5 t' = iblk m c 5 t := funext fun y => by
    obtain ⟨k, rfl⟩ : ∃ (k : Fin 128), y = ix2 0 k := ⟨y 1, funext fun a => match a with | ⟨0, _⟩ => Fin.ext (by have : (y 0).val < 1 := (y 0).isLt; show (y 0).val = 0; omega) | ⟨1, _⟩ => rfl⟩
    rw [blk5, blk5]
  unfold rowsAt cosAt sinA sinB
  rw [e0, e1, e2, e3, e4, e5]

/-- The scratches after every point. -/
theorem scr_at (n : Nat) (t : Fin cfg0.N) (hn : t.val % 6 = n) : (outsAt0 m c t.val t.isLt).2.2.2 = (rowsAt m c t, cosAt m c t, sinA m c t, sinB m c t) := by
  induction n generalizing t with
  | zero =>
    rw [outsAt0_A m c t hn (by omega) (by omega)]
    dsimp only
    rw [scr0_A, scr1_A, scr2_A, scr3_A]
    rfl
  | succ n ih =>
    have h0 : ¬t.val % 6 = 0 := by omega
    have lt : t.val - 1 < cfg0.N := Nat.lt_of_le_of_lt (Nat.sub_le _ _) t.isLt
    have e := (ih ⟨t.val - 1, lt⟩ (by show (t.val - 1) % 6 = n; omega)).trans (same m c ⟨t.val - 1, lt⟩ t (by show (t.val - 1) / 6 = t.val / 6; omega))
    by_cases h1 : t.val % 6 ≤ 3
    · rw [outsAt0_B m c t h0 h1 (by omega)]
      exact e
    · rw [outsAt0_C m c t h0 h1 (by omega)]
      exact e

/-- A point's block of columns. -/
def zt (t : Fin cfg0.N) : FVec Ideal S1024x512 .f32 :=
  if t.val % 6 ≤ 3 then k0_pay11 (rowsAt m c t) (iblk m c 6 t) (cosAt m c t) (sinA m c t) (sinB m c t) else k0_pay10 (rowsAt m c t) (iblk m c 6 t)

/-- The three output blocks after every point. -/
theorem outs_at (t : Fin cfg0.N) : (outsAt0 m c t.val t.isLt).1 = g7 (zt m c t) ∧ (outsAt0 m c t.val t.isLt).2.1 = g8 (zt m c t) ∧ (outsAt0 m c t.val t.isLt).2.2.1 = g9 (zt m c t) := by
  unfold zt
  by_cases h0 : t.val % 6 = 0
  · rw [outsAt0_A m c t h0 (by omega) (by omega), if_pos (by omega)]
    dsimp only
    rw [out7_A, out8_A, out9_A]
    exact ⟨rfl, rfl, rfl⟩
  · have lt : t.val - 1 < cfg0.N := Nat.lt_of_le_of_lt (Nat.sub_le _ _) t.isLt
    have e := (scr_at m c _ ⟨t.val - 1, lt⟩ rfl).trans (same m c ⟨t.val - 1, lt⟩ t (by show (t.val - 1) / 6 = t.val / 6; omega))
    have a0 : (outsAt0 m c (t.val - 1) lt).2.2.2.1 = rowsAt m c t := congrArg (fun q => q.1) e
    have a1 : (outsAt0 m c (t.val - 1) lt).2.2.2.2.1 = cosAt m c t := congrArg (fun q => q.2.1) e
    have a2 : (outsAt0 m c (t.val - 1) lt).2.2.2.2.2.1 = sinA m c t := congrArg (fun q => q.2.2.1) e
    have a3 : (outsAt0 m c (t.val - 1) lt).2.2.2.2.2.2 = sinB m c t := congrArg (fun q => q.2.2.2) e
    by_cases h1 : t.val % 6 ≤ 3
    · rw [outsAt0_B m c t h0 h1 (by omega), if_pos h1]
      dsimp only
      rw [out7_B, out8_B, out9_B, a0, a1, a2, a3]
      exact ⟨rfl, rfl, rfl⟩
    · rw [outsAt0_C m c t h0 h1 (by omega), if_neg h1]
      dsimp only
      rw [out7_C, out8_C, out9_C, a0]
      exact ⟨rfl, rfl, rfl⟩

end Cert.Rope
end
-- ==== Proof.Rope.Arrays.lean ====
module

public import proofs.«01_k».proof.Proof.Rope.Points

@[expose] public section
set_option maxRecDepth 16384
noncomputable section

namespace Cert.Rope
open Idealize.ShloMosaic Idealize.ShloMosaic.TcCoe Idealize.ShloMosaic.Tactic Cert.Kernel4Ideal Cert.Kernel4Ideal.Gen
open Cert.Proj (ix2_eta)

/-! ## The arrays after the run -/

variable (m : (ℓ : Loc nD τ sig) → Buf (Elt Ideal) ℓ) (c : Dev nD)

/-- The product's block at every point. -/
theorem prod_at (t : Fin cfg0.N) (i : Fin 1024) (j : Fin 512) :
    k0_pay10 (rowsAt m c t) (iblk m c 6 t) (ix2 i j) = prod (argX m c) (argG m c) (argW m c) (row t i) (col t j) := by
  unfold rowsAt
  generalize h0 : iblk m c 0 t = x0
  generalize h1 : iblk m c 1 t = x1
  generalize h2 : iblk m c 6 t = x2
  pointwise [k0_pay10, k0_pay4]
  subst h0; subst h1; subst h2
  simp only [blk0, blk1, blk6]
  rfl

theorem cos_at (t : Fin cfg0.N) (i : Fin 1024) (l : Fin 128) :
    cosAt m c t (ix2 i l) = Ideal.cos (FloatOps.sitofp (F := Ideal) .f32 (argP m c (ix2 0 (row t i))) * V m c main_v17 (ix2 0 l)) := by
  unfold cosAt
  rw [← blk2, ← blk3 m c t]
  generalize h0 : iblk m c 2 t = x0
  generalize h1 : iblk m c 3 t = x1
  pointwise [k0_pay7, k0_pay5]

theorem sinA_at (t : Fin cfg0.N) (i : Fin 1024) (l : Fin 128) :
    sinA m c t (ix2 i l) = Ideal.sin (FloatOps.sitofp (F := Ideal) .f32 (argP m c (ix2 0 (row t i))) * V m c main_v17 (ix2 0 l)) * sgA l.val := by
  unfold sinA
  rw [← blk2, ← blk3 m c t, ← blk4 m c t]
  generalize h0 : iblk m c 2 t = x0
  generalize h1 : iblk m c 3 t = x1
  generalize h2 : iblk m c 4 t = x2
  pointwise [k0_pay8, k0_pay6, k0_pay5]

theorem sinB_at (t : Fin cfg0.N) (i : Fin 1024) (l : Fin 128) :
    sinB m c t (ix2 i l) = Ideal.sin (FloatOps.sitofp (F := Ideal) .f32 (argP m c (ix2 0 (row t i))) * V m c main_v17 (ix2 0 l)) * sgB l.val := by
  unfold sinB
  rw [← blk2, ← blk3 m c t, ← blk5 m c t]
  generalize h0 : iblk m c 2 t = x0
  generalize h1 : iblk m c 3 t = x1
  generalize h2 : iblk m c 5 t = x2
  pointwise [k0_pay9, k0_pay6, k0_pay5]

/-- A lane of four copies of a group side by side. -/
theorem lane_at (q : Vec Ideal S1024x128 .f32) (i : Fin 1024) (j : Fin 512) :
    (if h : j.val < 128 then q (ix2 i ⟨j.val, h⟩) else if h : j.val - 128 < 128 then q (ix2 i ⟨j.val - 128, h⟩)
      else if h : j.val - 128 - 128 < 128 then q (ix2 i ⟨j.val - 128 - 128, h⟩) else q (ix2 i ⟨j.val - 128 - 128 - 128, by omega⟩)) = q (ix2 i ⟨j.val % 128, by omega⟩) := by
  split_ifs
  all_goals exact congrArg (fun k => q (ix2 i k)) (Fin.ext (by dsimp only; omega))

/-- The rotation of a block, over the block before it. -/
theorem rot_at (r : Vec Ideal S1024x2048 .bf16) (w : Vec Ideal S2048x512 .bf16) (co sa sb : Vec Ideal S1024x128 .f32) (i : Fin 1024) (j : Fin 512) :
    k0_pay11 r w co sa sb (ix2 i j) = k0_pay10 r w (ix2 i j) * co (ix2 i ⟨j.val % 128, by omega⟩)
      + k0_pay10 r w (ix2 i ⟨(j.val + 512 - 504) % 512, by omega⟩) * sa (ix2 i ⟨j.val % 128, by omega⟩)
      + k0_pay10 r w (ix2 i ⟨(j.val + 512 - 8) % 512, by omega⟩) * sb (ix2 i ⟨j.val % 128, by omega⟩) := by
  unfold k0_pay11
  generalize k0_pay10 r w = z
  pointwise []
  rw [lane_at, lane_at, lane_at]

/-- A point's block of columns, element by element. -/
theorem zt_at (t : Fin cfg0.N) (i : Fin 1024) (j : Fin 512) :
    zt m c t (ix2 i j) = tok (argX m c) (argG m c) (argP m c) (argW m c) (row t i) (col t j) := by
  have hc : (col t j).val = 512 * (t.val % 6) + j.val := rfl
  unfold zt tok
  by_cases hq : t.val % 6 ≤ 3
  · rw [if_pos hq, dif_pos (show (col t j).val < 2048 by omega), rot_at, prod_at, prod_at, prod_at, cos_at, sinA_at, sinB_at, freq_at]
    by_cases h1 : (col t j).val % 64 < 8
    · rw [dif_pos (show j.val % 128 % 64 < 16 by omega), dif_pos h1]
      rw [show sgA (j.val % 128) = -1 from if_pos (by omega), show sgB (j.val % 128) = 0 from if_neg (by omega), rot_lo]
      have e1 : col t ⟨(j.val + 512 - 504) % 512, by omega⟩ = ⟨(col t j).val + 8, by omega⟩ := Fin.ext (by show 512 * (t.val % 6) + (j.val + 512 - 504) % 512 = 512 * (t.val % 6) + j.val + 8; omega)
      have e2 : (⟨j.val % 128 % 64 % 8, by omega⟩ : Fin 8) = ⟨(col t j).val % 64, h1⟩ := Fin.ext (by show j.val % 128 % 64 % 8 = (col t j).val % 64; omega)
      rw [e1, e2]
      rfl
    · rw [dif_neg h1]
      by_cases h2 : (col t j).val % 64 < 16
      · rw [dif_pos (show j.val % 128 % 64 < 16 by omega), dif_pos h2]
        rw [show sgA (j.val % 128) = 0 from if_neg (by omega), show sgB (j.val % 128) = 1 from if_pos (by omega), rot_hi]
        have e1 : col t ⟨(j.val + 512 - 8) % 512, by omega⟩ = ⟨(col t j).val - 8, by omega⟩ := Fin.ext (by show 512 * (t.val % 6) + (j.val + 512 - 8) % 512 = 512 * (t.val % 6) + j.val - 8; omega)
        have e2 : (⟨j.val % 128 % 64 % 8, by omega⟩ : Fin 8) = ⟨(col t j).val % 64 - 8, by omega⟩ := Fin.ext (by show j.val % 128 % 64 % 8 = (col t j).val % 64 - 8; omega)
        rw [e1, e2]
        rfl
      · rw [dif_neg (show ¬j.val % 128 % 64 < 16 by omega), dif_neg h2]
        rw [show sgA (j.val % 128) = 0 from if_neg (by omega), show sgB (j.val % 128) = 0 from if_neg (by omega), rot_no]
  · rw [if_neg hq, dif_neg (show ¬(col t j).val < 2048 by omega), prod_at]

/-! ## The blocks' places -/

theorem emb7 (t : Fin grid0.N) (i : Fin 1024) (j : Fin 512) :
    ((cfg0.win 7).blk t).view.emb (ix2 i j) = (ix2 (row t i) (col t j) : S8192x3072.Idx) := by
  refine funext fun a => Fin.ext ?_
  refine (Pipeline.Window.rect_emb_val win0_7 t (ix2 i j) a).trans ?_
  obtain ⟨h0, h1⟩ := index7 t
  match a with
  | ⟨0, _⟩ => exact (congrArg (· * 1024 + i.val) h0).trans (by show _ = 1024 * (t.val / 6) + i.val; omega)
  | ⟨1, _⟩ => exact (congrArg (· * 512 + j.val) h1).trans (by show _ = 512 * (t.val % 6) + j.val; omega)

/-- The array's row of row `i` of a remainder in a block of point `t`. -/
def row8 (t : Fin grid0.N) (i : Fin 256) : Fin 2048 := ⟨256 * (t.val / 6) + i.val, by have : t.val < 48 := lt_of_lt_of_eq t.isLt N_0; omega⟩
def row9 (t : Fin grid0.N) (i : Fin 64) : Fin 512 := ⟨64 * (t.val / 6) + i.val, by have : t.val < 48 := lt_of_lt_of_eq t.isLt N_0; omega⟩

theorem emb8 (t : Fin grid0.N) (r : Fin 4) (i : Fin 256) (j : Fin 512) :
    ((cfg0.win 8).blk t).view.emb (ix3 r i j) = (ix3 r (row8 t i) (col t j) : S4x2048x3072.Idx) := by
  refine funext fun a => Fin.ext ?_
  refine (Pipeline.Window.rect_emb_val win0_8 t (ix3 r i j) a).trans ?_
  obtain ⟨h0, h1, h2⟩ := index8 t
  match a with
  | ⟨0, _⟩ => exact (congrArg (· * 4 + r.val) h0).trans (by show _ = r.val; omega)
  | ⟨1, _⟩ => exact (congrArg (· * 256 + i.val) h1).trans (by show _ = 256 * (t.val / 6) + i.val; omega)
  | ⟨2, _⟩ => exact (congrArg (· * 512 + j.val) h2).trans (by show _ = 512 * (t.val % 6) + j.val; omega)

theorem emb9 (t : Fin grid0.N) (r : Fin 16) (i : Fin 64) (j : Fin 512) :
    ((cfg0.win 9).blk t).view.emb (ix3 r i j) = (ix3 r (row9 t i) (col t j) : S16x512x3072.Idx) := by
  refine funext fun a => Fin.ext ?_
  refine (Pipeline.Window.rect_emb_val win0_9 t (ix3 r i j) a).trans ?_
  obtain ⟨h0, h1, h2⟩ := index9 t
  match a with
  | ⟨0, _⟩ => exact (congrArg (· * 16 + r.val) h0).trans (by show _ = r.val; omega)
  | ⟨1, _⟩ => exact (congrArg (· * 64 + i.val) h1).trans (by show _ = 64 * (t.val / 6) + i.val; omega)
  | ⟨2, _⟩ => exact (congrArg (· * 512 + j.val) h2).trans (by show _ = 512 * (t.val % 6) + j.val; omega)

theorem flush7 : ∀ t : Fin grid0.N, win0_7.flush t = true := by decide +kernel
theorem flush8 : ∀ t : Fin grid0.N, win0_8.flush t = true := by decide +kernel
theorem flush9 : ∀ t : Fin grid0.N, win0_9.flush t = true := by decide +kernel

/-- An index of rank 3 is its coordinates. -/
theorem ix3_eta {n0 n1 n2 : Nat} (y : (⟨3, ![n0, n1, n2]⟩ : Shape).Idx) : ix3 (y 0) (y 1) (y 2) = y := by
  funext k
  match k with
  | ⟨0, _⟩ => rfl
  | ⟨1, _⟩ => rfl
  | ⟨2, _⟩ => rfl

/-- The rows in their order, after the run. -/
theorem final7 : (dats m 0 c).arrAt 7 cfg0.N = arr7 (argX m c) (argG m c) (argP m c) (argW m c) := by
  refine Pipeline.Dat.arrAt_eq_of_cover (dats m 0 c) 7 (arr7 (argX m c) (argG m c) (argP m c) (argW m c)) (fun t _ => ?_) (fun y => ?_)
  · rw [Cert.Kernel4Ideal.Value.flushed7, (outs_at m c t).1]
    funext y
    rw [← Cert.Proj.ix2_eta y]
    refine (zt_at m c t (y 0) (y 1)).trans ?_
    exact (congrArg (arr7 (argX m c) (argG m c) (argP m c) (argW m c)) (emb7 t (y 0) (y 1))).symm
  · obtain ⟨i, j, rfl⟩ : ∃ (i : Fin 8192) (j : Fin 3072), y = (ix2 i j : S8192x3072.Idx) := ⟨y 0, y 1, (Cert.Proj.ix2_eta y).symm⟩
    have ht : 6 * (i.val / 1024) + j.val / 512 < grid0.N := by rw [N_0]; omega
    refine ⟨⟨6 * (i.val / 1024) + j.val / 512, ht⟩, flush7 _, ?_⟩
    have e := emb7 ⟨6 * (i.val / 1024) + j.val / 512, ht⟩ ⟨i.val % 1024, by omega⟩ ⟨j.val % 512, by omega⟩
    have e1 : row ⟨6 * (i.val / 1024) + j.val / 512, ht⟩ ⟨i.val % 1024, by omega⟩ = i := Fin.ext (by
      show 1024 * ((6 * (i.val / 1024) + j.val / 512) / 6) + i.val % 1024 = i.val; omega)
    have e2 : col ⟨6 * (i.val / 1024) + j.val / 512, ht⟩ ⟨j.val % 512, by omega⟩ = j := Fin.ext (by
      show 512 * ((6 * (i.val / 1024) + j.val / 512) % 6) + j.val % 512 = j.val; omega)
    rw [e1, e2] at e
    rw [← e]
    exact View.emb_mem_set _ _

/-- The rows by their remainder at 4, after the run. -/
theorem final8 : (dats m 0 c).arrAt 8 cfg0.N = arr8 (argX m c) (argG m c) (argP m c) (argW m c) := by
  refine Pipeline.Dat.arrAt_eq_of_cover (dats m 0 c) 8 (arr8 (argX m c) (argG m c) (argP m c) (argW m c)) (fun t _ => ?_) (fun y => ?_)
  · rw [Cert.Kernel4Ideal.Value.flushed8, (outs_at m c t).2.1]
    funext y
    obtain ⟨r, i, j, rfl⟩ : ∃ (r : Fin 4) (i : Fin 256) (j : Fin 512), y = (ix3 r i j : S4x256x512.Idx) := ⟨y 0, y 1, y 2, (ix3_eta y).symm⟩
    refine (zt_at m c t ⟨4 * i.val + r.val, by omega⟩ j).trans ?_
    refine Eq.trans ?_ (congrArg (arr8 (argX m c) (argG m c) (argP m c) (argW m c)) (emb8 t r i j)).symm
    exact congrArg (fun q => tok (argX m c) (argG m c) (argP m c) (argW m c) q (col t j)) (Fin.ext (by
      show 1024 * (t.val / 6) + (4 * i.val + r.val) = 4 * (256 * (t.val / 6) + i.val) + r.val; omega))
  · obtain ⟨r, i, j, rfl⟩ : ∃ (r : Fin 4) (i : Fin 2048) (j : Fin 3072), y = (ix3 r i j : S4x2048x3072.Idx) := ⟨y 0, y 1, y 2, (ix3_eta y).symm⟩
    have ht : 6 * (i.val / 256) + j.val / 512 < grid0.N := by rw [N_0]; omega
    refine ⟨⟨6 * (i.val / 256) + j.val / 512, ht⟩, flush8 _, ?_⟩
    have e := emb8 ⟨6 * (i.val / 256) + j.val / 512, ht⟩ r ⟨i.val % 256, by omega⟩ ⟨j.val % 512, by omega⟩
    have e1 : row8 ⟨6 * (i.val / 256) + j.val / 512, ht⟩ ⟨i.val % 256, by omega⟩ = i := Fin.ext (by
      show 256 * ((6 * (i.val / 256) + j.val / 512) / 6) + i.val % 256 = i.val; omega)
    have e2 : col ⟨6 * (i.val / 256) + j.val / 512, ht⟩ ⟨j.val % 512, by omega⟩ = j := Fin.ext (by
      show 512 * ((6 * (i.val / 256) + j.val / 512) % 6) + j.val % 512 = j.val; omega)
    rw [e1, e2] at e
    rw [← e]
    exact View.emb_mem_set _ _

/-- The rows by their remainder at 16, after the run. -/
theorem final9 : (dats m 0 c).arrAt 9 cfg0.N = arr9 (argX m c) (argG m c) (argP m c) (argW m c) := by
  refine Pipeline.Dat.arrAt_eq_of_cover (dats m 0 c) 9 (arr9 (argX m c) (argG m c) (argP m c) (argW m c)) (fun t _ => ?_) (fun y => ?_)
  · rw [Cert.Kernel4Ideal.Value.flushed9, (outs_at m c t).2.2]
    funext y
    obtain ⟨r, i, j, rfl⟩ : ∃ (r : Fin 16) (i : Fin 64) (j : Fin 512), y = (ix3 r i j : S16x64x512.Idx) := ⟨y 0, y 1, y 2, (ix3_eta y).symm⟩
    refine (zt_at m c t ⟨16 * i.val + r.val, by omega⟩ j).trans ?_
    refine Eq.trans ?_ (congrArg (arr9 (argX m c) (argG m c) (argP m c) (argW m c)) (emb9 t r i j)).symm
    exact congrArg (fun q => tok (argX m c) (argG m c) (argP m c) (argW m c) q (col t j)) (Fin.ext (by
      show 1024 * (t.val / 6) + (16 * i.val + r.val) = 16 * (64 * (t.val / 6) + i.val) + r.val; omega))
  · obtain ⟨r, i, j, rfl⟩ : ∃ (r : Fin 16) (i : Fin 512) (j : Fin 3072), y = (ix3 r i j : S16x512x3072.Idx) := ⟨y 0, y 1, y 2, (ix3_eta y).symm⟩
    have ht : 6 * (i.val / 64) + j.val / 512 < grid0.N := by rw [N_0]; omega
    refine ⟨⟨6 * (i.val / 64) + j.val / 512, ht⟩, flush9 _, ?_⟩
    have e := emb9 ⟨6 * (i.val / 64) + j.val / 512, ht⟩ r ⟨i.val % 64, by omega⟩ ⟨j.val % 512, by omega⟩
    have e1 : row9 ⟨6 * (i.val / 64) + j.val / 512, ht⟩ ⟨i.val % 64, by omega⟩ = i := Fin.ext (by
      show 64 * ((6 * (i.val / 64) + j.val / 512) / 6) + i.val % 64 = i.val; omega)
    have e2 : col ⟨6 * (i.val / 64) + j.val / 512, ht⟩ ⟨j.val % 512, by omega⟩ = j := Fin.ext (by
      show 512 * ((6 * (i.val / 64) + j.val / 512) % 6) + j.val % 512 = j.val; omega)
    rw [e1, e2] at e
    rw [← e]
    exact View.emb_mem_set _ _

end Cert.Rope
end
-- ==== Proof.Rope.RefSide.lean ====
module

public import proofs.«01_k».proof.Proof.Gen.Reference4Ideal.Read
public import proofs.«01_k».proof.Proof.Rope.Spec

@[expose] public section
set_option maxRecDepth 16384
noncomputable section

namespace Cert.Rope
open Idealize.ShloMosaic Cert.Reference4Ideal Cert.Reference4Ideal.Read

/-! ## The reference -/

/-- An index of rank 2 with the coordinates `i` and `j`. -/
theorem at2_ext {n0 n1 : Nat} {y : (⟨2, ![n0, n1]⟩ : Shape).Idx} {i : Fin n0} {j : Fin n1} (h0 : y 0 = i) (h1 : y 1 = j) : y = ix2 i j := by
  subst h0; subst h1; exact (Cert.Proj.ix2_eta y).symm

/-- An index of rank 3 is its coordinates. -/
theorem ix3_eta' {n0 n1 n2 : Nat} (y : (⟨3, ![n0, n1, n2]⟩ : Shape).Idx) : ix3 (y 0) (y 1) (y 2) = y := by
  funext k
  match k with
  | ⟨0, _⟩ => rfl
  | ⟨1, _⟩ => rfl
  | ⟨2, _⟩ => rfl

variable (x0 : Vec Ideal S8192x2048 .f32) (x1 : Vec Ideal S1x2048 .f32) (x2 : Vec Ideal S1x8192 .i32) (x3 : Vec Ideal S2048x6560 .f32)

/-- The reference's product. -/
theorem ref13 (i : Fin 8192) (j : Fin 3072) : val_main_v13 (F := Ideal) x0 x1 x3 (ix2 i j) = prod x0 x1 x3 i j := by
  rw [val_main_v13_apply]
  refine Finset.sum_congr rfl fun k _ => ?_
  simp only [val_main_v11_apply, val_main_v9_apply, val_main_v8_apply, val_main_v7_apply, val_main_v6_apply, val_main_v5_apply, val_main_v4_apply, val_main_v3_apply,
    val_main_v2_apply, val_main_v1_apply, val_main_v0_apply, val_main_v10_apply, val_main_v12_apply, val_main_cst_apply, val_main_cst_0_apply, val_main_cst_1_apply]
  have e0 : lidx_main_v13 (ix2 i j) k = ix2 i k := at2_ext rfl rfl
  have e1 : ∀ q : Fin 2048, idx_main_v1 (idx_main_v2 (idx_main_v8 (lidx_main_v13 (ix2 i j) k))) q = ix2 i q := fun q => at2_ext rfl rfl
  have e2 : idx_main_v10 (lidx_main_v13 (ix2 i j) k) = ix2 0 k := at2_ext rfl rfl
  have e3 : idx_main_v12 (ridx_main_v13 (ix2 i j) k) = ix2 k ⟨3488 + j.val, by omega⟩ := at2_ext rfl (Fin.ext (by show _ = 3488 + j.val; first | rfl | (simp; omega)))
  simp only [e1]
  rw [e2, e3, e0]
  have ez : (FloatOps.ofBits (F := Ideal) FTy.f32 0#32) = (0 : EReal) := Ideal.ofBits_zero_f32
  rw [ez, zero_add]
  rfl

/-- The frequencies are the kernel's. -/
theorem ref24 (d : Fin 8) : val_main_v24 (F := Ideal) (ix1 d) = fr8 (ix1 d) := rfl

/-- A row's angle. -/
theorem ref31 (i : Fin 8192) (d : Fin 8) : val_main_v31 (F := Ideal) x2 (ix2 i d) = ang x2 i d := by
  unfold ang
  rw [← ref24]
  pointwise [val_main_v31, val_main_v30, val_main_v29, val_main_v28, val_main_v27, val_main_v26, val_main_v25]

/-- The rotation by the head and the lane in it is the rotation by the column. -/
theorem lanes_at (Z : Fin 3072 → EReal) (A : Fin 8 → EReal) (h : Fin 48) (l : Fin 64) :
    (if c0 : h.val < 32 then
      if c1 : l.val < 8 then Z ⟨h.val * 64 + l.val, by omega⟩ * Ideal.cos (A ⟨l.val, c1⟩) - Z ⟨h.val * 64 + (8 + l.val), by omega⟩ * Ideal.sin (A ⟨l.val, c1⟩)
      else if c2 : l.val - 8 < 8 then Z ⟨h.val * 64 + (8 + (l.val - 8)), by omega⟩ * Ideal.cos (A ⟨l.val - 8, c2⟩) + Z ⟨h.val * 64 + (l.val - 8), by omega⟩ * Ideal.sin (A ⟨l.val - 8, c2⟩)
        else Z ⟨h.val * 64 + (16 + (l.val - 8 - 8)), by omega⟩
    else Z ⟨(32 + (h.val - 32)) * 64 + l.val, by omega⟩)
    = if c0 : 64 * h.val + l.val < 2048 then
      if c1 : (64 * h.val + l.val) % 64 < 8 then Z ⟨64 * h.val + l.val, by omega⟩ * Ideal.cos (A ⟨(64 * h.val + l.val) % 64, c1⟩) - Z ⟨64 * h.val + l.val + 8, by omega⟩ * Ideal.sin (A ⟨(64 * h.val + l.val) % 64, c1⟩)
      else if c2 : (64 * h.val + l.val) % 64 < 16 then Z ⟨64 * h.val + l.val, by omega⟩ * Ideal.cos (A ⟨(64 * h.val + l.val) % 64 - 8, by omega⟩) + Z ⟨64 * h.val + l.val - 8, by omega⟩ * Ideal.sin (A ⟨(64 * h.val + l.val) % 64 - 8, by omega⟩)
        else Z ⟨64 * h.val + l.val, by omega⟩
    else Z ⟨64 * h.val + l.val, by omega⟩ := by
  have key : ∀ k k' : Fin 3072, k.val = k'.val → Z k = Z k' := fun k k' e => congrArg Z (Fin.ext e)
  have kea : ∀ k k' : Fin 8, k.val = k'.val → A k = A k' := fun k k' e => congrArg A (Fin.ext e)
  have hh := h.isLt
  have hl := l.isLt
  by_cases c0 : h.val < 32
  · rw [dif_pos c0, dif_pos (show 64 * h.val + l.val < 2048 by omega)]
    by_cases c1 : l.val < 8
    · rw [dif_pos c1, dif_pos (show (64 * h.val + l.val) % 64 < 8 by omega)]
      refine congrArg₂ (· - ·) (congrArg₂ (· * ·) (key _ _ ?_) (congrArg Ideal.cos (kea _ _ ?_))) (congrArg₂ (· * ·) (key _ _ ?_) (congrArg Ideal.sin (kea _ _ ?_)))
      all_goals dsimp only; omega
    · rw [dif_neg c1, dif_neg (show ¬(64 * h.val + l.val) % 64 < 8 by omega)]
      by_cases c2 : l.val - 8 < 8
      · rw [dif_pos c2, dif_pos (show (64 * h.val + l.val) % 64 < 16 by omega)]
        refine congrArg₂ (· + ·) (congrArg₂ (· * ·) (key _ _ ?_) (congrArg Ideal.cos (kea _ _ ?_))) (congrArg₂ (· * ·) (key _ _ ?_) (congrArg Ideal.sin (kea _ _ ?_)))
        all_goals dsimp only; omega
      · rw [dif_neg c2, dif_neg (show ¬(64 * h.val + l.val) % 64 < 16 by omega)]
        exact key _ _ (by dsimp only; omega)
  · rw [dif_neg c0, dif_neg (show ¬64 * h.val + l.val < 2048 by omega)]
    exact key _ _ (by dsimp only; omega)

/-- The heads with the first 32 rotated. -/
theorem ref50 (i : Fin 8192) (h : Fin 48) (l : Fin 64) : val_main_v50 (F := Ideal) x0 x1 x2 x3 (ix3 i h l) = tok x0 x1 x2 x3 i ⟨64 * h.val + l.val, by omega⟩ := by
  refine Eq.trans ?_ (lanes_at (prod x0 x1 x3 i) (ang x2 i) h l)
  pointwise [val_main_v50, val_main_v49, val_main_v48, val_main_v47, val_main_v46, val_main_v45, val_main_v44, val_main_v43, val_main_v42, val_main_v41, val_main_v40, val_main_v39, val_main_v38,
    val_main_v37, val_main_v36, val_main_v35, val_main_v34, val_main_v33, val_main_v32, val_main_v16, val_main_v15, val_main_v14]
  simp only [ref13, ref31]

/-- The reference's first result. -/
theorem ref52 (i : Fin 8192) (j : Fin 3072) : val_main_v52 (F := Ideal) x0 x1 x2 x3 (ix2 i j) = tok x0 x1 x2 x3 i j := by
  have e := ref50 x0 x1 x2 x3 i ⟨j.val / 64, by omega⟩ ⟨j.val % 64, by omega⟩
  generalize tok x0 x1 x2 x3 = T at e ⊢
  generalize h50 : val_main_v50 (F := Ideal) x0 x1 x2 x3 = z at e
  pointwise [val_main_v52, val_main_v51]
  rw [h50]
  exact e.trans (congrArg (T i) (Fin.ext (by show 64 * (j.val / 64) + j.val % 64 = j.val; omega)))

/-- The second result: the rows by their remainder at 4. -/
theorem ref54 (r : Fin 4) (i : Fin 2048) (j : Fin 3072) : val_main_v54 (F := Ideal) x0 x1 x2 x3 (ix3 r i j) = tok x0 x1 x2 x3 ⟨4 * i.val + r.val, by omega⟩ j := by
  rw [← ref52]
  generalize h50 : val_main_v52 (F := Ideal) x0 x1 x2 x3 = z
  pointwise [val_main_v54, val_main_v53]
  rw [h50]
  exact congrArg (fun q => z (ix2 q j)) (Fin.ext (by show i.val * 4 + r.val = 4 * i.val + r.val; omega))

/-- The third result: the rows by their remainder at 16. -/
theorem ref56 (r : Fin 16) (i : Fin 512) (j : Fin 3072) : val_main_v56 (F := Ideal) x0 x1 x2 x3 (ix3 r i j) = tok x0 x1 x2 x3 ⟨16 * i.val + r.val, by omega⟩ j := by
  rw [← ref52]
  generalize h50 : val_main_v52 (F := Ideal) x0 x1 x2 x3 = z
  pointwise [val_main_v56, val_main_v55]
  rw [h50]
  exact congrArg (fun q => z (ix2 q j)) (Fin.ext (by show i.val * 16 + r.val = 16 * i.val + r.val; omega))

theorem arr52 : val_main_v52 (F := Ideal) x0 x1 x2 x3 = arr7 x0 x1 x2 x3 := by
  funext y
  obtain ⟨i, j, rfl⟩ : ∃ (i : Fin 8192) (j : Fin 3072), y = (ix2 i j : S8192x3072.Idx) := ⟨y 0, y 1, (Cert.Proj.ix2_eta y).symm⟩
  exact ref52 x0 x1 x2 x3 i j

theorem arr54 : val_main_v54 (F := Ideal) x0 x1 x2 x3 = arr8 x0 x1 x2 x3 := by
  funext y
  obtain ⟨r, i, j, rfl⟩ : ∃ (r : Fin 4) (i : Fin 2048) (j : Fin 3072), y = (ix3 r i j : S4x2048x3072.Idx) := ⟨y 0, y 1, y 2, (ix3_eta' y).symm⟩
  exact ref54 x0 x1 x2 x3 r i j

theorem arr56 : val_main_v56 (F := Ideal) x0 x1 x2 x3 = arr9 x0 x1 x2 x3 := by
  funext y
  obtain ⟨r, i, j, rfl⟩ : ∃ (r : Fin 16) (i : Fin 512) (j : Fin 3072), y = (ix3 r i j : S16x512x3072.Idx) := ⟨y 0, y 1, y 2, (ix3_eta' y).symm⟩
  exact ref56 x0 x1 x2 x3 r i j

end Cert.Rope
end
-- ==== Proof.lean ====
module

public import proofs.«01_k».proof.Defs
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_tables
public import proofs.«01_k».proof.Proof.Gen.Kernel2
public import proofs.«01_k».proof.Proof.Gen.Kernel2Ideal.Value
public import proofs.«01_k».proof.Proof.Gen.Reference2Ideal.Run
public import proofs.«01_k».proof.Proof.Gen.Kernel2.Frame
public import proofs.«01_k».proof.Proof.Gen.Reference2Ideal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Att.Arrays
public import proofs.«01_k».proof.Proof.Att.RefSide
public import Idealize.ShloMosaic.Adequacy
public import Idealize.ShloMosaic.Init
public import proofs.«01_k».proof.Proof.Proj.RefSide
public import proofs.«01_k».proof.Proof.Exp.Pre
public import proofs.«01_k».proof.Proof.ExpP.Pre
public import proofs.«01_k».proof.Proof.Exp.Blocks
public import proofs.«01_k».proof.Proof.Exp.RefSide
public import proofs.«01_k».proof.Proof.Rope.Arrays
public import proofs.«01_k».proof.Proof.Rope.RefSide

@[expose] public section

noncomputable section

namespace Cert.Proof

open Idealize.ShloMosaic Idealize.SL.Sem Cert.Kernel

/-- The named constants stand for the words they replace. -/
theorem preserves : Cert.preserves_Kernel_KernelIdeal :=
  ⟨IdealRules.named_const.statement Cert.KernelIdeal.κ "q_scale" .f32 0x3E38AA3B#32 (((1 / 8) * (Real.log 2)⁻¹ : ℝ) : EReal) rfl,
    IdealRules.named_const.statement Cert.KernelIdeal.κ "mask" .f32 0xF149F2CA#32 ⊥ rfl,
    IdealRules.named_const.statement Cert.KernelIdeal.κ "ln2" .f32 0x3F317218#32 ((Real.log 2 : ℝ) : EReal) rfl⟩

/-- The reference's first result is the attention array. -/
theorem ref29 (A : Vec Ideal Cert.KernelIdeal.S16x512x3072 .bf16) : Cert.ReferenceIdeal.Read.val_main_v29 (F := Ideal) A = Cert.Att.arrO A := by
  funext y
  rw [← Cert.Att.ix3_eta y]
  exact Cert.Att.v29_at A (y 0) (y 1) (y 2)

/-- The reference's second result is the log-sum-exp array. -/
theorem ref32 (A : Vec Ideal Cert.KernelIdeal.S16x512x3072 .bf16) : Cert.ReferenceIdeal.Read.val_main_v32 (F := Ideal) A = Cert.Att.arrL A := by
  funext y
  rw [← Cert.Att.ix3_eta y]
  exact Cert.Att.v32_at A (y 0) (y 1) (y 2)

/-- Kernel and reference leave the same arrays, over the extended reals, whatever the argument. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.Att.arrO (Cert.Att.arg m c), fun c => Cert.Att.arrL (Cert.Att.arg m c), ?_, ?_⟩
  · refine (θ_run _ _ _).mono (fun r h c => ?_) (Cert.KernelIdeal.Value.run_blocks m g)
    obtain ⟨h0, h1, h2⟩ := h c
    exact ⟨h0.trans (Cert.Att.arr3 m c), h1.trans (Cert.Att.arr4 m c), h2⟩
  · refine (θ_run _ _ _).mono (fun r h c => ?_) (Cert.ReferenceIdeal.Value.run m' g')
    obtain ⟨h0, h1, h2⟩ := h c
    refine ⟨h0.trans ?_, h1.trans ?_, h2⟩
    · rw [Cert.ReferenceIdeal.Read.val_main_v29_eq, hm c]
      exact ref29 _
    · rw [Cert.ReferenceIdeal.Read.val_main_v32_eq, hm c]
      exact ref32 _

/-- The reference runs and declares no semaphore. -/
theorem frame_ref : Cert.quiescent_ReferenceIdeal (hReferenceIdeal := Cert.ReferenceIdeal.Gen.facts) := by
  intro m ρ _
  exact (θ_run _ _ _).mono (fun r h => ⟨fun c => (h c).2.2, sem_eq_zero_of_no_sems (by decide) r.2⟩) (Cert.ReferenceIdeal.Value.run m ρ)

/-- The projection of kernel and reference, over the extended reals. -/
theorem algebraic2 : Cert.algebraic_Kernel2Ideal_Reference2Ideal (hKernel2Ideal := Cert.Kernel2Ideal.Gen.facts) (hReference2Ideal := Cert.Reference2Ideal.Gen.facts) := by
  intro m g m' g' _ hm
  refine ⟨fun c => Cert.Proj.arrZ (Cert.Proj.argX m c) (Cert.Proj.argG m c) (Cert.Proj.argW m c), ?_, ?_⟩
  · refine (θ_run _ _ _).mono (fun r h c => ?_) (Cert.Kernel2Ideal.Value.run_blocks m g)
    obtain ⟨h0, h1⟩ := h c
    exact ⟨h0.trans (Cert.Proj.arr3 m c), h1⟩
  · refine (θ_run _ _ _).mono (fun r h c => ?_) (Cert.Reference2Ideal.Value.run m' g')
    obtain ⟨h0, h1⟩ := h c
    refine ⟨h0.trans ?_, h1⟩
    rw [Cert.Reference2Ideal.Read.val_main_v13_eq, (hm c).1, (hm c).2.1, (hm c).2.2]
    exact Cert.Proj.ref13 _ _ _

/-- The projection's reference runs and declares no semaphore. -/
theorem frame_ref2 : Cert.quiescent_Reference2Ideal (hReference2Ideal := Cert.Reference2Ideal.Gen.facts) := by
  intro m ρ _
  exact (θ_run _ _ _).mono (fun r h => ⟨fun c => (h c).2, sem_eq_zero_of_no_sems (by decide) r.2⟩) (Cert.Reference2Ideal.Value.run m ρ)

/-- The experts' kernel runs at tables of the precondition. -/
theorem frame3 : Cert.quiescent_Kernel3 (hKernel3 := Cert.Kernel3.Gen.facts) (hPre_tables := Cert.Pre_tables.Gen.facts) := by
  intro m ρ h
  exact Cert.Kernel3.Exp.frame m ρ (Cert.Kernel3.Exp.PreT.ok (h 0)) (Cert.Kernel3.Exp.PreT.tabs (h 0))

/-- So does its idealized form. -/
theorem frame3_ideal : Cert.quiescent_Kernel3Ideal (hKernel3Ideal := Cert.Kernel3Ideal.Gen.facts) (hPre_tables := Cert.Pre_tables.Gen.facts) := by
  intro m ρ h
  exact Cert.Kernel3Ideal.Exp.frame m ρ (Cert.Kernel3Ideal.Exp.PreT.ok (h 0)) (Cert.Kernel3Ideal.Exp.PreT.tabs (h 0))

/-- The experts' reference runs and declares no semaphore. -/
theorem frame_ref3 : Cert.quiescent_Reference3Ideal (hReference3Ideal := Cert.Reference3Ideal.Gen.facts) (hPre_tables := Cert.Pre_tables.Gen.facts) := by
  intro m ρ _
  exact (θ_run _ _ _).mono (fun r h => ⟨fun c => (h c).2, sem_eq_zero_of_no_sems (by decide) r.2⟩) (Cert.Reference3Ideal.Value.run m ρ)

/-- The experts' array in the reference's terms. -/
theorem ref55 (m : (ℓ : Loc Cert.Kernel3Ideal.nD Cert.Kernel3Ideal.τ Cert.Kernel3Ideal.sig) → Buf (Elt Ideal) ℓ) (h : Cert.Kernel3Ideal.Exp.PreT m) (c : Dev Cert.Kernel3Ideal.nD) :
    Cert.Reference3Ideal.Read.val_main_v55 (F := Ideal) (m (c.tc.loc Cert.Kernel3Ideal.main_arg0)) (m (c.tc.loc Cert.Kernel3Ideal.main_arg1)) (m (c.tc.loc Cert.Kernel3Ideal.main_arg2))
      (m (c.tc.loc Cert.Kernel3Ideal.main_arg3)) (m (c.tc.loc Cert.Kernel3Ideal.main_arg4)) (m (c.tc.loc Cert.Kernel3Ideal.main_arg5)) (m (c.tc.loc Cert.Kernel3Ideal.main_arg6))
      (m (c.tc.loc Cert.Kernel3Ideal.main_arg7)) (m (c.tc.loc Cert.Kernel3Ideal.main_arg8)) = Cert.Kernel3Ideal.Exp.arrE m c := by
  obtain rfl : c = 0 := Subsingleton.elim _ _
  refine funext fun (y : Cert.Kernel3Ideal.S36480x2048.Idx) => ?_
  obtain ⟨s, d, rfl⟩ : ∃ (s : Fin 36480) (d : Fin 2048), y = (ix2 s d : Cert.Kernel3Ideal.S36480x2048.Idx) := ⟨y 0, y 1, (Cert.Kernel3Ideal.Exp.ix2_eta y).symm⟩
  have hs := s.isLt
  have hw := h.words (s.val / 640) (by omega)
  exact Cert.Exp.Ref.v55_at _ _ _ _ _ _ _ _ _ ⟨s.val / 640, by omega⟩ ⟨s.val % 640, by omega⟩ d hw.1 hw.2.1 s
    (by show s.val = 640 * (s.val / 640) + s.val % 640; omega)

/-- The experts of kernel and reference, over the extended reals. -/
theorem algebraic3 : Cert.algebraic_Kernel3Ideal_Reference3Ideal (hKernel3Ideal := Cert.Kernel3Ideal.Gen.facts) (hReference3Ideal := Cert.Reference3Ideal.Gen.facts)
    (hPre_tables := Cert.Pre_tables.Gen.facts) := by
  intro m g m' g' h hm
  refine ⟨fun c => Cert.Kernel3Ideal.Exp.arrE m c, Cert.Kernel3Ideal.Exp.run_value g (h 0), ?_⟩
  refine (θ_run _ _ _).mono (fun r H c => ?_) (Cert.Reference3Ideal.Value.run m' g')
  obtain ⟨h0, h1⟩ := H c
  refine ⟨h0.trans ?_, h1⟩
  obtain ⟨e0, e1, e2, e3, e4, e5, e6, e7, e8⟩ := hm c
  rw [Cert.Reference3Ideal.Read.val_main_v55_eq, e0, e1, e2, e3, e4, e5, e6, e7, e8]
  exact ref55 m (h 0) c

/-- The rotated projection of kernel and reference, over the extended reals. -/
theorem algebraic4 : Cert.algebraic_Kernel4Ideal_Reference4Ideal (hKernel4Ideal := Cert.Kernel4Ideal.Gen.facts) (hReference4Ideal := Cert.Reference4Ideal.Gen.facts) := by
  intro m g m' g' _ hm
  refine ⟨fun c => Cert.Rope.arr7 (Cert.Rope.argX m c) (Cert.Rope.argG m c) (Cert.Rope.argP m c) (Cert.Rope.argW m c),
    fun c => Cert.Rope.arr8 (Cert.Rope.argX m c) (Cert.Rope.argG m c) (Cert.Rope.argP m c) (Cert.Rope.argW m c),
    fun c => Cert.Rope.arr9 (Cert.Rope.argX m c) (Cert.Rope.argG m c) (Cert.Rope.argP m c) (Cert.Rope.argW m c), ?_, ?_⟩
  · refine (θ_run _ _ _).mono (fun r h c => ?_) (Cert.Kernel4Ideal.Value.run_blocks m g)
    obtain ⟨h0, h1, h2, h3⟩ := h c
    exact ⟨h0.trans (Cert.Rope.final7 m c), h1.trans (Cert.Rope.final8 m c), h2.trans (Cert.Rope.final9 m c), h3⟩
  · refine (θ_run _ _ _).mono (fun r h c => ?_) (Cert.Reference4Ideal.Value.run m' g')
    obtain ⟨h0, h1, h2, h3⟩ := h c
    obtain ⟨e0, e1, e2, e3⟩ := hm c
    refine ⟨h0.trans ?_, h1.trans ?_, h2.trans ?_, h3⟩
    · rw [Cert.Reference4Ideal.Read.val_main_v52_eq, e0, e1, e2, e3]
      exact Cert.Rope.arr52 _ _ _ _
    · rw [Cert.Reference4Ideal.Read.val_main_v54_eq, e0, e1, e2, e3]
      exact Cert.Rope.arr54 _ _ _ _
    · rw [Cert.Reference4Ideal.Read.val_main_v56_eq, e0, e1, e2, e3]
      exact Cert.Rope.arr56 _ _ _ _

/-- The rotated projection's reference runs and declares no semaphore. -/
theorem frame_ref4 : Cert.quiescent_Reference4Ideal (hReference4Ideal := Cert.Reference4Ideal.Gen.facts) := by
  intro m ρ _
  exact (θ_run _ _ _).mono (fun r h => ⟨fun c => (h c).2.2.2, sem_eq_zero_of_no_sems (by decide) r.2⟩) (Cert.Reference4Ideal.Value.run m ρ)

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts, Cert.Pre_tables.Gen.facts,
  fun m ρ _ => Cert.Kernel.Gen.frame m ρ, fun m ρ _ => Cert.KernelIdeal.Gen.frame m ρ, frame_ref,
  fun m ρ _ => Cert.Kernel2.Gen.frame m ρ, fun m ρ _ => Cert.Kernel2Ideal.Gen.frame m ρ, frame_ref2,
  frame3, frame3_ideal, frame_ref3,
  fun m ρ _ => Cert.Kernel4.Gen.frame m ρ, fun m ρ _ => Cert.Kernel4Ideal.Gen.frame m ρ, frame_ref4,
  preserves, algebraic, trivial, algebraic2, trivial, algebraic3, trivial, algebraic4⟩

end Cert.Proof

end
